-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite3 [hPre_finite3 : Cert.Pre_finite3.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite3 [hReference4Ideal : Cert.Reference4Ideal.Facts] [hPre_finite3 : Cert.Pre_finite3.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite3 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v121) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel2Ideal_Reference3Ideal [hKernel2Ideal : Cert.Kernel2Ideal.Facts] [hReference3Ideal : Cert.Reference3Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel3_Kernel3Ideal : Prop :=
  True

def algebraic_Kernel3Ideal_Reference4Ideal_pre_finite3 [hKernel3Ideal : Cert.Kernel3Ideal.Facts] [hReference4Ideal : Cert.Reference4Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel3Ideal_finite3 m →
    (∀ c : Dev Cert.Kernel3Ideal.nD,
      m' ((c.tc : Thread Cert.Reference4Ideal.nD Cert.Reference4Ideal.τ).loc Cert.Reference4Ideal.main_arg0) = m ((c.tc : Thread Cert.Kernel3Ideal.nD Cert.Kernel3Ideal.τ).loc Cert.Kernel3Ideal.main_arg0)
      ∧ m' ((c.tc : Thread Cert.Reference4Ideal.nD Cert.Reference4Ideal.τ).loc Cert.Reference4Ideal.main_arg1) = m ((c.tc : Thread Cert.Kernel3Ideal.nD Cert.Kernel3Ideal.τ).loc Cert.Kernel3Ideal.main_arg1)
      ∧ m' ((c.tc : Thread Cert.Reference4Ideal.nD Cert.Reference4Ideal.τ).loc Cert.Reference4Ideal.main_arg2) = m ((c.tc : Thread Cert.Kernel3Ideal.nD Cert.Kernel3Ideal.τ).loc Cert.Kernel3Ideal.main_arg2)
      ∧ m' ((c.tc : Thread Cert.Reference4Ideal.nD Cert.Reference4Ideal.τ).loc Cert.Reference4Ideal.main_arg3) = m ((c.tc : Thread Cert.Kernel3Ideal.nD Cert.Kernel3Ideal.τ).loc Cert.Kernel3Ideal.main_arg3)
      ∧ m' ((c.tc : Thread Cert.Reference4Ideal.nD Cert.Reference4Ideal.τ).loc Cert.Reference4Ideal.main_arg4) = m ((c.tc : Thread Cert.Kernel3Ideal.nD Cert.Kernel3Ideal.τ).loc Cert.Kernel3Ideal.main_arg4)
      ∧ m' ((c.tc : Thread Cert.Reference4Ideal.nD Cert.Reference4Ideal.τ).loc Cert.Reference4Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v25_0)) (v2 : (c : Dev Cert.Kernel3Ideal.nD) → Buf (Elt Ideal) ((c.tc : Thread Cert.Kernel3Ideal.nD Cert.Kernel3Ideal.τ).loc Cert.Kernel3Ideal.main_v25_1)) (v3 : (c : Dev Cert.Kernel3Ideal.nD) → Buf (Elt Ideal) ((c.tc : Thread Cert.Kernel3Ideal.nD Cert.Kernel3Ideal.τ).loc Cert.Kernel3Ideal.main_v25_2)) (v4 : (c : Dev Cert.Kernel3Ideal.nD) → Buf (Elt Ideal) ((c.tc : Thread Cert.Kernel3Ideal.nD Cert.Kernel3Ideal.τ).loc Cert.Kernel3Ideal.main_v25_3)) (v5 : (c : Dev Cert.Kernel3Ideal.nD) → Buf (Elt Ideal) ((c.tc : Thread Cert.Kernel3Ideal.nD Cert.Kernel3Ideal.τ).loc Cert.Kernel3Ideal.main_v25_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v25_0) = v1 c
          ∧ r.2.mem ((c.tc : Thread Cert.Kernel3Ideal.nD Cert.Kernel3Ideal.τ).loc Cert.Kernel3Ideal.main_v25_1) = v2 c
          ∧ r.2.mem ((c.tc : Thread Cert.Kernel3Ideal.nD Cert.Kernel3Ideal.τ).loc Cert.Kernel3Ideal.main_v25_2) = v3 c
          ∧ r.2.mem ((c.tc : Thread Cert.Kernel3Ideal.nD Cert.Kernel3Ideal.τ).loc Cert.Kernel3Ideal.main_v25_3) = v4 c
          ∧ r.2.mem ((c.tc : Thread Cert.Kernel3Ideal.nD Cert.Kernel3Ideal.τ).loc Cert.Kernel3Ideal.main_v25_4) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v73) = v2 c
          ∧ r.2.mem ((c.tc : Thread Cert.Reference4Ideal.nD Cert.Reference4Ideal.τ).loc Cert.Reference4Ideal.main_v64) = v3 c
          ∧ r.2.mem ((c.tc : Thread Cert.Reference4Ideal.nD Cert.Reference4Ideal.τ).loc Cert.Reference4Ideal.main_v74) = v4 c
          ∧ r.2.mem ((c.tc : Thread Cert.Reference4Ideal.nD Cert.Reference4Ideal.τ).loc Cert.Reference4Ideal.main_v75) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel4_Kernel4Ideal : Prop :=
  True

def algebraic_Kernel4Ideal_Reference5Ideal [hKernel4Ideal : Cert.Kernel4Ideal.Facts] [hReference5Ideal : Cert.Reference5Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel4Ideal m →
    (∀ c : Dev Cert.Kernel4Ideal.nD,
      m' ((c.tc : Thread Cert.Reference5Ideal.nD Cert.Reference5Ideal.τ).loc Cert.Reference5Ideal.main_arg0) = m ((c.tc : Thread Cert.Kernel4Ideal.nD Cert.Kernel4Ideal.τ).loc Cert.Kernel4Ideal.main_arg0)
      ∧ m' ((c.tc : Thread Cert.Reference5Ideal.nD Cert.Reference5Ideal.τ).loc Cert.Reference5Ideal.main_arg1) = m ((c.tc : Thread Cert.Kernel4Ideal.nD Cert.Kernel4Ideal.τ).loc Cert.Kernel4Ideal.main_arg1)
      ∧ m' ((c.tc : Thread Cert.Reference5Ideal.nD Cert.Reference5Ideal.τ).loc Cert.Reference5Ideal.main_arg2) = m ((c.tc : Thread Cert.Kernel4Ideal.nD Cert.Kernel4Ideal.τ).loc Cert.Kernel4Ideal.main_arg2)
      ∧ m' ((c.tc : Thread Cert.Reference5Ideal.nD Cert.Reference5Ideal.τ).loc Cert.Reference5Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)) (v1 : (c : Dev Cert.Kernel4Ideal.nD) → Buf (Elt Ideal) ((c.tc : Thread Cert.Kernel4Ideal.nD Cert.Kernel4Ideal.τ).loc Cert.Kernel4Ideal.main_v1)) (v2 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_v1) = v1 c
          ∧ r.2.mem ((c.tc : Thread Cert.Kernel4Ideal.nD Cert.Kernel4Ideal.τ).loc Cert.Kernel4Ideal.main_v2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v20) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel5_Kernel5Ideal : Prop :=
  True

def algebraic_Kernel5Ideal_Reference6Ideal [hKernel5Ideal : Cert.Kernel5Ideal.Facts] [hReference6Ideal : Cert.Reference6Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel5Ideal m →
    (∀ c : Dev Cert.Kernel5Ideal.nD,
      m' ((c.tc : Thread Cert.Reference6Ideal.nD Cert.Reference6Ideal.τ).loc Cert.Reference6Ideal.main_arg0) = m ((c.tc : Thread Cert.Kernel5Ideal.nD Cert.Kernel5Ideal.τ).loc Cert.Kernel5Ideal.main_arg0)
      ∧ m' ((c.tc : Thread Cert.Reference6Ideal.nD Cert.Reference6Ideal.τ).loc Cert.Reference6Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel6_Kernel6Ideal : Prop :=
  True

def algebraic_Kernel6Ideal_Reference7Ideal [hKernel6Ideal : Cert.Kernel6Ideal.Facts] [hReference7Ideal : Cert.Reference7Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel6Ideal m →
    (∀ c : Dev Cert.Kernel6Ideal.nD,
      m' ((c.tc : Thread Cert.Reference7Ideal.nD Cert.Reference7Ideal.τ).loc Cert.Reference7Ideal.main_arg0) = m ((c.tc : Thread Cert.Kernel6Ideal.nD Cert.Kernel6Ideal.τ).loc Cert.Kernel6Ideal.main_arg0)
      ∧ m' ((c.tc : Thread Cert.Reference7Ideal.nD Cert.Reference7Ideal.τ).loc Cert.Reference7Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel7_Kernel7Ideal : Prop :=
  True

def algebraic_Kernel7Ideal_Reference8Ideal [hKernel7Ideal : Cert.Kernel7Ideal.Facts] [hReference8Ideal : Cert.Reference8Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel7Ideal m →
    (∀ c : Dev Cert.Kernel7Ideal.nD,
      m' ((c.tc : Thread Cert.Reference8Ideal.nD Cert.Reference8Ideal.τ).loc Cert.Reference8Ideal.main_arg0) = m ((c.tc : Thread Cert.Kernel7Ideal.nD Cert.Kernel7Ideal.τ).loc Cert.Kernel7Ideal.main_arg0)
      ∧ m' ((c.tc : Thread Cert.Reference8Ideal.nD Cert.Reference8Ideal.τ).loc Cert.Reference8Ideal.main_arg1) = m ((c.tc : Thread Cert.Kernel7Ideal.nD Cert.Kernel7Ideal.τ).loc Cert.Kernel7Ideal.main_arg1)
      ∧ m' ((c.tc : Thread Cert.Reference8Ideal.nD Cert.Reference8Ideal.τ).loc Cert.Reference8Ideal.main_arg2) = m ((c.tc : Thread Cert.Kernel7Ideal.nD Cert.Kernel7Ideal.τ).loc Cert.Kernel7Ideal.main_arg2)
      ∧ m' ((c.tc : Thread Cert.Reference8Ideal.nD Cert.Reference8Ideal.τ).loc Cert.Reference8Ideal.main_arg3) = m ((c.tc : Thread Cert.Kernel7Ideal.nD Cert.Kernel7Ideal.τ).loc Cert.Kernel7Ideal.main_arg3)
      ∧ m' ((c.tc : Thread Cert.Reference8Ideal.nD Cert.Reference8Ideal.τ).loc Cert.Reference8Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel8_Kernel8Ideal : Prop :=
  True

def algebraic_Kernel8Ideal_Reference9Ideal [hKernel8Ideal : Cert.Kernel8Ideal.Facts] [hReference9Ideal : Cert.Reference9Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel8Ideal m →
    (∀ c : Dev Cert.Kernel8Ideal.nD,
      m' ((c.tc : Thread Cert.Reference9Ideal.nD Cert.Reference9Ideal.τ).loc Cert.Reference9Ideal.main_arg0) = m ((c.tc : Thread Cert.Kernel8Ideal.nD Cert.Kernel8Ideal.τ).loc Cert.Kernel8Ideal.main_arg0)
      ∧ m' ((c.tc : Thread Cert.Reference9Ideal.nD Cert.Reference9Ideal.τ).loc Cert.Reference9Ideal.main_arg1) = m ((c.tc : Thread Cert.Kernel8Ideal.nD Cert.Kernel8Ideal.τ).loc Cert.Kernel8Ideal.main_arg1)
      ∧ m' ((c.tc : Thread Cert.Reference9Ideal.nD Cert.Reference9Ideal.τ).loc Cert.Reference9Ideal.main_arg2) = m ((c.tc : Thread Cert.Kernel8Ideal.nD Cert.Kernel8Ideal.τ).loc Cert.Kernel8Ideal.main_arg2)
      ∧ m' ((c.tc : Thread Cert.Reference9Ideal.nD Cert.Reference9Ideal.τ).loc Cert.Reference9Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)) (v2 : (c : Dev Cert.Kernel8Ideal.nD) → Buf (Elt Ideal) ((c.tc : Thread Cert.Kernel8Ideal.nD Cert.Kernel8Ideal.τ).loc Cert.Kernel8Ideal.main_v5_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_v5_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel9_Kernel9Ideal : Prop :=
  True

def algebraic_Kernel9Ideal_Reference10Ideal [hKernel9Ideal : Cert.Kernel9Ideal.Facts] [hReference10Ideal : Cert.Reference10Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel9Ideal m →
    (∀ c : Dev Cert.Kernel9Ideal.nD,
      m' ((c.tc : Thread Cert.Reference10Ideal.nD Cert.Reference10Ideal.τ).loc Cert.Reference10Ideal.main_arg0) = m ((c.tc : Thread Cert.Kernel9Ideal.nD Cert.Kernel9Ideal.τ).loc Cert.Kernel9Ideal.main_arg0)
      ∧ m' ((c.tc : Thread Cert.Reference10Ideal.nD Cert.Reference10Ideal.τ).loc Cert.Reference10Ideal.main_arg1) = m ((c.tc : Thread Cert.Kernel9Ideal.nD Cert.Kernel9Ideal.τ).loc Cert.Kernel9Ideal.main_arg1)
      ∧ m' ((c.tc : Thread Cert.Reference10Ideal.nD Cert.Reference10Ideal.τ).loc Cert.Reference10Ideal.main_arg2) = m ((c.tc : Thread Cert.Kernel9Ideal.nD Cert.Kernel9Ideal.τ).loc Cert.Kernel9Ideal.main_arg2)
      ∧ m' ((c.tc : Thread Cert.Reference10Ideal.nD Cert.Reference10Ideal.τ).loc Cert.Reference10Ideal.main_arg3) = m ((c.tc : Thread Cert.Kernel9Ideal.nD Cert.Kernel9Ideal.τ).loc Cert.Kernel9Ideal.main_arg3)
      ∧ m' ((c.tc : Thread Cert.Reference10Ideal.nD Cert.Reference10Ideal.τ).loc Cert.Reference10Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v6_0)) (v1 : (c : Dev Cert.Kernel9Ideal.nD) → Buf (Elt Ideal) ((c.tc : Thread Cert.Kernel9Ideal.nD Cert.Kernel9Ideal.τ).loc Cert.Kernel9Ideal.main_v6_1)) (v2 : (c : Dev Cert.Kernel9Ideal.nD) → Buf (Elt Ideal) ((c.tc : Thread Cert.Kernel9Ideal.nD Cert.Kernel9Ideal.τ).loc Cert.Kernel9Ideal.main_v6_2)) (v3 : (c : Dev Cert.Kernel9Ideal.nD) → Buf (Elt Ideal) ((c.tc : Thread Cert.Kernel9Ideal.nD Cert.Kernel9Ideal.τ).loc Cert.Kernel9Ideal.main_v6_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6_0) = v0 c
          ∧ r.2.mem ((c.tc : Thread Cert.Kernel9Ideal.nD Cert.Kernel9Ideal.τ).loc Cert.Kernel9Ideal.main_v6_1) = v1 c
          ∧ r.2.mem ((c.tc : Thread Cert.Kernel9Ideal.nD Cert.Kernel9Ideal.τ).loc Cert.Kernel9Ideal.main_v6_2) = v2 c
          ∧ r.2.mem ((c.tc : Thread Cert.Kernel9Ideal.nD Cert.Kernel9Ideal.τ).loc Cert.Kernel9Ideal.main_v6_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v55) = v0 c
          ∧ r.2.mem ((c.tc : Thread Cert.Reference10Ideal.nD Cert.Reference10Ideal.τ).loc Cert.Reference10Ideal.main_v56) = v1 c
          ∧ r.2.mem ((c.tc : Thread Cert.Reference10Ideal.nD Cert.Reference10Ideal.τ).loc Cert.Reference10Ideal.main_v73) = v2 c
          ∧ r.2.mem ((c.tc : Thread Cert.Reference10Ideal.nD Cert.Reference10Ideal.τ).loc Cert.Reference10Ideal.main_v74) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel3 : Cert.Kernel3.Facts) (hKernel3Ideal : Cert.Kernel3Ideal.Facts) (hReference4Ideal : Cert.Reference4Ideal.Facts) (hKernel4 : Cert.Kernel4.Facts) (hKernel4Ideal : Cert.Kernel4Ideal.Facts) (hReference5Ideal : Cert.Reference5Ideal.Facts) (hKernel5 : Cert.Kernel5.Facts) (hKernel5Ideal : Cert.Kernel5Ideal.Facts) (hReference6Ideal : Cert.Reference6Ideal.Facts) (hKernel6 : Cert.Kernel6.Facts) (hKernel6Ideal : Cert.Kernel6Ideal.Facts) (hReference7Ideal : Cert.Reference7Ideal.Facts) (hKernel7 : Cert.Kernel7.Facts) (hKernel7Ideal : Cert.Kernel7Ideal.Facts) (hReference8Ideal : Cert.Reference8Ideal.Facts) (hKernel8 : Cert.Kernel8.Facts) (hKernel8Ideal : Cert.Kernel8Ideal.Facts) (hReference9Ideal : Cert.Reference9Ideal.Facts) (hKernel9 : Cert.Kernel9.Facts) (hKernel9Ideal : Cert.Kernel9Ideal.Facts) (hReference10Ideal : Cert.Reference10Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference3Ideal (hReference3Ideal := hReference3Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference4Ideal (hReference4Ideal := hReference4Ideal)
    ∧ quiescent_Reference4Ideal_pre_finite3 (hReference4Ideal := hReference4Ideal) (hPre_finite3 := hPre_finite3)
    ∧ quiescent_Kernel4 (hKernel4 := hKernel4)
    ∧ quiescent_Kernel4Ideal (hKernel4Ideal := hKernel4Ideal)
    ∧ quiescent_Reference5Ideal (hReference5Ideal := hReference5Ideal)
    ∧ quiescent_Kernel5 (hKernel5 := hKernel5)
    ∧ quiescent_Kernel5Ideal (hKernel5Ideal := hKernel5Ideal)
    ∧ quiescent_Reference6Ideal (hReference6Ideal := hReference6Ideal)
    ∧ quiescent_Kernel6 (hKernel6 := hKernel6)
    ∧ quiescent_Kernel6Ideal (hKernel6Ideal := hKernel6Ideal)
    ∧ quiescent_Reference7Ideal (hReference7Ideal := hReference7Ideal)
    ∧ quiescent_Kernel7 (hKernel7 := hKernel7)
    ∧ quiescent_Kernel7Ideal (hKernel7Ideal := hKernel7Ideal)
    ∧ quiescent_Reference8Ideal (hReference8Ideal := hReference8Ideal)
    ∧ quiescent_Kernel8 (hKernel8 := hKernel8)
    ∧ quiescent_Kernel8Ideal (hKernel8Ideal := hKernel8Ideal)
    ∧ quiescent_Reference9Ideal (hReference9Ideal := hReference9Ideal)
    ∧ quiescent_Kernel9 (hKernel9 := hKernel9)
    ∧ quiescent_Kernel9Ideal (hKernel9Ideal := hKernel9Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ algebraic_Kernel2Ideal_Reference3Ideal (hKernel2Ideal := hKernel2Ideal) (hReference3Ideal := hReference3Ideal)
    ∧ preserves_Kernel3_Kernel3Ideal
    ∧ algebraic_Kernel3Ideal_Reference4Ideal_pre_finite3 (hKernel3Ideal := hKernel3Ideal) (hReference4Ideal := hReference4Ideal) (hPre_finite3 := hPre_finite3)
    ∧ preserves_Kernel4_Kernel4Ideal
    ∧ algebraic_Kernel4Ideal_Reference5Ideal (hKernel4Ideal := hKernel4Ideal) (hReference5Ideal := hReference5Ideal)
    ∧ preserves_Kernel5_Kernel5Ideal
    ∧ algebraic_Kernel5Ideal_Reference6Ideal (hKernel5Ideal := hKernel5Ideal) (hReference6Ideal := hReference6Ideal)
    ∧ preserves_Kernel6_Kernel6Ideal
    ∧ algebraic_Kernel6Ideal_Reference7Ideal (hKernel6Ideal := hKernel6Ideal) (hReference7Ideal := hReference7Ideal)
    ∧ preserves_Kernel7_Kernel7Ideal
    ∧ algebraic_Kernel7Ideal_Reference8Ideal (hKernel7Ideal := hKernel7Ideal) (hReference8Ideal := hReference8Ideal)
    ∧ preserves_Kernel8_Kernel8Ideal
    ∧ algebraic_Kernel8Ideal_Reference9Ideal (hKernel8Ideal := hKernel8Ideal) (hReference9Ideal := hReference9Ideal)
    ∧ preserves_Kernel9_Kernel9Ideal
    ∧ algebraic_Kernel9Ideal_Reference10Ideal (hKernel9Ideal := hKernel9Ideal) (hReference10Ideal := hReference10Ideal)
-- ==== Pre_finite.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x2048x16 : Shape := ⟨3, ![4, 2048, 16]⟩
abbrev S_ : Shape := ⟨0, ![]⟩

class Facts : Prop where
  bcast_S_S4x2048x16 : S_.BroadcastsInDim S4x2048x16 (![] : Fin 0 → Fin S4x2048x16.rank)

variable [Facts]

def fn {F : FTy → Type} [FloatOps F] (main_arg0 : FVec F S4x2048x1024 .bf16) (main_arg1 : FVec F S1024x1024 .bf16) (main_arg2 : FVec F S4x2048x16x64 .bf16) (main_arg3 : FVec F S4x2048x16x64 .bf16) (main_arg4 : FVec F S4x2048x16x64 .bf16) (main_arg5 : FVec F S4x2048x16 .f32) (main_arg6 : FVec F S4x2048x16 .f32) (main_arg7 : FVec F S4x2048x16 .f32) : IVec S4x2048x16 1 × IVec S4x2048x16 1 × IVec S4x2048x16 1 :=
  let main_v0 : FVec F S4x2048x16 .f32 := Host.absf main_arg5
  let main_cst : FVec F S_ .f32 := constant S_ .f32 0x7F800000#32
  let main_v1 : FVec F S4x2048x16 .f32 := broadcastInDim S4x2048x16 ![] bcast_S_S4x2048x16 main_cst
  let main_v2 : IVec S4x2048x16 1 := cmpf .olt main_v0 main_v1
  let main_v3 : FVec F S4x2048x16 .f32 := Host.absf main_arg6
  let main_cst_0 : FVec F S_ .f32 := constant S_ .f32 0x7F800000#32
  let main_v4 : FVec F S4x2048x16 .f32 := broadcastInDim S4x2048x16 ![] bcast_S_S4x2048x16 main_cst_0
  let main_v5 : IVec S4x2048x16 1 := cmpf .olt main_v3 main_v4
  let main_v6 : FVec F S4x2048x16 .f32 := Host.absf main_arg7
  let main_cst_1 : FVec F S_ .f32 := constant S_ .f32 0x7F800000#32
  let main_v7 : FVec F S4x2048x16 .f32 := broadcastInDim S4x2048x16 ![] bcast_S_S4x2048x16 main_cst_1
  let main_v8 : IVec S4x2048x16 1 := cmpf .olt main_v6 main_v7
  (main_v2, main_v5, main_v8)
-- ==== Pre_finite3.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bitsLt_bf16_f32 : FTy.bits .bf16 < FTy.bits .f32
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S1024 .f32) (main_arg2 : FVec F S1024x2816 .bf16) (main_arg3 : FVec F S1024x2816 .bf16) (main_arg4 : FVec F S2816x1024 .bf16) (main_arg5 : FVec F S4x2048x1024 .f32) : IVec S1024 1 × IVec S1024x2816 1 × IVec S2816x1024 1 × IVec S4x2048x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := (extf .f32 · bitsLt_bf16_f32) main_arg3
  let main_v4 : FVec F S1024x2816 .f32 := Host.absf main_v3
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_v7 : FVec F S2816x1024 .f32 := (extf .f32 · bitsLt_bf16_f32) main_arg4
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S4x2048x1024 .f32 := Host.absf main_arg5
  let main_cst_2 : FVec F S_ .f32 := constant S_ .f32 0x7F800000#32
  let main_v12 : FVec F S4x2048x1024 .f32 := broadcastInDim S4x2048x1024 ![] bcast_S_S4x2048x1024 main_cst_2
  let main_v13 : IVec S4x2048x1024 1 := cmpf .olt main_v11 main_v12
  (main_v2, main_v6, main_v10, main_v13)
-- ==== Kernel.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x2048x16 : Shape := ⟨3, ![4, 2048, 16]⟩
abbrev S8192x1024 : Shape := ⟨2, ![8192, 1024]⟩
abbrev S4x512x4x1024 : Shape := ⟨4, ![4, 512, 4, 1024]⟩
abbrev S8192x16 : Shape := ⟨2, ![8192, 16]⟩
abbrev S_ : Shape := ⟨0, ![]⟩
abbrev S8192x128 : Shape := ⟨2, ![8192, 128]⟩
abbrev S128 : Shape := ⟨1, ![128]⟩
abbrev S128x1 : Shape := ⟨2, ![128, 1]⟩
abbrev S1024 : Shape := ⟨1, ![1024]⟩
abbrev S1x1024 : Shape := ⟨2, ![1, 1024]⟩
abbrev S128x1024 : Shape := ⟨2, ![128, 1024]⟩
abbrev S1024x128 : Shape := ⟨2, ![1024, 128]⟩
abbrev S512x1024 : Shape := ⟨2, ![512, 1024]⟩
abbrev S1x128x4x1024 : Shape := ⟨4, ![1, 128, 4, 1024]⟩
abbrev S512x128 : Shape := ⟨2, ![512, 128]⟩
abbrev S128x4x1024 : Shape := ⟨3, ![128, 4, 1024]⟩

abbrev nBuf : Space → Nat
  | .hbm => 57
  | .vmem => 29
  | .smem => 0
  | _ => 0

abbrev bufTy : (tb : Table) → Fin (tcTables nBuf tb) → BufTy
  | .hbm, ⟨0, _⟩ => ⟨S4x2048x1024, .bf16⟩
  | .hbm, ⟨1, _⟩ => ⟨S1024x1024, .bf16⟩
  | .hbm, ⟨2, _⟩ => ⟨S4x2048x16x64, .bf16⟩
  | .hbm, ⟨3, _⟩ => ⟨S4x2048x16x64, .bf16⟩
  | .hbm, ⟨4, _⟩ => ⟨S4x2048x16x64, .bf16⟩
  | .hbm, ⟨5, _⟩ => ⟨S4x2048x16, .f32⟩
  | .hbm, ⟨6, _⟩ => ⟨S4x2048x16, .f32⟩
  | .hbm, ⟨7, _⟩ => ⟨S4x2048x16, .f32⟩
  | .hbm, ⟨8, _⟩ => ⟨S8192x1024, .bf16⟩
  | .hbm, ⟨9, _⟩ => ⟨S4x512x4x1024, .bf16⟩
  | .hbm, ⟨10, _⟩ => ⟨S8192x1024, .bf16⟩
  | .hbm, ⟨11, _⟩ => ⟨S8192x16, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S8192x16, .f32⟩
  | .hbm, ⟨16, _⟩ => ⟨S_, .i32⟩
  | .hbm, ⟨17, _⟩ => ⟨S_, .f32⟩
  | .hbm, ⟨18, _⟩ => ⟨S8192x128, .f32⟩
  | .hbm, ⟨19, _⟩ => ⟨S8192x16, .f32⟩
  | .hbm, ⟨20, _⟩ => ⟨S_, .i32⟩
  | .hbm, ⟨21, _⟩ => ⟨S_, .f32⟩
  | .hbm, ⟨22, _⟩ => ⟨S8192x128, .f32⟩
  | .hbm, ⟨23, _⟩ => ⟨S8192x1024, .bf16⟩
  | .hbm, ⟨24, _⟩ => ⟨S128, .i32⟩
  | .hbm, ⟨25, _⟩ => ⟨S128x1, .i32⟩
  | .hbm, ⟨26, _⟩ => ⟨S1024, .i32⟩
  | .hbm, ⟨27, _⟩ => ⟨S1x1024, .i32⟩
  | .hbm, ⟨28, _⟩ => ⟨S_, .i32⟩
  | .hbm, ⟨29, _⟩ => ⟨S_, .i32⟩
  | .hbm, ⟨30, _⟩ => ⟨S1x1024, .i32⟩
  | .hbm, ⟨31, _⟩ => ⟨S1x1024, .i32⟩
  | .hbm, ⟨32, _⟩ => ⟨S1x1024, .i32⟩
  | .hbm, ⟨33, _⟩ => ⟨S_, .i32⟩
  | .hbm, ⟨34, _⟩ => ⟨S1x1024, .i32⟩
  | .hbm, ⟨35, _⟩ => ⟨S1x1024, .i1⟩
  | .hbm, ⟨36, _⟩ => ⟨S1x1024, .i32⟩
  | .hbm, ⟨37, _⟩ => ⟨S1x1024, .i32⟩
  | .hbm, ⟨38, _⟩ => ⟨S_, .i32⟩
  | .hbm, ⟨39, _⟩ => ⟨S1x1024, .i32⟩
  | .hbm, ⟨40, _⟩ => ⟨S1x1024, .i1⟩
  | .hbm, ⟨41, _⟩ => ⟨S1x1024, .i1⟩
  | .hbm, ⟨42, _⟩ => ⟨S_, .i32⟩
  | .hbm, ⟨43, _⟩ => ⟨S1x1024, .i32⟩
  | .hbm, ⟨44, _⟩ => ⟨S1x1024, .i32⟩
  | .hbm, ⟨45, _⟩ => ⟨S1x1024, .i32⟩
  | .hbm, ⟨46, _⟩ => ⟨S128x1024, .i32⟩
  | .hbm, ⟨47, _⟩ => ⟨S128x1024, .i32⟩
  | .hbm, ⟨48, _⟩ => ⟨S128x1024, .i1⟩
  | .hbm, ⟨49, _⟩ => ⟨S128x1024, .bf16⟩
  | .hbm, ⟨50, _⟩ => ⟨S1024x128, .bf16⟩
  | .hbm, ⟨51, _⟩ => ⟨S8192x1024, .bf16⟩
  | .hbm, ⟨52, _⟩ => ⟨S4x512x4x1024, .bf16⟩
  | .hbm, ⟨53, _⟩ => ⟨S8192x1024, .bf16⟩
  | .hbm, ⟨54, _⟩ => ⟨S8192x128, .f32⟩
  | .hbm, ⟨55, _⟩ => ⟨S8192x128, .f32⟩
  | .hbm, ⟨56, _⟩ => ⟨S8192x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x128x4x1024, .bf16⟩
  | .local _ .vmem, ⟨6, _⟩ => ⟨S1x128x4x1024, .bf16⟩
  | .local _ .vmem, ⟨7, _⟩ => ⟨S512x1024, .bf16⟩
  | .local _ .vmem, ⟨8, _⟩ => ⟨S512x1024, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S128x1024, .bf16⟩
  | .local _ .vmem, ⟨16, _⟩ => ⟨S1024x128, .bf16⟩
  | .local _ .vmem, ⟨17, _⟩ => ⟨S512x1024, .bf16⟩
  | .local _ .vmem, ⟨18, _⟩ => ⟨S512x1024, .bf16⟩
  | .local _ .vmem, ⟨19, _⟩ => ⟨S1x128x4x1024, .bf16⟩
  | .local _ .vmem, ⟨20, _⟩ => ⟨S1x128x4x1024, .bf16⟩
  | .local _ .vmem, ⟨21, _⟩ => ⟨S512x1024, .bf16⟩
  | .local _ .vmem, ⟨22, _⟩ => ⟨S512x1024, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_call3_v0 : Ref sig .tc := ⟨.hbm, 29, rfl⟩
abbrev main_call3_v1 : Ref sig .tc := ⟨.hbm, 30, rfl⟩
abbrev main_call3_v2 : Ref sig .tc := ⟨.hbm, 31, rfl⟩
abbrev main_call3_v3 : Ref sig .tc := ⟨.hbm, 32, rfl⟩
abbrev main_call3_v4 : Ref sig .tc := ⟨.hbm, 33, rfl⟩
abbrev main_call3_v5 : Ref sig .tc := ⟨.hbm, 34, rfl⟩
abbrev main_call3_v6 : Ref sig .tc := ⟨.hbm, 35, rfl⟩
abbrev main_call3_v7 : Ref sig .tc := ⟨.hbm, 36, rfl⟩
abbrev main_call3_v8 : Ref sig .tc := ⟨.hbm, 37, rfl⟩
abbrev main_call3_c : Ref sig .tc := ⟨.hbm, 38, rfl⟩
abbrev main_call3_v9 : Ref sig .tc := ⟨.hbm, 39, rfl⟩
abbrev main_call3_v10 : Ref sig .tc := ⟨.hbm, 40, rfl⟩
abbrev main_call3_v11 : Ref sig .tc := ⟨.hbm, 41, rfl⟩
abbrev main_call3_c_0 : Ref sig .tc := ⟨.hbm, 42, rfl⟩
abbrev main_call3_v12 : Ref sig .tc := ⟨.hbm, 43, rfl⟩
abbrev main_call3_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v20_2 : Ref sig .tc := ⟨.hbm, 53, rfl⟩
abbrev main_v20_3 : Ref sig .tc := ⟨.hbm, 54, rfl⟩
abbrev main_v20_4 : Ref sig .tc := ⟨.hbm, 55, rfl⟩
abbrev main_v20_5 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x4x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S4x2048x1024 : Shape := ⟨3, ![4, 2048, 1024]⟩
abbrev S1024x1024 : Shape := ⟨2, ![1024, 1024]⟩
abbrev S4x2048x16x64 : Shape := ⟨4, ![4, 2048, 16, 64]⟩
abbrev S4x2048x16 : Shape := ⟨3, ![4, 2048, 16]⟩
abbrev S1x4x2048x16 : Shape := ⟨4, ![1, 4, 2048, 16]⟩
abbrev S3x4x2048x16 : Shape := ⟨4, ![3, 4, 2048, 16]⟩
abbrev S_ : Shape := ⟨0, ![]⟩
abbrev S4x2048x16x1 : Shape := ⟨4, ![4, 2048, 16, 1]⟩
abbrev S8192x1024 : Shape := ⟨2, ![8192, 1024]⟩
abbrev S4x512x4x1024 : Shape := ⟨4, ![4, 512, 4, 1024]⟩
abbrev S8192x16 : Shape := ⟨2, ![8192, 16]⟩
abbrev S8192x128 : Shape := ⟨2, ![8192, 128]⟩

abbrev nBuf : Space → Nat
  | .hbm => 167
  | .vmem => 0
  | .smem => 0
  | _ => 0

abbrev hbmTy0_0 (i : Nat) : BufTy := match i % 128 with
  | 0 => ⟨S4x2048x1024, .bf16⟩
  | 1 => ⟨S1024x1024, .bf16⟩
  | 2 => ⟨S4x2048x16x64, .bf16⟩
  | 3 => ⟨S4x2048x16x64, .bf16⟩
  | 4 => ⟨S4x2048x16x64, .bf16⟩
  | 5 => ⟨S4x2048x16, .f32⟩
  | 6 => ⟨S4x2048x16, .f32⟩
  | 7 => ⟨S4x2048x16, .f32⟩
  | 8 => ⟨S1x4x2048x16, .f32⟩
  | 9 => ⟨S1x4x2048x16, .f32⟩
  | 10 => ⟨S1x4x2048x16, .f32⟩
  | 11 => ⟨S3x4x2048x16, .f32⟩
  | 12 => ⟨S_, .f32⟩
  | 13 => ⟨S4x2048x16, .f32⟩
  | 14 => ⟨S1x4x2048x16, .f32⟩
  | 15 => ⟨S3x4x2048x16, .f32⟩
  | 16 => ⟨S3x4x2048x16, .i1⟩
  | 17 => ⟨S3x4x2048x16, .f32⟩
  | 18 => ⟨S_, .f32⟩
  | 19 => ⟨S4x2048x16, .f32⟩
  | 20 => ⟨S_, .f32⟩
  | 21 => ⟨S4x2048x16, .f32⟩
  | 22 => ⟨S4x2048x16, .f32⟩
  | 23 => ⟨S_, .f32⟩
  | 24 => ⟨S4x2048x16, .f32⟩
  | 25 => ⟨S4x2048x16, .i1⟩
  | 26 => ⟨S_, .f32⟩
  | 27 => ⟨S4x2048x16, .f32⟩
  | 28 => ⟨S4x2048x16, .i1⟩
  | 29 => ⟨S_, .f32⟩
  | 30 => ⟨S4x2048x16, .f32⟩
  | 31 => ⟨S_, .f32⟩
  | 32 => ⟨S4x2048x16, .f32⟩
  | 33 => ⟨S_, .f32⟩
  | 34 => ⟨S4x2048x16, .f32⟩
  | 35 => ⟨S4x2048x16, .f32⟩
  | 36 => ⟨S4x2048x16, .f32⟩
  | 37 => ⟨S1x4x2048x16, .f32⟩
  | 38 => ⟨S3x4x2048x16, .f32⟩
  | 39 => ⟨S3x4x2048x16, .f32⟩
  | 40 => ⟨S3x4x2048x16, .f32⟩
  | 41 => ⟨S_, .f32⟩
  | 42 => ⟨S4x2048x16, .f32⟩
  | 43 => ⟨S1x4x2048x16, .f32⟩
  | 44 => ⟨S3x4x2048x16, .f32⟩
  | 45 => ⟨S3x4x2048x16, .f32⟩
  | 46 => ⟨S1x4x2048x16, .f32⟩
  | 47 => ⟨S_, .f32⟩
  | 48 => ⟨S1x4x2048x16, .f32⟩
  | 49 => ⟨S1x4x2048x16, .f32⟩
  | 50 => ⟨S1x4x2048x16, .f32⟩
  | 51 => ⟨S4x2048x16, .f32⟩
  | 52 => ⟨S4x2048x16x1, .f32⟩
  | 53 => ⟨S4x2048x16x64, .f32⟩
  | 54 => ⟨S4x2048x16x64, .f32⟩
  | 55 => ⟨S4x2048x16x64, .f32⟩
  | 56 => ⟨S1x4x2048x16, .f32⟩
  | 57 => ⟨S4x2048x16, .f32⟩
  | 58 => ⟨S4x2048x16x1, .f32⟩
  | 59 => ⟨S4x2048x16x64, .f32⟩
  | 60 => ⟨S4x2048x16x64, .f32⟩
  | 61 => ⟨S4x2048x16x64, .f32⟩
  | 62 => ⟨S4x2048x16x64, .f32⟩
  | 63 => ⟨S1x4x2048x16, .f32⟩
  | 64 => ⟨S4x2048x16, .f32⟩
  | 65 => ⟨S4x2048x16x1, .f32⟩
  | 66 => ⟨S4x2048x16x64, .f32⟩
  | 67 => ⟨S4x2048x16x64, .f32⟩
  | 68 => ⟨S4x2048x16x64, .f32⟩
  | 69 => ⟨S4x2048x16x64, .f32⟩
  | 70 => ⟨S4x2048x1024, .f32⟩
  | 71 => ⟨S1024x1024, .f32⟩
  | 72 => ⟨S4x2048x1024, .f32⟩
  | 73 => ⟨S4x2048x1024, .f32⟩
  | 74 => ⟨S4x2048x1024, .f32⟩
  | 75 => ⟨S4x2048x16x64, .f32⟩
  | 76 => ⟨S4x2048x16x64, .f32⟩
  | 77 => ⟨S4x2048x16x64, .f32⟩
  | 78 => ⟨S4x2048x16x64, .f32⟩
  | 79 => ⟨S_, .f32⟩
  | 80 => ⟨S4x2048x16, .f32⟩
  | 81 => ⟨S4x2048x16x1, .f32⟩
  | 82 => ⟨S4x2048x16x64, .bf16⟩
  | 83 => ⟨S_, .f32⟩
  | 84 => ⟨S4x2048x16, .f32⟩
  | 85 => ⟨S1x4x2048x16, .f32⟩
  | 86 => ⟨S_, .f32⟩
  | 87 => ⟨S3x4x2048x16, .f32⟩
  | 88 => ⟨S4x2048x16x64, .f32⟩
  | 89 => ⟨S4x2048x16x64, .f32⟩
  | 90 => ⟨S4x2048x16x64, .f32⟩
  | 91 => ⟨S_, .f32⟩
  | 92 => ⟨S4x2048x16, .f32⟩
  | 93 => ⟨S4x2048x16x1, .f32⟩
  | 94 => ⟨S4x2048x16x64, .bf16⟩
  | 95 => ⟨S_, .f32⟩
  | 96 => ⟨S4x2048x16, .f32⟩
  | 97 => ⟨S1x4x2048x16, .f32⟩
  | 98 => ⟨S_, .f32⟩
  | 99 => ⟨S3x4x2048x16, .f32⟩
  | 100 => ⟨S3x4x2048x16, .f32⟩
  | 101 => ⟨S4x2048x16x64, .f32⟩
  | 102 => ⟨S4x2048x16x64, .f32⟩
  | 103 => ⟨S4x2048x16x64, .f32⟩
  | 104 => ⟨S_, .f32⟩
  | 105 => ⟨S4x2048x16, .f32⟩
  | 106 => ⟨S4x2048x16x1, .f32⟩
  | 107 => ⟨S4x2048x16x64, .bf16⟩
  | 108 => ⟨S_, .f32⟩
  | 109 => ⟨S4x2048x16, .f32⟩
  | 110 => ⟨S1x4x2048x16, .f32⟩
  | 111 => ⟨S_, .f32⟩
  | 112 => ⟨S3x4x2048x16, .f32⟩
  | 113 => ⟨S3x4x2048x16, .f32⟩
  | 114 => ⟨S3x4x2048x16, .f32⟩
  | 115 => ⟨S3x4x2048x16, .f32⟩
  | 116 => ⟨S3x4x2048x16, .f32⟩
  | 117 => ⟨S_, .f32⟩
  | 118 => ⟨S4x2048x16, .f32⟩
  | 119 => ⟨S1x4x2048x16, .f32⟩
  | 120 => ⟨S1x4x2048x16, .f32⟩
  | 121 => ⟨S3x4x2048x16, .f32⟩
  | 122 => ⟨S3x4x2048x16, .f32⟩
  | 123 => ⟨S_, .f32⟩
  | 124 => ⟨S4x2048x16, .f32⟩
  | 125 => ⟨S3x4x2048x16, .f32⟩
  | 126 => ⟨S3x4x2048x16, .f32⟩
  | 127 => ⟨S3x4x2048x16, .f32⟩
  | _ => ⟨S4x2048x1024, .bf16⟩

abbrev hbmTy0_1 (i : Nat) : BufTy := match i % 128 with
  | 0 => ⟨S1x4x2048x16, .f32⟩
  | 1 => ⟨S4x2048x16, .f32⟩
  | 2 => ⟨S1x4x2048x16, .f32⟩
  | 3 => ⟨S4x2048x16, .f32⟩
  | 4 => ⟨S1x4x2048x16, .f32⟩
  | 5 => ⟨S4x2048x16, .f32⟩
  | 6 => ⟨S8192x1024, .bf16⟩
  | 7 => ⟨S4x512x4x1024, .bf16⟩
  | 8 => ⟨S8192x1024, .bf16⟩
  | 9 => ⟨S4x2048x16x64, .f32⟩
  | 10 => ⟨S4x2048x16x64, .f32⟩
  | 11 => ⟨S4x2048x16x64, .f32⟩
  | 12 => ⟨S_, .f32⟩
  | 13 => ⟨S4x2048x16, .f32⟩
  | 14 => ⟨S4x2048x16, .f32⟩
  | 15 => ⟨S8192x16, .f32⟩
  | 16 => ⟨S_, .i32⟩
  | 17 => ⟨S_, .f32⟩
  | 18 => ⟨S8192x128, .f32⟩
  | 19 => ⟨S4x2048x16x64, .f32⟩
  | 20 => ⟨S4x2048x16x64, .f32⟩
  | 21 => ⟨S4x2048x16x64, .f32⟩
  | 22 => ⟨S_, .f32⟩
  | 23 => ⟨S4x2048x16, .f32⟩
  | 24 => ⟨S4x2048x16, .f32⟩
  | 25 => ⟨S8192x16, .f32⟩
  | 26 => ⟨S_, .i32⟩
  | 27 => ⟨S_, .f32⟩
  | 28 => ⟨S8192x128, .f32⟩
  | 29 => ⟨S4x2048x16x64, .f32⟩
  | 30 => ⟨S4x2048x16x64, .f32⟩
  | 31 => ⟨S4x2048x16x64, .f32⟩
  | 32 => ⟨S_, .f32⟩
  | 33 => ⟨S4x2048x16, .f32⟩
  | 34 => ⟨S4x2048x16, .f32⟩
  | 35 => ⟨S8192x16, .f32⟩
  | 36 => ⟨S_, .i32⟩
  | 37 => ⟨S_, .f32⟩
  | 38 => ⟨S8192x128, .f32⟩
  | _ => ⟨S4x2048x1024, .bf16⟩

abbrev hbmTy (i : Nat) : BufTy := match i / 128 with
  | 0 => hbmTy0_0 i
  | 1 => hbmTy0_1 i
  | _ => ⟨S4x2048x1024, .bf16⟩

abbrev bufTy : (tb : Table) → Fin (tcTables nBuf tb) → BufTy
  | .hbm, ⟨i, _⟩ => hbmTy i
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_13 : Ref sig .tc := ⟨.hbm, 95, rfl⟩
abbrev main_v73 : Ref sig .tc := ⟨.hbm, 96, rfl⟩
abbrev main_v74 : Ref sig .tc := ⟨.hbm, 97, rfl⟩
abbrev main_cst_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_16 : Ref sig .tc := ⟨.hbm, 108, rfl⟩
abbrev main_v83 : Ref sig .tc := ⟨.hbm, 109, rfl⟩
abbrev main_v84 : Ref sig .tc := ⟨.hbm, 110, rfl⟩
abbrev main_cst_17 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_19 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_20 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_c : Ref sig .tc := ⟨.hbm, 144, rfl⟩
abbrev main_call0_v0 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_21 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_22 : Ref sig .tc := ⟨.hbm, 154, rfl⟩
abbrev main_call1_v0 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_cst_23 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_24 : Ref sig .tc := ⟨.hbm, 164, rfl⟩
abbrev main_call2_v0 : Ref sig .tc := ⟨.hbm, 165, rfl⟩
abbrev main_v128 : Ref sig .tc := ⟨.hbm, 166, rfl⟩

abbrev nD : Nat := 1
abbrev τ : Topo := Topo.v7x

variable {F : FTy → Type} [FloatOps F]
-- ==== Kernel2.lean ====
abbrev S4x2048x2816 : Shape := ⟨3, ![4, 2048, 2816]⟩
abbrev S4x2048x1024 : Shape := ⟨3, ![4, 2048, 1024]⟩
abbrev S8192x4x704 : Shape := ⟨3, ![8192, 4, 704]⟩
abbrev S4x8192x704 : Shape := ⟨3, ![4, 8192, 704]⟩
abbrev S8192x1024 : Shape := ⟨2, ![8192, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .bf16⟩
  | .hbm, ⟨2, _⟩ => ⟨S8192x4x704, .bf16⟩
  | .hbm, ⟨3, _⟩ => ⟨S4x8192x704, .bf16⟩
  | .hbm, ⟨4, _⟩ => ⟨S8192x1024, .bf16⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .bf16⟩
  | .hbm, ⟨2, _⟩ => ⟨S_, .bf16⟩
  | .hbm, ⟨3, _⟩ => ⟨S2816x1024, .bf16⟩
  | .hbm, ⟨4, _⟩ => ⟨S4x2048x2816, .f32⟩
  | .hbm, ⟨5, _⟩ => ⟨S2816x1024, .f32⟩
  | .hbm, ⟨6, _⟩ => ⟨S4x2048x1024, .f32⟩
  | .hbm, ⟨7, _⟩ => ⟨S4x2048x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S4x704x1024, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Reference3Ideal.lean ====
abbrev S4x2048x2816 : Shape := ⟨3, ![4, 2048, 2816]⟩
abbrev S4x2048x1024 : Shape := ⟨3, ![4, 2048, 1024]⟩
abbrev S_ : Shape := ⟨0, ![]⟩
abbrev S1024x2816 : Shape := ⟨2, ![1024, 2816]⟩
abbrev S2816x1024 : Shape := ⟨2, ![2816, 1024]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .bf16⟩
  | .hbm, ⟨2, _⟩ => ⟨S_, .bf16⟩
  | .hbm, ⟨3, _⟩ => ⟨S1024x2816, .bf16⟩
  | .hbm, ⟨4, _⟩ => ⟨S4x2048x1024, .f32⟩
  | .hbm, ⟨5, _⟩ => ⟨S1024x2816, .f32⟩
  | .hbm, ⟨6, _⟩ => ⟨S4x2048x2816, .f32⟩
  | .hbm, ⟨7, _⟩ => ⟨S4x2048x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S4x704x1024, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S4x1x704x1024 : Shape := ⟨4, ![4, 1, 704, 1024]⟩
abbrev S4x8192x704 : Shape := ⟨3, ![4, 8192, 704]⟩
abbrev S1024x1024 : Shape := ⟨2, ![1024, 1024]⟩
abbrev S1x1x704x1024 : Shape := ⟨4, ![1, 1, 704, 1024]⟩
abbrev S1x1024x704 : Shape := ⟨3, ![1, 1024, 704]⟩
abbrev S704x1024 : Shape := ⟨2, ![704, 1024]⟩
abbrev S1024x704 : Shape := ⟨2, ![1024, 704]⟩
abbrev S1x1024 : Shape := ⟨2, ![1, 1024]⟩
abbrev S256x1024 : Shape := ⟨2, ![256, 1024]⟩
abbrev S4x256x704 : Shape := ⟨3, ![4, 256, 704]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩

abbrev nBuf : Space → Nat
  | .hbm => 41
  | .vmem => 35
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x2048x1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x1024, .bf16⟩
  | .hbm, ⟨23, _⟩ => ⟨S8192x1024, .bf16⟩
  | .hbm, ⟨24, _⟩ => ⟨S2816x1024, .bf16⟩
  | .hbm, ⟨25, _⟩ => ⟨S2816x1024, .bf16⟩
  | .hbm, ⟨26, _⟩ => ⟨S4x1x704x1024, .bf16⟩
  | .hbm, ⟨27, _⟩ => ⟨S4x1x704x1024, .bf16⟩
  | .hbm, ⟨28, _⟩ => ⟨S4x1x704x1024, .bf16⟩
  | .hbm, ⟨29, _⟩ => ⟨S4x8192x704, .bf16⟩
  | .hbm, ⟨30, _⟩ => ⟨S4x8192x704, .bf16⟩
  | .hbm, ⟨31, _⟩ => ⟨S4x8192x704, .bf16⟩
  | .hbm, ⟨32, _⟩ => ⟨S8192x1024, .f32⟩
  | .hbm, ⟨33, _⟩ => ⟨S8192x1024, .bf16⟩
  | .hbm, ⟨34, _⟩ => ⟨S8192x1024, .f32⟩
  | .hbm, ⟨35, _⟩ => ⟨S1x1024, .f32⟩
  | .hbm, ⟨36, _⟩ => ⟨S4x8192x704, .bf16⟩
  | .hbm, ⟨37, _⟩ => ⟨S4x8192x704, .bf16⟩
  | .hbm, ⟨38, _⟩ => ⟨S8192x1024, .f32⟩
  | .hbm, ⟨39, _⟩ => ⟨S8192x1024, .bf16⟩
  | .hbm, ⟨40, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S256x1024, .bf16⟩
  | .local _ .vmem, ⟨13, _⟩ => ⟨S256x1024, .bf16⟩
  | .local _ .vmem, ⟨14, _⟩ => ⟨S4x1x704x1024, .bf16⟩
  | .local _ .vmem, ⟨15, _⟩ => ⟨S4x1x704x1024, .bf16⟩
  | .local _ .vmem, ⟨16, _⟩ => ⟨S4x1x704x1024, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S256x1024, .f32⟩
  | .local _ .vmem, ⟨22, _⟩ => ⟨S256x1024, .f32⟩
  | .local _ .vmem, ⟨23, _⟩ => ⟨S1x1024, .f32⟩
  | .local _ .vmem, ⟨24, _⟩ => ⟨S256x1024, .f32⟩
  | .local _ .vmem, ⟨25, _⟩ => ⟨S256x1024, .f32⟩
  | .local _ .vmem, ⟨26, _⟩ => ⟨S4x256x704, .bf16⟩
  | .local _ .vmem, ⟨27, _⟩ => ⟨S4x256x704, .bf16⟩
  | .local _ .vmem, ⟨28, _⟩ => ⟨S4x256x704, .bf16⟩
  | .local _ .vmem, ⟨29, _⟩ => ⟨S4x256x704, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v25_3 : Ref sig .tc := ⟨.hbm, 39, rfl⟩
abbrev main_v25_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc1_sem7_0 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1x704x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x1x704x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1x704x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4x256x704 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x256x704 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x256x704 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x256x704 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== Reference4Ideal.lean ====
abbrev S4x2048x1024 : Shape := ⟨3, ![4, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2816 : Shape := ⟨3, ![4, 2048, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S1x1024 : Shape := ⟨2, ![1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024x2816, .bf16⟩
  | .hbm, ⟨3, _⟩ => ⟨S1024x2816, .bf16⟩
  | .hbm, ⟨4, _⟩ => ⟨S2816x1024, .bf16⟩
  | .hbm, ⟨5, _⟩ => ⟨S4x2048x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x2816, .f32⟩
  | .hbm, ⟨30, _⟩ => ⟨S4x2048x2816, .f32⟩
  | .hbm, ⟨31, _⟩ => ⟨S4x2048x2816, .f32⟩
  | .hbm, ⟨32, _⟩ => ⟨S4x2048x2816, .f32⟩
  | .hbm, ⟨33, _⟩ => ⟨S_, .f32⟩
  | .hbm, ⟨34, _⟩ => ⟨S4x2048x2816, .f32⟩
  | .hbm, ⟨35, _⟩ => ⟨S4x2048x2816, .f32⟩
  | .hbm, ⟨36, _⟩ => ⟨S_, .f32⟩
  | .hbm, ⟨37, _⟩ => ⟨S4x2048x2816, .f32⟩
  | .hbm, ⟨38, _⟩ => ⟨S4x2048x2816, .f32⟩
  | .hbm, ⟨39, _⟩ => ⟨S_, .f32⟩
  | .hbm, ⟨40, _⟩ => ⟨S4x2048x2816, .f32⟩
  | .hbm, ⟨41, _⟩ => ⟨S4x2048x2816, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x1024, .f32⟩
  | .hbm, ⟨46, _⟩ => ⟨S4x2048x2816, .f32⟩
  | .hbm, ⟨47, _⟩ => ⟨S4x2048x2816, .f32⟩
  | .hbm, ⟨48, _⟩ => ⟨S4x2048x2816, .f32⟩
  | .hbm, ⟨49, _⟩ => ⟨S4x2048x2816, .f32⟩
  | .hbm, ⟨50, _⟩ => ⟨S4x2048x2816, .f32⟩
  | .hbm, ⟨51, _⟩ => ⟨S4x2048x2816, .f32⟩
  | .hbm, ⟨52, _⟩ => ⟨S4x2048x2816, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S1024, .f32⟩
  | .hbm, ⟨59, _⟩ => ⟨S1x1x1024, .f32⟩
  | .hbm, ⟨60, _⟩ => ⟨S4x2048x1024, .f32⟩
  | .hbm, ⟨61, _⟩ => ⟨S4x2048x1024, .f32⟩
  | .hbm, ⟨62, _⟩ => ⟨S_, .f32⟩
  | .hbm, ⟨63, _⟩ => ⟨S1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1024, .f32⟩
  | .hbm, ⟨69, _⟩ => ⟨S4x2048x1024, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048, .f32⟩
  | .hbm, ⟨76, _⟩ => ⟨S4x2048x1024, .f32⟩
  | .hbm, ⟨77, _⟩ => ⟨S4x2048x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S8192x1024, .f32⟩
  | .hbm, ⟨83, _⟩ => ⟨S4x2048x2816, .bf16⟩
  | .hbm, ⟨84, _⟩ => ⟨S8192x4x704, .bf16⟩
  | .hbm, ⟨85, _⟩ => ⟨S4x8192x704, .bf16⟩
  | .hbm, ⟨86, _⟩ => ⟨S4x2048x2816, .bf16⟩
  | .hbm, ⟨87, _⟩ => ⟨S8192x4x704, .bf16⟩
  | .hbm, ⟨88, _⟩ => ⟨S4x8192x704, .bf16⟩
  | .hbm, ⟨89, _⟩ => ⟨S4x2048x2816, .bf16⟩
  | .hbm, ⟨90, _⟩ => ⟨S8192x4x704, .bf16⟩
  | .hbm, ⟨91, _⟩ => ⟨S4x8192x704, .bf16⟩
  | .hbm, ⟨92, _⟩ => ⟨S8192x1024, .bf16⟩
  | .hbm, ⟨93, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_cst_10 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel4.lean ====
abbrev S8192x1536 : Shape := ⟨2, ![8192, 1536]⟩
abbrev S1024x4608 : Shape := ⟨2, ![1024, 4608]⟩
abbrev S8192x1024 : Shape := ⟨2, ![8192, 1024]⟩
abbrev S1024x1536 : Shape := ⟨2, ![1024, 1536]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S1024x4608, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1536, .bf16⟩
  | .local _ .vmem, ⟨6, _⟩ => ⟨S1024x1536, .bf16⟩
  | .local _ .vmem, ⟨7, _⟩ => ⟨S1024x1536, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1536, .bf16⟩
  | .local _ .vmem, ⟨11, _⟩ => ⟨S1024x1536, .bf16⟩
  | .local _ .vmem, ⟨12, _⟩ => ⟨S1024x1536, .bf16⟩
  | .local _ .vmem, ⟨13, _⟩ => ⟨S1024x1024, .bf16⟩
  | .local _ .vmem, ⟨14, _⟩ => ⟨S1024x1024, .bf16⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1536 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1536 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1536 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== Reference5Ideal.lean ====
abbrev S8192x1536 : Shape := ⟨2, ![8192, 1536]⟩
abbrev S1024x4608 : Shape := ⟨2, ![1024, 4608]⟩
abbrev S_ : Shape := ⟨0, ![]⟩
abbrev S8192x1024 : Shape := ⟨2, ![8192, 1024]⟩
abbrev S1024x1536 : Shape := ⟨2, ![1024, 1536]⟩

abbrev nBuf : Space → Nat
  | .hbm => 28
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .bf16⟩
  | .hbm, ⟨2, _⟩ => ⟨S8192x1536, .bf16⟩
  | .hbm, ⟨3, _⟩ => ⟨S1024x4608, .bf16⟩
  | .hbm, ⟨4, _⟩ => ⟨S_, .f32⟩
  | .hbm, ⟨5, _⟩ => ⟨S8192x1024, .f32⟩
  | .hbm, ⟨6, _⟩ => ⟨S1024x4608, .f32⟩
  | .hbm, ⟨7, _⟩ => ⟨S1024x1536, .f32⟩
  | .hbm, ⟨8, _⟩ => ⟨S8192x1536, .f32⟩
  | .hbm, ⟨9, _⟩ => ⟨S8192x1536, .f32⟩
  | .hbm, ⟨10, _⟩ => ⟨S8192x1024, .f32⟩
  | .hbm, ⟨11, _⟩ => ⟨S8192x1024, .bf16⟩
  | .hbm, ⟨12, _⟩ => ⟨S_, .f32⟩
  | .hbm, ⟨13, _⟩ => ⟨S8192x1024, .f32⟩
  | .hbm, ⟨14, _⟩ => ⟨S1024x4608, .f32⟩
  | .hbm, ⟨15, _⟩ => ⟨S1024x1536, .f32⟩
  | .hbm, ⟨16, _⟩ => ⟨S8192x1536, .f32⟩
  | .hbm, ⟨17, _⟩ => ⟨S8192x1536, .f32⟩
  | .hbm, ⟨18, _⟩ => ⟨S8192x1024, .f32⟩
  | .hbm, ⟨19, _⟩ => ⟨S8192x1024, .bf16⟩
  | .hbm, ⟨20, _⟩ => ⟨S_, .f32⟩
  | .hbm, ⟨21, _⟩ => ⟨S8192x1024, .f32⟩
  | .hbm, ⟨22, _⟩ => ⟨S1024x4608, .f32⟩
  | .hbm, ⟨23, _⟩ => ⟨S1024x1536, .f32⟩
  | .hbm, ⟨24, _⟩ => ⟨S8192x1536, .f32⟩
  | .hbm, ⟨25, _⟩ => ⟨S8192x1536, .f32⟩
  | .hbm, ⟨26, _⟩ => ⟨S8192x1024, .f32⟩
  | .hbm, ⟨27, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel5.lean ====
abbrev S4x2048x1024 : Shape := ⟨3, ![4, 2048, 1024]⟩
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]
-- ==== Reference6Ideal.lean ====
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S_, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4x2048x1024 : Shape := ⟨3, ![4, 2048, 1024]⟩
abbrev S4x2048x1536 : Shape := ⟨3, ![4, 2048, 1536]⟩
abbrev S8192x1024 : Shape := ⟨2, ![8192, 1024]⟩
abbrev S8192x1536 : Shape := ⟨2, ![8192, 1536]⟩
abbrev S1024x1536 : Shape := ⟨2, ![1024, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1536, .bf16⟩
  | .hbm, ⟨2, _⟩ => ⟨S8192x1024, .bf16⟩
  | .hbm, ⟨3, _⟩ => ⟨S8192x1536, .bf16⟩
  | .hbm, ⟨4, _⟩ => ⟨S1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S4x2048x1024 : Shape := ⟨3, ![4, 2048, 1024]⟩
abbrev S4x2048x1536 : Shape := ⟨3, ![4, 2048, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1536, .bf16⟩
  | .hbm, ⟨2, _⟩ => ⟨S_, .f32⟩
  | .hbm, ⟨3, _⟩ => ⟨S1024x1536, .f32⟩
  | .hbm, ⟨4, _⟩ => ⟨S4x2048x1024, .f32⟩
  | .hbm, ⟨5, _⟩ => ⟨S4x2048x1536, .f32⟩
  | .hbm, ⟨6, _⟩ => ⟨S4x2048x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4x2048x1536 : Shape := ⟨3, ![4, 2048, 1536]⟩
abbrev S1024x1536 : Shape := ⟨2, ![1024, 1536]⟩
abbrev S4x2048x1024 : Shape := ⟨3, ![4, 2048, 1024]⟩
abbrev S1024 : Shape := ⟨1, ![1024]⟩
abbrev S8192x1536 : Shape := ⟨2, ![8192, 1536]⟩
abbrev S8192x1024 : Shape := ⟨2, ![8192, 1024]⟩
abbrev S1x1024 : Shape := ⟨2, ![1, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x1536, .bf16⟩
  | .hbm, ⟨1, _⟩ => ⟨S1024x1536, .bf16⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S8192x1536, .bf16⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4x2048x1536 : Shape := ⟨3, ![4, 2048, 1536]⟩
abbrev S1024x1536 : Shape := ⟨2, ![1024, 1536]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x1536, .bf16⟩
  | .hbm, ⟨1, _⟩ => ⟨S1024x1536, .bf16⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x1024, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x1024, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S1024x1536, .f32⟩
  | .hbm, ⟨26, _⟩ => ⟨S4x2048x1536, .f32⟩
  | .hbm, ⟨27, _⟩ => ⟨S4x2048x1536, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S4x2048x1024, .f32⟩
  | .hbm, ⟨34, _⟩ => ⟨S4x2048x1024, .f32⟩
  | .hbm, ⟨35, _⟩ => ⟨S_, .f32⟩
  | .hbm, ⟨36, _⟩ => ⟨S1024, .f32⟩
  | .hbm, ⟨37, _⟩ => ⟨S4x2048x1024, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x1024, .f32⟩
  | .hbm, ⟨42, _⟩ => ⟨S4x2048x1024, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048, .f32⟩
  | .hbm, ⟨49, _⟩ => ⟨S4x2048x1024, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S8192x1024, .f32⟩
  | .hbm, ⟨56, _⟩ => ⟨S1x1024, .f32⟩
  | _, _ => ⟨S4x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel8.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S4x1x704x1024 : Shape := ⟨4, ![4, 1, 704, 1024]⟩
abbrev S8192x4x704 : Shape := ⟨3, ![8192, 4, 704]⟩
abbrev S4x8192x704 : Shape := ⟨3, ![4, 8192, 704]⟩
abbrev S8192x1024 : Shape := ⟨2, ![8192, 1024]⟩
abbrev S1x1024 : Shape := ⟨2, ![1, 1024]⟩
abbrev S4x512x4x1024 : Shape := ⟨4, ![4, 512, 4, 1024]⟩
abbrev S4x512x704 : Shape := ⟨3, ![4, 512, 704]⟩
abbrev S512x1024 : Shape := ⟨2, ![512, 1024]⟩
abbrev S1x128x4x1024 : Shape := ⟨4, ![1, 128, 4, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩
abbrev S128x4x1024 : Shape := ⟨3, ![128, 4, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S1024, .f32⟩
  | .hbm, ⟨4, _⟩ => ⟨S4x1x704x1024, .bf16⟩
  | .hbm, ⟨5, _⟩ => ⟨S8192x4x704, .bf16⟩
  | .hbm, ⟨6, _⟩ => ⟨S4x8192x704, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .hbm, ⟨11, _⟩ => ⟨S4x512x4x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x128x4x1024, .bf16⟩
  | .local _ .vmem, ⟨11, _⟩ => ⟨S1x128x4x1024, .bf16⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S4x512x4x1024 : Shape := ⟨4, ![4, 512, 4, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S1024, .f32⟩
  | .hbm, ⟨4, _⟩ => ⟨S4x2048x2816, .f32⟩
  | .hbm, ⟨5, _⟩ => ⟨S2816x1024, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S1x1x1024, .f32⟩
  | .hbm, ⟨22, _⟩ => ⟨S4x2048x1024, .f32⟩
  | .hbm, ⟨23, _⟩ => ⟨S4x2048x1024, .f32⟩
  | .hbm, ⟨24, _⟩ => ⟨S4x2048x1024, .bf16⟩
  | .hbm, ⟨25, _⟩ => ⟨S8192x1024, .f32⟩
  | .hbm, ⟨26, _⟩ => ⟨S8192x1024, .bf16⟩
  | .hbm, ⟨27, _⟩ => ⟨S4x512x4x1024, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel9.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S4x1x704x1024 : Shape := ⟨4, ![4, 1, 704, 1024]⟩
abbrev S8192x4x704 : Shape := ⟨3, ![8192, 4, 704]⟩
abbrev S4x8192x704 : Shape := ⟨3, ![4, 8192, 704]⟩
abbrev S8192x1024 : Shape := ⟨2, ![8192, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1x704x1024 : Shape := ⟨4, ![1, 1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x1x704x1024, .bf16⟩
  | .hbm, ⟨6, _⟩ => ⟨S8192x4x704, .bf16⟩
  | .hbm, ⟨7, _⟩ => ⟨S4x8192x704, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .bf16⟩
  | .hbm, ⟨2, _⟩ => ⟨S4x2048x1024, .f32⟩
  | .hbm, ⟨3, _⟩ => ⟨S1024, .f32⟩
  | .hbm, ⟨4, _⟩ => ⟨S4x2048x1024, .f32⟩
  | .hbm, ⟨5, _⟩ => ⟨S4x2048x2816, .f32⟩
  | .hbm, ⟨6, _⟩ => ⟨S2816x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1024, .f32⟩
  | .hbm, ⟨25, _⟩ => ⟨S4x2048x1024, .f32⟩
  | .hbm, ⟨26, _⟩ => ⟨S1x1x1024, .f32⟩
  | .hbm, ⟨27, _⟩ => ⟨S4x2048x1024, .f32⟩
  | .hbm, ⟨28, _⟩ => ⟨S4x2048x1024, .f32⟩
  | .hbm, ⟨29, _⟩ => ⟨S4x2048x1024, .f32⟩
  | .hbm, ⟨30, _⟩ => ⟨S4x2048x1024, .f32⟩
  | .hbm, ⟨31, _⟩ => ⟨S_, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S4x2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S4x2048x1024, .f32⟩
  | .hbm, ⟨51, _⟩ => ⟨S4x2048x1024, .f32⟩
  | .hbm, ⟨52, _⟩ => ⟨S4x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S4x2048x1024, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S4x2048x1024, .f32⟩
  | .hbm, ⟨65, _⟩ => ⟨S4x2048x1024, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S_, .f32⟩
  | .hbm, ⟨71, _⟩ => ⟨S4x2048, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S4x2048x1024, .f32⟩
  | .hbm, ⟨77, _⟩ => ⟨S8192x1024, .f32⟩
  | .hbm, ⟨78, _⟩ => ⟨S8192x1024, .bf16⟩
  | .hbm, ⟨79, _⟩ => ⟨S4x2048x1024, .f32⟩
  | .hbm, ⟨80, _⟩ => ⟨S_, .f32⟩
  | .hbm, ⟨81, _⟩ => ⟨S4x2048, .f32⟩
  | .hbm, ⟨82, _⟩ => ⟨S4x2048x1, .f32⟩
  | .hbm, ⟨83, _⟩ => ⟨S_, .f32⟩
  | .hbm, ⟨84, _⟩ => ⟨S4x2048x1, .f32⟩
  | .hbm, ⟨85, _⟩ => ⟨S4x2048x1, .f32⟩
  | .hbm, ⟨86, _⟩ => ⟨S_, .f32⟩
  | .hbm, ⟨87, _⟩ => ⟨S4x2048x1, .f32⟩
  | .hbm, ⟨88, _⟩ => ⟨S4x2048x1, .f32⟩
  | .hbm, ⟨89, _⟩ => ⟨S4x2048x1, .f32⟩
  | .hbm, ⟨90, _⟩ => ⟨S4x2048x1024, .f32⟩
  | .hbm, ⟨91, _⟩ => ⟨S4x2048x1024, .f32⟩
  | .hbm, ⟨92, _⟩ => ⟨S1x1x1024, .f32⟩
  | .hbm, ⟨93, _⟩ => ⟨S4x2048x1024, .f32⟩
  | .hbm, ⟨94, _⟩ => ⟨S4x2048x1024, .f32⟩
  | .hbm, ⟨95, _⟩ => ⟨S4x2048x1024, .f32⟩
  | .hbm, ⟨96, _⟩ => ⟨S4x2048x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S1x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_19 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Proof.MixMath.lean ====
/- The arithmetic of three softmax denominators over the extended reals. -/
module
public import Idealize.ShloMosaic.Lib.Pipeline.ValueKit
public import Idealize.ShloMosaic.Lib.Pointwise

@[expose] public section
noncomputable section
open Idealize.ShloMosaic Idealize.SL.Sem
namespace Cert.MixMath

/-- The largest of the three denominators, in the order the kernel takes it. -/
def peak (a b c : EReal) : EReal := max (max a b) c

/-- One denominator's exponential, shifted by the largest. -/
def term (x a b c : EReal) : EReal := Ideal.exp (x - peak a b c)

/-- The sum of the three exponentials. -/
def total (a b c : EReal) : EReal := term a a b c + term b a b c + term c a b c

/-- One group's weight. -/
def weight (x a b c : EReal) : EReal := Ideal.div (term x a b c) (total a b c)

/-- A value that is neither infinity. -/
def Fin' (x : EReal) : Prop := x ≠ ⊤ ∧ x ≠ ⊥

theorem peak_fin {a b c : EReal} (ha : Fin' a) (hb : Fin' b) (hc : Fin' c) : Fin' (peak a b c) := by
  unfold peak
  rcases max_choice (max a b) c with h | h <;> rw [h]
  · rcases max_choice a b with h' | h' <;> rw [h'] <;> assumption
  · exact hc

/-- An exponential of a difference of two reals is a positive real. -/
theorem term_pos {x a b c : EReal} (hx : Fin' x) (ha : Fin' a) (hb : Fin' b) (hc : Fin' c) :
    ∃ e : ℝ, 0 < e ∧ term x a b c = (e : EReal) := by
  have hp := peak_fin ha hb hc
  unfold term
  generalize peak a b c = p at hp
  lift x to ℝ using hx
  lift p to ℝ using hp
  exact ⟨Real.exp (x - p), Real.exp_pos _, by rw [← EReal.coe_sub, Ideal.exp_coe]⟩

/-- A nonnegative real distributes over two extended reals. -/
theorem coe_mul_add {r : ℝ} (hr : 0 ≤ r) (x y : EReal) : (r : EReal) * (x + y) = r * x + r * y :=
  EReal.left_distrib_of_nonneg_of_ne_top (by exact_mod_cast hr) (EReal.coe_ne_top r) x y

/-- A nonnegative real distributes over a sum of extended reals. -/
theorem mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, coe_mul_add hr, ih]

theorem coe_mul_assoc (a b : ℝ) (x : EReal) : (a : EReal) * ((b : EReal) * x) = ((a * b : ℝ) : EReal) * x := by
  rw [← mul_assoc, EReal.coe_mul]

/-- The gradient of the weights, less the row sum of `do * o`: the reference's quotient rule against the kernel's
    centred form. `s` is the reciprocal of the total, `e0 e1 e2` the exponentials, `C` the inner products. -/
theorem adjoint (e0 e1 e2 e : ℝ) (h0 : 0 < e0) (h1 : 0 < e1) (h2 : 0 < e2) (h : 0 < e) (C0 C1 C2 C : EReal)
    (v o : Fin 64 → EReal) (hC : C = ∑ x, v x * o x) :
    (Ideal.div C ((e0 : EReal) + e1 + e2)
        + -(C0 * Ideal.div 1 (((e0 : EReal) + e1 + e2) * ((e0 : EReal) + e1 + e2)) * e0
            + C1 * Ideal.div 1 (((e0 : EReal) + e1 + e2) * ((e0 : EReal) + e1 + e2)) * e1
            + C2 * Ideal.div 1 (((e0 : EReal) + e1 + e2) * ((e0 : EReal) + e1 + e2)) * e2)) * e
      - ∑ x, Ideal.div (e : EReal) ((e0 : EReal) + e1 + e2) * v x * o x
    = Ideal.div (e : EReal) ((e0 : EReal) + e1 + e2)
        * (C - (Ideal.div (e0 : EReal) ((e0 : EReal) + e1 + e2) * C0 + Ideal.div (e1 : EReal) ((e0 : EReal) + e1 + e2) * C1
          + Ideal.div (e2 : EReal) ((e0 : EReal) + e1 + e2) * C2))
      - Ideal.div (e : EReal) ((e0 : EReal) + e1 + e2) * C := by
  have hS : (e0 : EReal) + e1 + e2 = ((e0 + e1 + e2 : ℝ) : EReal) := by simp [EReal.coe_add]
  have hpos : 0 < e0 + e1 + e2 := by positivity
  rw [hS]
  generalize e0 + e1 + e2 = S at hpos
  have hne : S ≠ 0 := hpos.ne'
  have hne2 : S * S ≠ 0 := mul_ne_zero hne hne
  rw [← EReal.coe_mul]
  simp only [Ideal.div_coe hne, Ideal.div_coe hne2, one_mul]
  have hsum : ∑ x, (e : EReal) * ((1 / S : ℝ) : EReal) * v x * o x = ((e * (1 / S) : ℝ) : EReal) * C := by
    rw [hC, mul_sum _ (by positivity)]
    exact Finset.sum_congr rfl fun x _ => by rw [EReal.coe_mul, mul_assoc ((e : EReal) * _)]
  rw [hsum, ← EReal.coe_mul, ← EReal.coe_mul, ← EReal.coe_mul, ← EReal.coe_mul, mul_comm _ (e : EReal), sub_eq_add_neg C,
    coe_mul_add h.le, coe_mul_add (by positivity : 0 ≤ e * (1 / S)), mul_neg, mul_neg]
  congr 2
  · rw [mul_comm C, coe_mul_assoc]
  · congr 1
    rw [coe_mul_add h.le, coe_mul_add h.le,
      coe_mul_add (by positivity : 0 ≤ e * (1 / S)), coe_mul_add (by positivity : 0 ≤ e * (1 / S))]
    have key : ∀ (a : ℝ) (X : EReal), (e : EReal) * (X * ((1 / (S * S) : ℝ) : EReal) * (a : EReal))
        = ((e * (1 / S) : ℝ) : EReal) * (((a * (1 / S) : ℝ) : EReal) * X) := by
      intro a X
      rw [mul_assoc X, ← EReal.coe_mul, mul_comm X, coe_mul_assoc, coe_mul_assoc]
      congr 2
      field_simp
    rw [key, key, key]

/-- Three lanes' maximum as the reduction takes it, from minus infinity. -/
theorem fold3 (f : Fin 3 → EReal) :
    Finset.univ.fold max (⊥ : EReal) f = peak (f 0) (f 1) (f 2) := by
  unfold peak
  simp [Fin.univ_succ, Finset.fold_insert, Finset.fold_singleton, max_assoc]

/-- The reduction's initial value is minus infinity. -/
theorem neg_inf : Ideal.ofBits .f32 4286578688#32 = (⊥ : EReal) := by
  simp [Ideal.ofBits, Ideal.ieee]

/-- The padding's integer zero, converted. -/
theorem sitofp_zero : (FloatOps.sitofp .f32 (0#32) : Ideal .f32) = (0 : EReal) := by
  simp [FloatOps.sitofp]

/-- A truth bit, converted. -/
theorem uitofp_bit (p : Prop) [Decidable p] :
    (FloatOps.uitofp .bf16 (if p then 1#1 else 0#1) : Ideal .bf16) = if p then (1 : EReal) else 0 := by
  split <;> simp [FloatOps.uitofp]

/-- A row against a head's lanes: the sum over that head's 64 lanes. -/
theorem sum_head (f : Fin 1024 → EReal) (h : Fin 16) :
    ∑ x : Fin 1024, f x * (if (x : ℕ) / 64 = (h : ℕ) then (1 : EReal) else 0)
      = ∑ d : Fin 64, f ⟨(h : ℕ) * 64 + d, by omega⟩ := by
  rw [Fin.sum_univ_tiles 16 64 rfl]
  rw [Finset.sum_eq_single h]
  · refine Finset.sum_congr rfl fun d _ => ?_
    rw [if_pos (by show ((h : ℕ) * 64 + d) / 64 = h; omega), mul_one]
  · intro j _ hj
    refine Finset.sum_eq_zero fun d _ => ?_
    have : (j : ℕ) ≠ h := fun e => hj (Fin.ext e)
    rw [if_neg (by show ¬ ((j : ℕ) * 64 + d) / 64 = h; omega), mul_zero]
  · exact fun hh => absurd (Finset.mem_univ _) hh

/-- A lane past the sixteen heads meets no lane of the row. -/
theorem sum_no_head (f : Fin 1024 → EReal) (h : ℕ) (hh : 16 ≤ h) :
    ∑ x : Fin 1024, f x * (if (x : ℕ) / 64 = h then (1 : EReal) else 0) = 0 :=
  Finset.sum_eq_zero fun x _ => by rw [if_neg (by omega), mul_zero]

/-- The heads' weights spread over the lanes: a lane takes its own head's weight. -/
theorem sum_lane (f : Fin 128 → EReal) (l : Fin 1024) :
    ∑ h : Fin 128, f h * (if (l : ℕ) / 64 = (h : ℕ) then (1 : EReal) else 0) = f ⟨(l : ℕ) / 64, by omega⟩ := by
  rw [Finset.sum_eq_single (⟨(l : ℕ) / 64, by omega⟩ : Fin 128)]
  · rw [if_pos rfl, mul_one]
  · intro j _ hj
    rw [if_neg (fun e => hj (Fin.ext e.symm)), mul_zero]
  · exact fun hh => absurd (Finset.mem_univ _) hh

end Cert.MixMath
-- ==== Proof.MixSpec.lean ====
/- What the mixing's gradient is, index by index, over the extended reals. -/
module
public import proofs.«01_k».proof.Proof.MixMath

@[expose] public section
noncomputable section
open Idealize.ShloMosaic Idealize.SL.Sem
namespace Cert.MixSpec
open Cert.MixMath

/-- One group's denominators: batch, token, head. -/
abbrev Lse := FVec Ideal ⟨3, ![4, 2048, 16]⟩ .f32
/-- One group's output: batch, token, head, lane. -/
abbrev Out := FVec Ideal ⟨4, ![4, 2048, 16, 64]⟩ .bf16
/-- The cotangent: batch, token, model lane. -/
abbrev Ct := FVec Ideal ⟨3, ![4, 2048, 1024]⟩ .bf16
/-- The output projection. -/
abbrev Proj := FVec Ideal ⟨2, ![1024, 1024]⟩ .bf16

/-- The weight of the group whose denominators are `l`, among `l0 l1 l2`. -/
def wt (l l0 l1 l2 : Lse) (b : Fin 4) (s : Fin 2048) (h : Fin 16) : EReal :=
  weight (l (ix3 b s h)) (l0 (ix3 b s h)) (l1 (ix3 b s h)) (l2 (ix3 b s h))

/-- The mixed output's cotangent: the projection's transpose applied to `dx`. -/
def dv (x : Ct) (w : Proj) (b : Fin 4) (s : Fin 2048) (l : Fin 1024) : EReal :=
  ∑ k : Fin 1024, x (ix3 b s k) * w (ix2 l k)

/-- One head's inner product of the cotangent with a group's output. -/
def inner (x : Ct) (w : Proj) (o : Out) (b : Fin 4) (s : Fin 2048) (h : Fin 16) : EReal :=
  ∑ d : Fin 64, dv x w b s ⟨(h : ℕ) * 64 + d, by omega⟩ * o (ix4 b s h d)

/-- The gradient of a group's output, at a model lane. -/
def dOut (x : Ct) (w : Proj) (l l0 l1 l2 : Lse) (b : Fin 4) (s : Fin 2048) (c : Fin 1024) : EReal :=
  wt l l0 l1 l2 b s ⟨(c : ℕ) / 64, by omega⟩ * dv x w b s c

/-- The gradient of a group's denominators less the row sum of `do * o`. -/
def adj (x : Ct) (w : Proj) (o o0 o1 o2 : Out) (l l0 l1 l2 : Lse) (b : Fin 4) (s : Fin 2048) (h : Fin 16) : EReal :=
  wt l l0 l1 l2 b s h * (inner x w o b s h - (wt l0 l0 l1 l2 b s h * inner x w o0 b s h
      + wt l1 l0 l1 l2 b s h * inner x w o1 b s h + wt l2 l0 l1 l2 b s h * inner x w o2 b s h))
    - wt l l0 l1 l2 b s h * inner x w o b s h

/-- The denominators are finite everywhere. -/
def AllFin (l : Lse) : Prop := ∀ b s h, Fin' (l (ix3 b s h))

end Cert.MixSpec
-- ==== Proof.MixRefParts.lean ====
/- The reference: exponentials, cotangent and inner products at an index. -/
module
public import proofs.«01_k».proof.Proof.Gen.ReferenceIdeal.Read
public import proofs.«01_k».proof.Proof.MixSpec

@[expose] public section
set_option maxRecDepth 16384
noncomputable section
open Idealize.ShloMosaic Idealize.ShloMosaic.TcCoe Idealize.SL.Sem
namespace Cert.ReferenceIdeal.Mix
open Cert.ReferenceIdeal Cert.ReferenceIdeal.Gen Cert.ReferenceIdeal.Read Cert.MixMath Cert.MixSpec

/-- Group 0's exponential. -/
theorem e0_at (l0 l1 l2 : Lse) (b : Fin 4) (s : Fin 2048) (h : Fin 16) :
    val_main_v24 (F := Ideal) l0 l1 l2 (ix4 0 b s h) = term (l0 (ix3 b s h)) (l0 (ix3 b s h)) (l1 (ix3 b s h)) (l2 (ix3 b s h)) := by
  pointwise [val_main_v24, val_main_v23, val_main_v22, val_main_v21, val_main_v11, val_main_v10, val_main_cst_1, val_main_v4, val_main_v3, val_main_v2, val_main_v1, val_main_v0, val_main_cst]
  rw [neg_inf, fold3, max_eq_right bot_le]
  rfl

/-- Group 1's exponential. -/
theorem e1_at (l0 l1 l2 : Lse) (b : Fin 4) (s : Fin 2048) (h : Fin 16) :
    val_main_v24 (F := Ideal) l0 l1 l2 (ix4 1 b s h) = term (l1 (ix3 b s h)) (l0 (ix3 b s h)) (l1 (ix3 b s h)) (l2 (ix3 b s h)) := by
  pointwise [val_main_v24, val_main_v23, val_main_v22, val_main_v21, val_main_v11, val_main_v10, val_main_cst_1, val_main_v4, val_main_v3, val_main_v2, val_main_v1, val_main_v0, val_main_cst]
  rw [neg_inf, fold3, max_eq_right bot_le]
  rfl

/-- Group 2's exponential. -/
theorem e2_at (l0 l1 l2 : Lse) (b : Fin 4) (s : Fin 2048) (h : Fin 16) :
    val_main_v24 (F := Ideal) l0 l1 l2 (ix4 2 b s h) = term (l2 (ix3 b s h)) (l0 (ix3 b s h)) (l1 (ix3 b s h)) (l2 (ix3 b s h)) := by
  pointwise [val_main_v24, val_main_v23, val_main_v22, val_main_v21, val_main_v11, val_main_v10, val_main_cst_1, val_main_v4, val_main_v3, val_main_v2, val_main_v1, val_main_v0, val_main_cst]
  rw [neg_inf, fold3, max_eq_right bot_le]
  rfl

/-- The sum of the exponentials. -/
theorem s_at (l0 l1 l2 : Lse) (b : Fin 4) (s : Fin 2048) (h : Fin 16) :
    val_main_v26 (F := Ideal) l0 l1 l2 (ix4 0 b s h) = total (l0 (ix3 b s h)) (l1 (ix3 b s h)) (l2 (ix3 b s h)) := by
  pointwise [val_main_v26, val_main_v25, val_main_cst_7]
  rw [Fin.sum_univ_three]
  exact congrArg₂ (· + ·) (congrArg₂ (· + ·) (e0_at l0 l1 l2 b s h) (e1_at l0 l1 l2 b s h)) (e2_at l0 l1 l2 b s h)

/-- The mixed output's cotangent by heads. -/
theorem dv_at (x0 : Ct) (x1 : Proj) (b : Fin 4) (s : Fin 2048) (h : Fin 16) (d : Fin 64) :
    val_main_v57 (F := Ideal) x0 x1 (ix4 b s h d) = dv x0 x1 b s ⟨(h : ℕ) * 64 + d, by omega⟩ := by
  pointwise [val_main_v57, val_main_v56, val_main_v55, val_main_v53, dv]

/-- Group 0's inner products. -/
theorem c0_at (x0 : Ct) (x1 : Proj) (o0 o1 o2 : Out) (b : Fin 4) (s : Fin 2048) (h : Fin 16) :
    val_main_v86 (F := Ideal) x0 x1 o0 o1 o2 (ix4 0 b s h) = inner x0 x1 o0 b s h := by
  pointwise [val_main_v86, val_main_v85, val_main_v76, val_main_v75, val_main_v66, val_main_v84, val_main_v74, val_main_v65, val_main_v83, val_main_v73, val_main_v64, val_main_v81, val_main_v71, val_main_v62, val_main_v80, val_main_v70, val_main_v61, val_main_v79, val_main_v69, val_main_v60, val_main_v35, val_main_v41, val_main_v48, val_main_cst_9, val_main_cst_10, val_main_cst_11, val_main_cst_12, val_main_cst_13, val_main_cst_14, val_main_cst_15, val_main_cst_16, val_main_cst_17]
  rw [Fin.sum_univ_one]
  exact Finset.sum_congr rfl fun d _ => congrArg (· * _) (dv_at x0 x1 b s h d)

/-- Group 1's inner products. -/
theorem c1_at (x0 : Ct) (x1 : Proj) (o0 o1 o2 : Out) (b : Fin 4) (s : Fin 2048) (h : Fin 16) :
    val_main_v86 (F := Ideal) x0 x1 o0 o1 o2 (ix4 1 b s h) = inner x0 x1 o1 b s h := by
  pointwise [val_main_v86, val_main_v85, val_main_v76, val_main_v75, val_main_v66, val_main_v84, val_main_v74, val_main_v65, val_main_v83, val_main_v73, val_main_v64, val_main_v81, val_main_v71, val_main_v62, val_main_v80, val_main_v70, val_main_v61, val_main_v79, val_main_v69, val_main_v60, val_main_v35, val_main_v41, val_main_v48, val_main_cst_9, val_main_cst_10, val_main_cst_11, val_main_cst_12, val_main_cst_13, val_main_cst_14, val_main_cst_15, val_main_cst_16, val_main_cst_17]
  rw [Fin.sum_univ_one]
  exact Finset.sum_congr rfl fun d _ => congrArg (· * _) (dv_at x0 x1 b s h d)

/-- Group 2's inner products. -/
theorem c2_at (x0 : Ct) (x1 : Proj) (o0 o1 o2 : Out) (b : Fin 4) (s : Fin 2048) (h : Fin 16) :
    val_main_v86 (F := Ideal) x0 x1 o0 o1 o2 (ix4 2 b s h) = inner x0 x1 o2 b s h := by
  pointwise [val_main_v86, val_main_v85, val_main_v76, val_main_v75, val_main_v66, val_main_v84, val_main_v74, val_main_v65, val_main_v83, val_main_v73, val_main_v64, val_main_v81, val_main_v71, val_main_v62, val_main_v80, val_main_v70, val_main_v61, val_main_v79, val_main_v69, val_main_v60, val_main_v35, val_main_v41, val_main_v48, val_main_cst_9, val_main_cst_10, val_main_cst_11, val_main_cst_12, val_main_cst_13, val_main_cst_14, val_main_cst_15, val_main_cst_16, val_main_cst_17]
  rw [Fin.sum_univ_one]
  exact Finset.sum_congr rfl fun d _ => congrArg (· * _) (dv_at x0 x1 b s h d)

end Cert.ReferenceIdeal.Mix
-- ==== Proof.MixRefOut.lean ====
/- The reference: the gradients of the outputs at an index. -/
module
public import proofs.«01_k».proof.Proof.Gen.ReferenceIdeal.Read
public import proofs.«01_k».proof.Proof.MixSpec
public import proofs.«01_k».proof.Proof.MixRefParts

@[expose] public section
set_option maxRecDepth 16384
noncomputable section
open Idealize.ShloMosaic Idealize.ShloMosaic.TcCoe Idealize.SL.Sem
namespace Cert.ReferenceIdeal.Mix
open Cert.ReferenceIdeal Cert.ReferenceIdeal.Gen Cert.ReferenceIdeal.Read Cert.MixMath Cert.MixSpec

/-- The gradient of group 0's output. -/
theorem do0_at (x0 : Ct) (x1 : Proj) (l0 l1 l2 : Lse) (r : Fin 8192) (c : Fin 1024) :
    val_main_v105 (F := Ideal) x0 x1 l0 l1 l2 (ix2 r c) = dOut x0 x1 l0 l0 l1 l2 ⟨(r : ℕ) / 2048, by omega⟩ ⟨(r : ℕ) % 2048, by omega⟩ c := by
  pointwise [val_main_v105, val_main_v82, val_main_v78, val_main_v77, val_main_v34, val_main_v33, val_main_v32, val_main_v28, val_main_v27, val_main_v57, val_main_v56, val_main_v55, val_main_v53]
  unfold dOut wt weight
  exact congrArg (· * _) (congrArg₂ Ideal.div (e0_at l0 l1 l2 _ _ _) (s_at l0 l1 l2 _ _ _))

/-- The gradient of group 1's output. -/
theorem do1_at (x0 : Ct) (x1 : Proj) (l0 l1 l2 : Lse) (b : Fin 4) (r : Fin 512) (p : Fin 4) (c : Fin 1024) :
    val_main_v106 (F := Ideal) x0 x1 l0 l1 l2 (ix4 b r p c) = dOut x0 x1 l1 l0 l1 l2 b ⟨(r : ℕ) * 4 + p, by omega⟩ c := by
  pointwise [val_main_v106, val_main_v72, val_main_v68, val_main_v67, val_main_v40, val_main_v39, val_main_v38, val_main_v28, val_main_v27, val_main_v57, val_main_v56, val_main_v55, val_main_v53]
  unfold dOut wt weight
  exact congrArg (· * _) (congrArg₂ Ideal.div (e1_at l0 l1 l2 _ _ _) (s_at l0 l1 l2 _ _ _))

/-- The gradient of group 2's output. -/
theorem do2_at (x0 : Ct) (x1 : Proj) (l0 l1 l2 : Lse) (r : Fin 8192) (c : Fin 1024) :
    val_main_v107 (F := Ideal) x0 x1 l0 l1 l2 (ix2 r c) = dOut x0 x1 l2 l0 l1 l2 ⟨(r : ℕ) / 2048, by omega⟩ ⟨(r : ℕ) % 2048, by omega⟩ c := by
  pointwise [val_main_v107, val_main_v63, val_main_v59, val_main_v58, val_main_v47, val_main_v46, val_main_v45, val_main_v28, val_main_v27, val_main_v57, val_main_v56, val_main_v55, val_main_v53]
  unfold dOut wt weight
  exact congrArg (· * _) (congrArg₂ Ideal.div (e2_at l0 l1 l2 _ _ _) (s_at l0 l1 l2 _ _ _))

end Cert.ReferenceIdeal.Mix
-- ==== Proof.MixRefRule.lean ====
/- The reference: the quotient rule of the weights at an index. -/
module
public import proofs.«01_k».proof.Proof.Gen.ReferenceIdeal.Read
public import proofs.«01_k».proof.Proof.MixSpec

@[expose] public section
set_option maxRecDepth 16384
noncomputable section
open Idealize.ShloMosaic Idealize.ShloMosaic.TcCoe Idealize.SL.Sem
namespace Cert.ReferenceIdeal.Mix
open Cert.ReferenceIdeal Cert.ReferenceIdeal.Gen Cert.ReferenceIdeal.Read Cert.MixMath Cert.MixSpec

/-- The gradient of group 0's denominators. -/
theorem dl0_at (x0 : Ct) (x1 : Proj) (o0 o1 o2 : Out) (l0 l1 l2 : Lse) (b : Fin 4) (s : Fin 2048) (h : Fin 16) :
    val_main_v98 (F := Ideal) x0 x1 o0 o1 o2 l0 l1 l2 (ix4 0 b s h)
      = (Ideal.div (val_main_v86 (F := Ideal) x0 x1 o0 o1 o2 (ix4 0 b s h)) (val_main_v26 (F := Ideal) l0 l1 l2 (ix4 0 b s h))
        + -∑ x : Fin 3, val_main_v86 (F := Ideal) x0 x1 o0 o1 o2 (ix4 x b s h)
            * Ideal.div 1 (val_main_v26 (F := Ideal) l0 l1 l2 (ix4 0 b s h) * val_main_v26 (F := Ideal) l0 l1 l2 (ix4 0 b s h))
            * val_main_v24 (F := Ideal) l0 l1 l2 (ix4 x b s h))
        * val_main_v24 (F := Ideal) l0 l1 l2 (ix4 0 b s h) := by
  pointwise [val_main_v98, val_main_v97, val_main_v96, val_main_v95, val_main_v94, val_main_v93, val_main_v92, val_main_v91, val_main_v90, val_main_v89, val_main_v88, val_main_v87, val_main_v31, val_main_v30, val_main_v29, val_main_cst_8, val_main_cst_18, val_main_cst_19]
  rw [Fin.sum_univ_one]

/-- The gradient of group 1's denominators. -/
theorem dl1_at (x0 : Ct) (x1 : Proj) (o0 o1 o2 : Out) (l0 l1 l2 : Lse) (b : Fin 4) (s : Fin 2048) (h : Fin 16) :
    val_main_v98 (F := Ideal) x0 x1 o0 o1 o2 l0 l1 l2 (ix4 1 b s h)
      = (Ideal.div (val_main_v86 (F := Ideal) x0 x1 o0 o1 o2 (ix4 1 b s h)) (val_main_v26 (F := Ideal) l0 l1 l2 (ix4 0 b s h))
        + -∑ x : Fin 3, val_main_v86 (F := Ideal) x0 x1 o0 o1 o2 (ix4 x b s h)
            * Ideal.div 1 (val_main_v26 (F := Ideal) l0 l1 l2 (ix4 0 b s h) * val_main_v26 (F := Ideal) l0 l1 l2 (ix4 0 b s h))
            * val_main_v24 (F := Ideal) l0 l1 l2 (ix4 x b s h))
        * val_main_v24 (F := Ideal) l0 l1 l2 (ix4 1 b s h) := by
  pointwise [val_main_v98, val_main_v97, val_main_v96, val_main_v95, val_main_v94, val_main_v93, val_main_v92, val_main_v91, val_main_v90, val_main_v89, val_main_v88, val_main_v87, val_main_v31, val_main_v30, val_main_v29, val_main_cst_8, val_main_cst_18, val_main_cst_19]
  rw [Fin.sum_univ_one]

/-- The gradient of group 2's denominators. -/
theorem dl2_at (x0 : Ct) (x1 : Proj) (o0 o1 o2 : Out) (l0 l1 l2 : Lse) (b : Fin 4) (s : Fin 2048) (h : Fin 16) :
    val_main_v98 (F := Ideal) x0 x1 o0 o1 o2 l0 l1 l2 (ix4 2 b s h)
      = (Ideal.div (val_main_v86 (F := Ideal) x0 x1 o0 o1 o2 (ix4 2 b s h)) (val_main_v26 (F := Ideal) l0 l1 l2 (ix4 0 b s h))
        + -∑ x : Fin 3, val_main_v86 (F := Ideal) x0 x1 o0 o1 o2 (ix4 x b s h)
            * Ideal.div 1 (val_main_v26 (F := Ideal) l0 l1 l2 (ix4 0 b s h) * val_main_v26 (F := Ideal) l0 l1 l2 (ix4 0 b s h))
            * val_main_v24 (F := Ideal) l0 l1 l2 (ix4 x b s h))
        * val_main_v24 (F := Ideal) l0 l1 l2 (ix4 2 b s h) := by
  pointwise [val_main_v98, val_main_v97, val_main_v96, val_main_v95, val_main_v94, val_main_v93, val_main_v92, val_main_v91, val_main_v90, val_main_v89, val_main_v88, val_main_v87, val_main_v31, val_main_v30, val_main_v29, val_main_cst_8, val_main_cst_18, val_main_cst_19]
  rw [Fin.sum_univ_one]

end Cert.ReferenceIdeal.Mix
-- ==== Proof.MixRefAdj.lean ====
/- The reference: the padded scalars at an index. -/
module
public import proofs.«01_k».proof.Proof.Gen.ReferenceIdeal.Read
public import proofs.«01_k».proof.Proof.MixSpec
public import proofs.«01_k».proof.Proof.MixRefParts
public import proofs.«01_k».proof.Proof.MixRefRule

@[expose] public section
set_option maxRecDepth 16384
noncomputable section
open Idealize.ShloMosaic Idealize.ShloMosaic.TcCoe Idealize.SL.Sem
namespace Cert.ReferenceIdeal.Mix
open Cert.ReferenceIdeal Cert.ReferenceIdeal.Gen Cert.ReferenceIdeal.Read Cert.MixMath Cert.MixSpec

/-- Group 0's scalar at a head: the quotient rule is the centred form where the denominators are finite. -/
theorem adj0_eq (x0 : Ct) (x1 : Proj) (o0 o1 o2 : Out) (l0 l1 l2 : Lse) (h0 : AllFin l0) (h1 : AllFin l1) (h2 : AllFin l2) (b : Fin 4) (s : Fin 2048) (h : Fin 16) :
    val_main_v98 (F := Ideal) x0 x1 o0 o1 o2 l0 l1 l2 (ix4 0 b s h)
      - ∑ x, Ideal.div (val_main_v24 (F := Ideal) l0 l1 l2 (ix4 0 b s h)) (val_main_v26 (F := Ideal) l0 l1 l2 (ix4 0 b s h))
          * val_main_v57 (F := Ideal) x0 x1 (ix4 b s h x) * o0 (ix4 b s h x)
      = adj x0 x1 o0 o0 o1 o2 l0 l0 l1 l2 b s h := by
  rw [dl0_at, Fin.sum_univ_three, c0_at, c1_at, c2_at, s_at, e0_at, e1_at, e2_at]
  simp only [dv_at]
  unfold adj wt weight total
  obtain ⟨e0, p0, q0⟩ := term_pos (h0 b s h) (h0 b s h) (h1 b s h) (h2 b s h)
  obtain ⟨e1, p1, q1⟩ := term_pos (h1 b s h) (h0 b s h) (h1 b s h) (h2 b s h)
  obtain ⟨e2, p2, q2⟩ := term_pos (h2 b s h) (h0 b s h) (h1 b s h) (h2 b s h)
  rw [q0, q1, q2]
  exact adjoint e0 e1 e2 e0 p0 p1 p2 p0 _ _ _ _ _ _ rfl

/-- Group 0's scalar before the padding. -/
theorem b0_at (x0 : Ct) (x1 : Proj) (o0 o1 o2 : Out) (l0 l1 l2 : Lse) (b : Fin 4) (s : Fin 2048) (h : Fin 16) (z : EReal)
    (hz : val_main_v98 (F := Ideal) x0 x1 o0 o1 o2 l0 l1 l2 (ix4 0 b s h)
      - ∑ x, Ideal.div (val_main_v24 (F := Ideal) l0 l1 l2 (ix4 0 b s h)) (val_main_v26 (F := Ideal) l0 l1 l2 (ix4 0 b s h))
          * val_main_v57 (F := Ideal) x0 x1 (ix4 b s h x) * o0 (ix4 b s h x) = z) :
    val_main_v112 (F := Ideal) x0 x1 o0 o1 o2 l0 l1 l2 (ix3 b s h) = z := by
  pointwise [val_main_v112, val_main_v111, val_main_v110, val_main_v109, val_main_v108, val_main_v100, val_main_v99, val_main_v82, val_main_v78, val_main_v77, val_main_v34, val_main_v33, val_main_v32, val_main_v28, val_main_v27, val_main_cst_20]
  exact hz

/-- Group 0's scalar, padded to 128 lanes by zeros. -/
theorem a0_at (x0 : Ct) (x1 : Proj) (o0 o1 o2 : Out) (l0 l1 l2 : Lse) (h0 : AllFin l0) (h1 : AllFin l1) (h2 : AllFin l2) (r : Fin 8192) (c : Fin 128) (z : EReal)
    (hz : z = if hc : (c : ℕ) < 16 then adj x0 x1 o0 o0 o1 o2 l0 l0 l1 l2 ⟨(r : ℕ) / 2048, by omega⟩ ⟨(r : ℕ) % 2048, by omega⟩ ⟨c, hc⟩ else 0) :
    val_main_v114 (F := Ideal) x0 x1 o0 o1 o2 l0 l1 l2 (ix2 r c) = z := by
  pointwise [val_main_v114, val_main_call0_v0, val_main_c, val_main_v113]
  rw [hz]
  by_cases hc : (c : ℕ) < 16
  · rw [dif_pos hc, dif_pos hc]
    exact b0_at x0 x1 o0 o1 o2 l0 l1 l2 _ _ _ _ (adj0_eq x0 x1 o0 o1 o2 l0 l1 l2 h0 h1 h2 _ _ _)
  · rw [dif_neg hc, dif_neg hc]
    exact sitofp_zero

/-- Group 1's scalar at a head: the quotient rule is the centred form where the denominators are finite. -/
theorem adj1_eq (x0 : Ct) (x1 : Proj) (o0 o1 o2 : Out) (l0 l1 l2 : Lse) (h0 : AllFin l0) (h1 : AllFin l1) (h2 : AllFin l2) (b : Fin 4) (s : Fin 2048) (h : Fin 16) :
    val_main_v98 (F := Ideal) x0 x1 o0 o1 o2 l0 l1 l2 (ix4 1 b s h)
      - ∑ x, Ideal.div (val_main_v24 (F := Ideal) l0 l1 l2 (ix4 1 b s h)) (val_main_v26 (F := Ideal) l0 l1 l2 (ix4 0 b s h))
          * val_main_v57 (F := Ideal) x0 x1 (ix4 b s h x) * o1 (ix4 b s h x)
      = adj x0 x1 o1 o0 o1 o2 l1 l0 l1 l2 b s h := by
  rw [dl1_at, Fin.sum_univ_three, c0_at, c1_at, c2_at, s_at, e0_at, e1_at, e2_at]
  simp only [dv_at]
  unfold adj wt weight total
  obtain ⟨e0, p0, q0⟩ := term_pos (h0 b s h) (h0 b s h) (h1 b s h) (h2 b s h)
  obtain ⟨e1, p1, q1⟩ := term_pos (h1 b s h) (h0 b s h) (h1 b s h) (h2 b s h)
  obtain ⟨e2, p2, q2⟩ := term_pos (h2 b s h) (h0 b s h) (h1 b s h) (h2 b s h)
  rw [q0, q1, q2]
  exact adjoint e0 e1 e2 e1 p0 p1 p2 p1 _ _ _ _ _ _ rfl

/-- Group 1's scalar before the padding. -/
theorem b1_at (x0 : Ct) (x1 : Proj) (o0 o1 o2 : Out) (l0 l1 l2 : Lse) (b : Fin 4) (s : Fin 2048) (h : Fin 16) (z : EReal)
    (hz : val_main_v98 (F := Ideal) x0 x1 o0 o1 o2 l0 l1 l2 (ix4 1 b s h)
      - ∑ x, Ideal.div (val_main_v24 (F := Ideal) l0 l1 l2 (ix4 1 b s h)) (val_main_v26 (F := Ideal) l0 l1 l2 (ix4 0 b s h))
          * val_main_v57 (F := Ideal) x0 x1 (ix4 b s h x) * o1 (ix4 b s h x) = z) :
    val_main_v119 (F := Ideal) x0 x1 o0 o1 o2 l0 l1 l2 (ix3 b s h) = z := by
  pointwise [val_main_v119, val_main_v118, val_main_v117, val_main_v116, val_main_v115, val_main_v102, val_main_v101, val_main_v72, val_main_v68, val_main_v67, val_main_v40, val_main_v39, val_main_v38, val_main_v28, val_main_v27, val_main_cst_21]
  exact hz

/-- Group 1's scalar, padded to 128 lanes by zeros. -/
theorem a1_at (x0 : Ct) (x1 : Proj) (o0 o1 o2 : Out) (l0 l1 l2 : Lse) (h0 : AllFin l0) (h1 : AllFin l1) (h2 : AllFin l2) (r : Fin 8192) (c : Fin 128) (z : EReal)
    (hz : z = if hc : (c : ℕ) < 16 then adj x0 x1 o1 o0 o1 o2 l1 l0 l1 l2 ⟨(r : ℕ) / 2048, by omega⟩ ⟨(r : ℕ) % 2048, by omega⟩ ⟨c, hc⟩ else 0) :
    val_main_v121 (F := Ideal) x0 x1 o0 o1 o2 l0 l1 l2 (ix2 r c) = z := by
  pointwise [val_main_v121, val_main_call1_v0, val_main_c_22, val_main_v120]
  rw [hz]
  by_cases hc : (c : ℕ) < 16
  · rw [dif_pos hc, dif_pos hc]
    exact b1_at x0 x1 o0 o1 o2 l0 l1 l2 _ _ _ _ (adj1_eq x0 x1 o0 o1 o2 l0 l1 l2 h0 h1 h2 _ _ _)
  · rw [dif_neg hc, dif_neg hc]
    exact sitofp_zero

/-- Group 2's scalar at a head: the quotient rule is the centred form where the denominators are finite. -/
theorem adj2_eq (x0 : Ct) (x1 : Proj) (o0 o1 o2 : Out) (l0 l1 l2 : Lse) (h0 : AllFin l0) (h1 : AllFin l1) (h2 : AllFin l2) (b : Fin 4) (s : Fin 2048) (h : Fin 16) :
    val_main_v98 (F := Ideal) x0 x1 o0 o1 o2 l0 l1 l2 (ix4 2 b s h)
      - ∑ x, Ideal.div (val_main_v24 (F := Ideal) l0 l1 l2 (ix4 2 b s h)) (val_main_v26 (F := Ideal) l0 l1 l2 (ix4 0 b s h))
          * val_main_v57 (F := Ideal) x0 x1 (ix4 b s h x) * o2 (ix4 b s h x)
      = adj x0 x1 o2 o0 o1 o2 l2 l0 l1 l2 b s h := by
  rw [dl2_at, Fin.sum_univ_three, c0_at, c1_at, c2_at, s_at, e0_at, e1_at, e2_at]
  simp only [dv_at]
  unfold adj wt weight total
  obtain ⟨e0, p0, q0⟩ := term_pos (h0 b s h) (h0 b s h) (h1 b s h) (h2 b s h)
  obtain ⟨e1, p1, q1⟩ := term_pos (h1 b s h) (h0 b s h) (h1 b s h) (h2 b s h)
  obtain ⟨e2, p2, q2⟩ := term_pos (h2 b s h) (h0 b s h) (h1 b s h) (h2 b s h)
  rw [q0, q1, q2]
  exact adjoint e0 e1 e2 e2 p0 p1 p2 p2 _ _ _ _ _ _ rfl

/-- Group 2's scalar before the padding. -/
theorem b2_at (x0 : Ct) (x1 : Proj) (o0 o1 o2 : Out) (l0 l1 l2 : Lse) (b : Fin 4) (s : Fin 2048) (h : Fin 16) (z : EReal)
    (hz : val_main_v98 (F := Ideal) x0 x1 o0 o1 o2 l0 l1 l2 (ix4 2 b s h)
      - ∑ x, Ideal.div (val_main_v24 (F := Ideal) l0 l1 l2 (ix4 2 b s h)) (val_main_v26 (F := Ideal) l0 l1 l2 (ix4 0 b s h))
          * val_main_v57 (F := Ideal) x0 x1 (ix4 b s h x) * o2 (ix4 b s h x) = z) :
    val_main_v126 (F := Ideal) x0 x1 o0 o1 o2 l0 l1 l2 (ix3 b s h) = z := by
  pointwise [val_main_v126, val_main_v125, val_main_v124, val_main_v123, val_main_v122, val_main_v104, val_main_v103, val_main_v63, val_main_v59, val_main_v58, val_main_v47, val_main_v46, val_main_v45, val_main_v28, val_main_v27, val_main_cst_23]
  exact hz

/-- Group 2's scalar, padded to 128 lanes by zeros. -/
theorem a2_at (x0 : Ct) (x1 : Proj) (o0 o1 o2 : Out) (l0 l1 l2 : Lse) (h0 : AllFin l0) (h1 : AllFin l1) (h2 : AllFin l2) (r : Fin 8192) (c : Fin 128) (z : EReal)
    (hz : z = if hc : (c : ℕ) < 16 then adj x0 x1 o2 o0 o1 o2 l2 l0 l1 l2 ⟨(r : ℕ) / 2048, by omega⟩ ⟨(r : ℕ) % 2048, by omega⟩ ⟨c, hc⟩ else 0) :
    val_main_v128 (F := Ideal) x0 x1 o0 o1 o2 l0 l1 l2 (ix2 r c) = z := by
  pointwise [val_main_v128, val_main_call2_v0, val_main_c_24, val_main_v127]
  rw [hz]
  by_cases hc : (c : ℕ) < 16
  · rw [dif_pos hc, dif_pos hc]
    exact b2_at x0 x1 o0 o1 o2 l0 l1 l2 _ _ _ _ (adj2_eq x0 x1 o0 o1 o2 l0 l1 l2 h0 h1 h2 _ _ _)
  · rw [dif_neg hc, dif_neg hc]
    exact sitofp_zero

end Cert.ReferenceIdeal.Mix
-- ==== Proof.MixHost.lean ====
/- The kernel's operands as its host code prepares them, read at an index. -/
module
public import proofs.«01_k».proof.Proof.Gen.KernelIdeal.Frame
public import proofs.«01_k».proof.Proof.MixSpec

@[expose] public section
set_option maxRecDepth 16384
noncomputable section
open Idealize.ShloMosaic Idealize.ShloMosaic.TcCoe Idealize.SL.Sem
namespace Cert.KernelIdeal.Mix
open Cert.KernelIdeal Cert.KernelIdeal.Gen Cert.MixMath Cert.MixSpec

/-- A lane's head, as the host's integer floor division computes it. -/
theorem head_word : ∀ l : Fin 1024,
    Scalar.select
      (IntOp.andi
        (IntOp.cmpi CmpIPredicate.ne
          (if BitVec.ofNat 32 (l : ℕ) = 0 then 0 else if (BitVec.ofNat 32 (l : ℕ)).msb = true then -1 else 1)
          (if 64#32 = 0 then 0 else if (64#32).msb = true then -1 else (1 : BitVec 32)))
        (IntOp.cmpi CmpIPredicate.ne (IntOp.remsi ArithUnit.host (BitVec.ofNat 32 (l : ℕ)) 64#32) 0#32))
      (IntOp.subi (IntOp.divsi ArithUnit.host (BitVec.ofNat 32 (l : ℕ)) 64#32) 1#32)
      (IntOp.divsi ArithUnit.host (BitVec.ofNat 32 (l : ℕ)) 64#32)
    = BitVec.ofNat 32 ((l : ℕ) / 64) := by
  decide +kernel

/-- Comparing two small words compares the numbers. -/
theorem eq_word (a b : ℕ) (ha : a < 1024) (hb : b < 1024) :
    IntOp.cmpi CmpIPredicate.eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases hab : a = b
  · subst hab; simp [IntOp.cmpi]
  · have hn : (BitVec.ofNat 32 a == BitVec.ofNat 32 b) = false := beq_eq_false_iff_ne.mpr fun e => hab (h.mp e)
    simp [IntOp.cmpi, hab, hn]

variable (m : (ℓ : Loc nD τ sig) → Buf (Elt Ideal) ℓ) (c : Dev nD)

/-- Group 0's denominators, padded to 128 lanes. -/
theorem V_lse0 (r : Fin 8192) (l : Fin 128) :
    (V m c main_v4 : FVec Ideal S8192x128 .f32) (ix2 r l)
      = if hc : (l : ℕ) < 16 then (m ((c : Thread nD τ).loc main_arg5) : Lse) (ix3 ⟨(r : ℕ) / 2048, by omega⟩ ⟨(r : ℕ) % 2048, by omega⟩ ⟨l, hc⟩) else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  simp only [StableHlo.TRef.toBuf, StableHlo.TRef.ofBuf, StableHlo.TRef.of, cast_eq]
  pointwise
  by_cases hc : (l : ℕ) < 16
  · rw [dif_pos hc, dif_pos hc]
  · rw [dif_neg hc, dif_neg hc]; exact sitofp_zero

/-- Group 1's denominators, padded to 128 lanes. -/
theorem V_lse1 (r : Fin 8192) (l : Fin 128) :
    (V m c main_v6 : FVec Ideal S8192x128 .f32) (ix2 r l)
      = if hc : (l : ℕ) < 16 then (m ((c : Thread nD τ).loc main_arg6) : Lse) (ix3 ⟨(r : ℕ) / 2048, by omega⟩ ⟨(r : ℕ) % 2048, by omega⟩ ⟨l, hc⟩) else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  simp only [StableHlo.TRef.toBuf, StableHlo.TRef.ofBuf, StableHlo.TRef.of, cast_eq]
  pointwise
  by_cases hc : (l : ℕ) < 16
  · rw [dif_pos hc, dif_pos hc]
  · rw [dif_neg hc, dif_neg hc]; exact sitofp_zero

/-- Group 2's denominators, padded to 128 lanes. -/
theorem V_lse2 (r : Fin 8192) (l : Fin 128) :
    (V m c main_v8 : FVec Ideal S8192x128 .f32) (ix2 r l)
      = if hc : (l : ℕ) < 16 then (m ((c : Thread nD τ).loc main_arg7) : Lse) (ix3 ⟨(r : ℕ) / 2048, by omega⟩ ⟨(r : ℕ) % 2048, by omega⟩ ⟨l, hc⟩) else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  simp only [StableHlo.TRef.toBuf, StableHlo.TRef.ofBuf, StableHlo.TRef.of, cast_eq]
  pointwise
  by_cases hc : (l : ℕ) < 16
  · rw [dif_pos hc, dif_pos hc]
  · rw [dif_neg hc, dif_neg hc]; exact sitofp_zero

/-- The head expander: one where the lane belongs to the head. -/
theorem V_e (h : Fin 128) (l : Fin 1024) :
    (V m c main_v18 : FVec Ideal S128x1024 .bf16) (ix2 h l) = if (l : ℕ) / 64 = (h : ℕ) then (1 : EReal) else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  simp only [StableHlo.TRef.toBuf, StableHlo.TRef.ofBuf, StableHlo.TRef.of, cast_eq]
  pointwise
  exact (congrArg (FloatOps.uitofp .bf16) ((congrArg (IntOp.cmpi CmpIPredicate.eq · _) (head_word l)).trans
    (eq_word _ _ (by omega) (by omega)))).trans (uitofp_bit _)

/-- The head expander: one where the lane belongs to the head. -/
theorem V_et (h : Fin 128) (l : Fin 1024) :
    (V m c main_v19 : FVec Ideal S1024x128 .bf16) (ix2 l h) = if (l : ℕ) / 64 = (h : ℕ) then (1 : EReal) else 0 := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  simp only [StableHlo.TRef.ofBuf_toBuf]
  simp only [StableHlo.TRef.toBuf, StableHlo.TRef.ofBuf, StableHlo.TRef.of, cast_eq]
  pointwise
  exact (congrArg (FloatOps.uitofp .bf16) ((congrArg (IntOp.cmpi CmpIPredicate.eq · _) (head_word l)).trans
    (eq_word _ _ (by omega) (by omega)))).trans (uitofp_bit _)

/-- A group's output, its heads side by side. -/
theorem V_o0 (r : Fin 8192) (l : Fin 1024) :
    (V m c main_v0 : FVec Ideal S8192x1024 .bf16) (ix2 r l)
      = (m ((c : Thread nD τ).loc main_arg2) : Out) (ix4 ⟨(r : ℕ) / 2048, by omega⟩ ⟨(r : ℕ) % 2048, by omega⟩ ⟨(l : ℕ) / 64, by omega⟩ ⟨(l : ℕ) % 64, by omega⟩) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- A group's output, its heads side by side. -/
theorem V_o2 (r : Fin 8192) (l : Fin 1024) :
    (V m c main_v2 : FVec Ideal S8192x1024 .bf16) (ix2 r l)
      = (m ((c : Thread nD τ).loc main_arg4) : Out) (ix4 ⟨(r : ℕ) / 2048, by omega⟩ ⟨(r : ℕ) % 2048, by omega⟩ ⟨(l : ℕ) / 64, by omega⟩ ⟨(l : ℕ) % 64, by omega⟩) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- Group 1's output, its tokens in rows of four. -/
theorem V_o1 (b : Fin 4) (r : Fin 512) (p : Fin 4) (l : Fin 1024) :
    (V m c main_v1 : FVec Ideal S4x512x4x1024 .bf16) (ix4 b r p l)
      = (m ((c : Thread nD τ).loc main_arg3) : Out) (ix4 b ⟨(r : ℕ) * 4 + p, by omega⟩ ⟨(l : ℕ) / 64, by omega⟩ ⟨(l : ℕ) % 64, by omega⟩) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

/-- The cotangent, one token to a row. -/
theorem V_dx (r : Fin 8192) (l : Fin 1024) :
    (V m c main_v9 : FVec Ideal S8192x1024 .bf16) (ix2 r l)
      = (m ((c : Thread nD τ).loc main_arg0) : Ct) (ix3 ⟨(r : ℕ) / 2048, by omega⟩ ⟨(r : ℕ) % 2048, by omega⟩ l) := by
  simp only [V, hostOps0, hostOps0_1, hostOps0_2, hostOps0_3, hostOps0_4, hostOps0_5, hostOps0_6, hostOps0_7, hostOps0_8,
    List.flatten_cons, List.flatten_nil, List.append_nil, List.cons_append, List.nil_append]
  entry_read
  pointwise

end Cert.KernelIdeal.Mix
-- ==== Proof.MixKer.lean ====
/- One grid point's payloads, read at an index, over the blocks it stages. -/
module
public import proofs.«01_k».proof.Proof.Gen.KernelIdeal.Frame
public import proofs.«01_k».proof.Proof.MixSpec

@[expose] public section
set_option maxRecDepth 16384
noncomputable section
open Idealize.ShloMosaic Idealize.ShloMosaic.TcCoe Idealize.SL.Sem
namespace Cert.KernelIdeal.Mix
open Cert.KernelIdeal Cert.KernelIdeal.Gen Cert.MixMath Cert.MixSpec

/-- What the ten staged blocks hold: the rows of 512 tokens, token `r` being `(b r, s r)`. -/
structure Staged (dx : Ct) (w : Proj) (o0 o1 o2 : Out) (l0 l1 l2 : Lse) (b : Fin 512 → Fin 4) (s : Fin 512 → Fin 2048)
    (x0 : FVec Ideal S512x1024 .bf16) (x1 : FVec Ideal S1024x1024 .bf16) (x2 : FVec Ideal S512x1024 .bf16)
    (x3 : FVec Ideal S1x128x4x1024 .bf16) (x4 : FVec Ideal S512x1024 .bf16) (x5 x6 x7 : FVec Ideal S512x128 .f32)
    (x8 : FVec Ideal S128x1024 .bf16) (x9 : FVec Ideal S1024x128 .bf16) : Prop where
  h0 : ∀ r k, x0 (ix2 r k) = dx (ix3 (b r) (s r) k)
  h1 : ∀ l k, x1 (ix2 l k) = w (ix2 l k)
  h2 : ∀ (r : Fin 512) (l : Fin 1024), x2 (ix2 r l) = o0 (ix4 (b r) (s r) ⟨(l : ℕ) / 64, by omega⟩ ⟨(l : ℕ) % 64, by omega⟩)
  h3 : ∀ (r : Fin 512) (l : Fin 1024), x3 (ix4 0 ⟨(r : ℕ) / 4, by omega⟩ ⟨(r : ℕ) % 4, by omega⟩ l)
    = o1 (ix4 (b r) (s r) ⟨(l : ℕ) / 64, by omega⟩ ⟨(l : ℕ) % 64, by omega⟩)
  h4 : ∀ (r : Fin 512) (l : Fin 1024), x4 (ix2 r l) = o2 (ix4 (b r) (s r) ⟨(l : ℕ) / 64, by omega⟩ ⟨(l : ℕ) % 64, by omega⟩)
  h5 : ∀ (r : Fin 512) (h : Fin 128), x5 (ix2 r h) = if hc : (h : ℕ) < 16 then l0 (ix3 (b r) (s r) ⟨h, hc⟩) else (0 : EReal)
  h6 : ∀ (r : Fin 512) (h : Fin 128), x6 (ix2 r h) = if hc : (h : ℕ) < 16 then l1 (ix3 (b r) (s r) ⟨h, hc⟩) else (0 : EReal)
  h7 : ∀ (r : Fin 512) (h : Fin 128), x7 (ix2 r h) = if hc : (h : ℕ) < 16 then l2 (ix3 (b r) (s r) ⟨h, hc⟩) else (0 : EReal)
  h8 : ∀ (h : Fin 128) (l : Fin 1024), x8 (ix2 h l) = if (l : ℕ) / 64 = (h : ℕ) then (1 : EReal) else 0
  h9 : ∀ (h : Fin 128) (l : Fin 1024), x9 (ix2 l h) = if (l : ℕ) / 64 = (h : ℕ) then (1 : EReal) else 0

variable {dx : Ct} {w : Proj} {o0 o1 o2 : Out} {l0 l1 l2 : Lse} {b : Fin 512 → Fin 4} {s : Fin 512 → Fin 2048}
  {x0 : FVec Ideal S512x1024 .bf16} {x1 : FVec Ideal S1024x1024 .bf16} {x2 : FVec Ideal S512x1024 .bf16}
  {x3 : FVec Ideal S1x128x4x1024 .bf16} {x4 : FVec Ideal S512x1024 .bf16} {x5 x6 x7 : FVec Ideal S512x128 .f32}
  {x8 : FVec Ideal S128x1024 .bf16} {x9 : FVec Ideal S1024x128 .bf16}

/-- The mixed output's cotangent of a block. -/
theorem Staged.dv (H : Staged dx w o0 o1 o2 l0 l1 l2 b s x0 x1 x2 x3 x4 x5 x6 x7 x8 x9) (r : Fin 512) (l : Fin 1024) :
    k0_pay15 (F := Ideal) x0 x1 (ix2 r l) = MixSpec.dv dx w (b r) (s r) l := by
  pointwise [k0_pay15]
  exact Finset.sum_congr rfl fun k _ => congrArg₂ (· * ·) (H.h0 r k) (H.h1 l k)

/-- Group 0's weight at a head. -/
theorem Staged.w0 (H : Staged dx w o0 o1 o2 l0 l1 l2 b s x0 x1 x2 x3 x4 x5 x6 x7 x8 x9) (r : Fin 512) (h : Fin 128) (hc : (h : ℕ) < 16) :
    k0_pay12 (F := Ideal) x5 x6 x7 (ix2 r h) = wt l0 l0 l1 l2 (b r) (s r) ⟨h, hc⟩ := by
  have e5 := (H.h5 r h).trans (dif_pos hc)
  have e6 := (H.h6 r h).trans (dif_pos hc)
  have e7 := (H.h7 r h).trans (dif_pos hc)
  pointwise [k0_pay12, k0_pay11, k0_pay10, k0_pay9, k0_pay8, k0_pay7, k0_pay6, k0_pay5, k0_pay4]
  rw [e5, e6, e7]
  rfl

/-- Group 1's weight at a head. -/
theorem Staged.w1 (H : Staged dx w o0 o1 o2 l0 l1 l2 b s x0 x1 x2 x3 x4 x5 x6 x7 x8 x9) (r : Fin 512) (h : Fin 128) (hc : (h : ℕ) < 16) :
    k0_pay13 (F := Ideal) x5 x6 x7 (ix2 r h) = wt l1 l0 l1 l2 (b r) (s r) ⟨h, hc⟩ := by
  have e5 := (H.h5 r h).trans (dif_pos hc)
  have e6 := (H.h6 r h).trans (dif_pos hc)
  have e7 := (H.h7 r h).trans (dif_pos hc)
  pointwise [k0_pay13, k0_pay11, k0_pay10, k0_pay9, k0_pay8, k0_pay7, k0_pay6, k0_pay5, k0_pay4]
  rw [e5, e6, e7]
  rfl

/-- Group 2's weight at a head. -/
theorem Staged.w2 (H : Staged dx w o0 o1 o2 l0 l1 l2 b s x0 x1 x2 x3 x4 x5 x6 x7 x8 x9) (r : Fin 512) (h : Fin 128) (hc : (h : ℕ) < 16) :
    k0_pay14 (F := Ideal) x5 x6 x7 (ix2 r h) = wt l2 l0 l1 l2 (b r) (s r) ⟨h, hc⟩ := by
  have e5 := (H.h5 r h).trans (dif_pos hc)
  have e6 := (H.h6 r h).trans (dif_pos hc)
  have e7 := (H.h7 r h).trans (dif_pos hc)
  pointwise [k0_pay14, k0_pay11, k0_pay10, k0_pay9, k0_pay8, k0_pay7, k0_pay6, k0_pay5, k0_pay4]
  rw [e5, e6, e7]
  rfl

/-- The gradient of group 0's output over a block. -/
theorem Staged.do0 (H : Staged dx w o0 o1 o2 l0 l1 l2 b s x0 x1 x2 x3 x4 x5 x6 x7 x8 x9) (r : Fin 512) (l : Fin 1024) :
    k0_pay21 (F := Ideal) (k0_pay12 x5 x6 x7) (k0_pay15 x0 x1) x8 (ix2 r l) = dOut dx w l0 l0 l1 l2 (b r) (s r) l := by
  pointwise [k0_pay21]
  simp only [H.h8]
  rw [sum_lane (fun h => k0_pay12 (F := Ideal) x5 x6 x7 (ix2 r h)) l]
  exact congrArg₂ (· * ·) (H.w0 r ⟨(l : ℕ) / 64, by omega⟩ (by show (l : ℕ) / 64 < 16; omega)) (H.dv r l)

/-- The gradient of group 2's output over a block. -/
theorem Staged.do2 (H : Staged dx w o0 o1 o2 l0 l1 l2 b s x0 x1 x2 x3 x4 x5 x6 x7 x8 x9) (r : Fin 512) (l : Fin 1024) :
    k0_pay2 (F := Ideal) (k0_pay14 x5 x6 x7) (k0_pay15 x0 x1) x8 (ix2 r l) = dOut dx w l2 l0 l1 l2 (b r) (s r) l := by
  pointwise [k0_pay2]
  simp only [H.h8]
  rw [sum_lane (fun h => k0_pay14 (F := Ideal) x5 x6 x7 (ix2 r h)) l]
  exact congrArg₂ (· * ·) (H.w2 r ⟨(l : ℕ) / 64, by omega⟩ (by show (l : ℕ) / 64 < 16; omega)) (H.dv r l)

/-- The gradient of group 1's output over a block, its rows in fours. -/
theorem Staged.do1 (H : Staged dx w o0 o1 o2 l0 l1 l2 b s x0 x1 x2 x3 x4 x5 x6 x7 x8 x9) (a : Fin 1) (r : Fin 128) (p : Fin 4) (l : Fin 1024) :
    k0_pay23 (F := Ideal) (k0_pay13 x5 x6 x7) (k0_pay15 x0 x1) x8 (ix4 a r p l)
      = dOut dx w l1 l0 l1 l2 (b ⟨(r : ℕ) * 4 + p, by omega⟩) (s ⟨(r : ℕ) * 4 + p, by omega⟩) l := by
  pointwise [k0_pay23]
  simp only [H.h8]
  rw [sum_lane (fun h => k0_pay13 (F := Ideal) x5 x6 x7 (ix2 ⟨(r : ℕ) * 4 + p, by omega⟩ h)) l]
  exact congrArg₂ (· * ·) (H.w1 _ ⟨(l : ℕ) / 64, by omega⟩ (by show (l : ℕ) / 64 < 16; omega)) (H.dv _ l)

/-- A head's sum of products over the row is that head's inner product. -/
theorem sum_inner (o : Out) (b : Fin 4) (s : Fin 2048) (h : Fin 128) (hc : (h : ℕ) < 16) :
    ∑ x : Fin 1024, MixSpec.dv dx w b s x * o (ix4 b s ⟨(x : ℕ) / 64, by omega⟩ ⟨(x : ℕ) % 64, by omega⟩)
        * (if (x : ℕ) / 64 = (h : ℕ) then (1 : EReal) else 0) = inner dx w o b s ⟨h, hc⟩ := by
  rw [sum_head (fun x => MixSpec.dv dx w b s x * o (ix4 b s ⟨(x : ℕ) / 64, by omega⟩ ⟨(x : ℕ) % 64, by omega⟩)) ⟨h, hc⟩]
  refine Finset.sum_congr rfl fun d _ => congrArg (MixSpec.dv dx w b s _ * ·) (congrArg o ?_)
  have e1 : (⟨((h : ℕ) * 64 + (d : ℕ)) / 64, by omega⟩ : Fin 16) = ⟨h, hc⟩ := Fin.ext (by show ((h : ℕ) * 64 + (d : ℕ)) / 64 = h; omega)
  have e2 : (⟨((h : ℕ) * 64 + (d : ℕ)) % 64, by omega⟩ : Fin 64) = d := Fin.ext (by show ((h : ℕ) * 64 + (d : ℕ)) % 64 = d; omega)
  exact congrArg₂ (fun u v => ix4 b s u v) e1 e2

/-- Group 0's inner products over a block: a sum over one head's lanes. -/
theorem Staged.s0 (H : Staged dx w o0 o1 o2 l0 l1 l2 b s x0 x1 x2 x3 x4 x5 x6 x7 x8 x9) (r : Fin 512) (h : Fin 128) :
    k0_pay16 (F := Ideal) x0 x1 x2 x9 (ix2 r h)
      = ∑ x : Fin 1024, MixSpec.dv dx w (b r) (s r) x * o0 (ix4 (b r) (s r) ⟨(x : ℕ) / 64, by omega⟩ ⟨(x : ℕ) % 64, by omega⟩)
        * (if (x : ℕ) / 64 = (h : ℕ) then (1 : EReal) else 0) := by
  pointwise [k0_pay16]
  exact Finset.sum_congr rfl fun x _ => congrArg₂ (· * ·) (congrArg₂ (· * ·) (H.dv r x) (H.h2 r x)) (H.h9 h x)

theorem Staged.c0 (H : Staged dx w o0 o1 o2 l0 l1 l2 b s x0 x1 x2 x3 x4 x5 x6 x7 x8 x9) (r : Fin 512) (h : Fin 128) (hc : (h : ℕ) < 16) :
    k0_pay16 (F := Ideal) x0 x1 x2 x9 (ix2 r h) = inner dx w o0 (b r) (s r) ⟨h, hc⟩ :=
  (H.s0 r h).trans (sum_inner o0 _ _ h hc)

theorem Staged.z0 (H : Staged dx w o0 o1 o2 l0 l1 l2 b s x0 x1 x2 x3 x4 x5 x6 x7 x8 x9) (r : Fin 512) (h : Fin 128) (hc : 16 ≤ (h : ℕ)) :
    k0_pay16 (F := Ideal) x0 x1 x2 x9 (ix2 r h) = (0 : EReal) :=
  (H.s0 r h).trans (sum_no_head _ _ hc)

/-- Group 1's inner products over a block: a sum over one head's lanes. -/
theorem Staged.s1 (H : Staged dx w o0 o1 o2 l0 l1 l2 b s x0 x1 x2 x3 x4 x5 x6 x7 x8 x9) (r : Fin 512) (h : Fin 128) :
    k0_pay18 (F := Ideal) (k0_pay17 x0 x1 x3) x9 (ix2 r h)
      = ∑ x : Fin 1024, MixSpec.dv dx w (b r) (s r) x * o1 (ix4 (b r) (s r) ⟨(x : ℕ) / 64, by omega⟩ ⟨(x : ℕ) % 64, by omega⟩)
        * (if (x : ℕ) / 64 = (h : ℕ) then (1 : EReal) else 0) := by
  pointwise [k0_pay18, k0_pay17]
  exact Finset.sum_congr rfl fun x _ => congrArg₂ (· * ·) (congrArg₂ (· * ·) (H.dv r x) (H.h3 r x)) (H.h9 h x)

theorem Staged.c1 (H : Staged dx w o0 o1 o2 l0 l1 l2 b s x0 x1 x2 x3 x4 x5 x6 x7 x8 x9) (r : Fin 512) (h : Fin 128) (hc : (h : ℕ) < 16) :
    k0_pay18 (F := Ideal) (k0_pay17 x0 x1 x3) x9 (ix2 r h) = inner dx w o1 (b r) (s r) ⟨h, hc⟩ :=
  (H.s1 r h).trans (sum_inner o1 _ _ h hc)

theorem Staged.z1 (H : Staged dx w o0 o1 o2 l0 l1 l2 b s x0 x1 x2 x3 x4 x5 x6 x7 x8 x9) (r : Fin 512) (h : Fin 128) (hc : 16 ≤ (h : ℕ)) :
    k0_pay18 (F := Ideal) (k0_pay17 x0 x1 x3) x9 (ix2 r h) = (0 : EReal) :=
  (H.s1 r h).trans (sum_no_head _ _ hc)

/-- Group 2's inner products over a block: a sum over one head's lanes. -/
theorem Staged.s2 (H : Staged dx w o0 o1 o2 l0 l1 l2 b s x0 x1 x2 x3 x4 x5 x6 x7 x8 x9) (r : Fin 512) (h : Fin 128) :
    k0_pay19 (F := Ideal) (k0_pay15 x0 x1) x4 x9 (ix2 r h)
      = ∑ x : Fin 1024, MixSpec.dv dx w (b r) (s r) x * o2 (ix4 (b r) (s r) ⟨(x : ℕ) / 64, by omega⟩ ⟨(x : ℕ) % 64, by omega⟩)
        * (if (x : ℕ) / 64 = (h : ℕ) then (1 : EReal) else 0) := by
  pointwise [k0_pay19]
  exact Finset.sum_congr rfl fun x _ => congrArg₂ (· * ·) (congrArg₂ (· * ·) (H.dv r x) (H.h4 r x)) (H.h9 h x)

theorem Staged.c2 (H : Staged dx w o0 o1 o2 l0 l1 l2 b s x0 x1 x2 x3 x4 x5 x6 x7 x8 x9) (r : Fin 512) (h : Fin 128) (hc : (h : ℕ) < 16) :
    k0_pay19 (F := Ideal) (k0_pay15 x0 x1) x4 x9 (ix2 r h) = inner dx w o2 (b r) (s r) ⟨h, hc⟩ :=
  (H.s2 r h).trans (sum_inner o2 _ _ h hc)

theorem Staged.z2 (H : Staged dx w o0 o1 o2 l0 l1 l2 b s x0 x1 x2 x3 x4 x5 x6 x7 x8 x9) (r : Fin 512) (h : Fin 128) (hc : 16 ≤ (h : ℕ)) :
    k0_pay19 (F := Ideal) (k0_pay15 x0 x1) x4 x9 (ix2 r h) = (0 : EReal) :=
  (H.s2 r h).trans (sum_no_head _ _ hc)

/-- The weighted mean of the inner products, as the block computes it. -/
theorem mean_at (r : Fin 512) (h : Fin 128) :
    k0_pay20 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h)
      = k0_pay12 (F := Ideal) x5 x6 x7 (ix2 r h) * k0_pay16 (F := Ideal) x0 x1 x2 x9 (ix2 r h)
        + k0_pay13 (F := Ideal) x5 x6 x7 (ix2 r h) * k0_pay18 (F := Ideal) (k0_pay17 x0 x1 x3) x9 (ix2 r h)
        + k0_pay14 (F := Ideal) x5 x6 x7 (ix2 r h) * k0_pay19 (F := Ideal) (k0_pay15 x0 x1) x4 x9 (ix2 r h) := by
  pointwise [k0_pay20]

/-- Group 0's scalar over a block. -/
theorem Staged.a0 (H : Staged dx w o0 o1 o2 l0 l1 l2 b s x0 x1 x2 x3 x4 x5 x6 x7 x8 x9) (r : Fin 512) (h : Fin 128) :
    k0_pay22 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h)
      = if hc : (h : ℕ) < 16 then adj dx w o0 o0 o1 o2 l0 l0 l1 l2 (b r) (s r) ⟨h, hc⟩ else 0 := by
  have e : k0_pay22 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h)
      = k0_pay12 (F := Ideal) x5 x6 x7 (ix2 r h) * (k0_pay16 (F := Ideal) x0 x1 x2 x9 (ix2 r h) - k0_pay20 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h))
        - k0_pay12 (F := Ideal) x5 x6 x7 (ix2 r h) * k0_pay16 (F := Ideal) x0 x1 x2 x9 (ix2 r h) := by
    pointwise [k0_pay22]
  refine e.trans ?_
  rw [mean_at]
  by_cases hc : (h : ℕ) < 16
  · rw [dif_pos hc, H.w0 r h hc, H.w1 r h hc, H.w2 r h hc, H.c0 r h hc, H.c1 r h hc, H.c2 r h hc]
    rfl
  · rw [dif_neg hc, H.z0 r h (by omega), H.z1 r h (by omega), H.z2 r h (by omega)]
    simp

/-- Group 1's scalar over a block. -/
theorem Staged.a1 (H : Staged dx w o0 o1 o2 l0 l1 l2 b s x0 x1 x2 x3 x4 x5 x6 x7 x8 x9) (r : Fin 512) (h : Fin 128) :
    k0_pay1 (F := Ideal) (k0_pay13 x5 x6 x7) (k0_pay18 (k0_pay17 x0 x1 x3) x9) (k0_pay20 (k0_pay12 x5 x6 x7) (k0_pay13 x5 x6 x7) (k0_pay14 x5 x6 x7) (k0_pay15 x0 x1) (k0_pay16 x0 x1 x2 x9) (k0_pay17 x0 x1 x3) x9 x4 x9) (ix2 r h)
      = if hc : (h : ℕ) < 16 then adj dx w o1 o0 o1 o2 l1 l0 l1 l2 (b r) (s r) ⟨h, hc⟩ else 0 := by
  have e : k0_pay1 (F := Ideal) (k0_pay13 x5 x6 x7) (k0_pay18 (k0_pay17 x0 x1 x3) x9) (k0_pay20 (k0_pay12 x5 x6 x7) (k0_pay13 x5 x6 x7) (k0_pay14 x5 x6 x7) (k0_pay15 x0 x1) (k0_pay16 x0 x1 x2 x9) (k0_pay17 x0 x1 x3) x9 x4 x9) (ix2 r h)
      = k0_pay13 (F := Ideal) x5 x6 x7 (ix2 r h) * (k0_pay18 (F := Ideal) (k0_pay17 x0 x1 x3) x9 (ix2 r h) - k0_pay20 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h))
        - k0_pay13 (F := Ideal) x5 x6 x7 (ix2 r h) * k0_pay18 (F := Ideal) (k0_pay17 x0 x1 x3) x9 (ix2 r h) := by
    pointwise [k0_pay1]
  refine e.trans ?_
  rw [mean_at]
  by_cases hc : (h : ℕ) < 16
  · rw [dif_pos hc, H.w0 r h hc, H.w1 r h hc, H.w2 r h hc, H.c0 r h hc, H.c1 r h hc, H.c2 r h hc]
    rfl
  · rw [dif_neg hc, H.z0 r h (by omega), H.z1 r h (by omega), H.z2 r h (by omega)]
    simp

/-- Group 2's scalar over a block. -/
theorem Staged.a2 (H : Staged dx w o0 o1 o2 l0 l1 l2 b s x0 x1 x2 x3 x4 x5 x6 x7 x8 x9) (r : Fin 512) (h : Fin 128) :
    k0_pay3 (F := Ideal) (k0_pay14 x5 x6 x7) (k0_pay19 (k0_pay15 x0 x1) x4 x9) (k0_pay20 (k0_pay12 x5 x6 x7) (k0_pay13 x5 x6 x7) (k0_pay14 x5 x6 x7) (k0_pay15 x0 x1) (k0_pay16 x0 x1 x2 x9) (k0_pay17 x0 x1 x3) x9 x4 x9) (ix2 r h)
      = if hc : (h : ℕ) < 16 then adj dx w o2 o0 o1 o2 l2 l0 l1 l2 (b r) (s r) ⟨h, hc⟩ else 0 := by
  have e : k0_pay3 (F := Ideal) (k0_pay14 x5 x6 x7) (k0_pay19 (k0_pay15 x0 x1) x4 x9) (k0_pay20 (k0_pay12 x5 x6 x7) (k0_pay13 x5 x6 x7) (k0_pay14 x5 x6 x7) (k0_pay15 x0 x1) (k0_pay16 x0 x1 x2 x9) (k0_pay17 x0 x1 x3) x9 x4 x9) (ix2 r h)
      = k0_pay14 (F := Ideal) x5 x6 x7 (ix2 r h) * (k0_pay19 (F := Ideal) (k0_pay15 x0 x1) x4 x9 (ix2 r h) - k0_pay20 (F := Ideal) (k0_pay12 x5 x6 x7) (k0_pay13 x5 x6 x7) (k0_pay14 x5 x6 x7) (k0_pay15 x0 x1) (k0_pay16 x0 x1 x2 x9) (k0_pay17 x0 x1 x3) x9 x4 x9 (ix2 r h))
        - k0_pay14 (F := Ideal) x5 x6 x7 (ix2 r h) * k0_pay19 (F := Ideal) (k0_pay15 x0 x1) x4 x9 (ix2 r h) := by
    pointwise [k0_pay3]
  refine e.trans ?_
  rw [mean_at]
  by_cases hc : (h : ℕ) < 16
  · rw [dif_pos hc, H.w0 r h hc, H.w1 r h hc, H.w2 r h hc, H.c0 r h hc, H.c1 r h hc, H.c2 r h hc]
    rfl
  · rw [dif_neg hc, H.z0 r h (by omega), H.z1 r h (by omega), H.z2 r h (by omega)]
    simp

end Cert.KernelIdeal.Mix
-- ==== Proof.MixBlk.lean ====
/- The blocks the grid stages, read as the operands' elements. -/
module
public import proofs.«01_k».proof.Proof.MixHost
public import proofs.«01_k».proof.Proof.MixKer
public import proofs.«01_k».proof.Proof.MixKer
public import proofs.«01_k».proof.Proof.MixKer
public import Idealize.ShloMosaic.Lib.Pipeline.ValueKit

@[expose] public section
set_option maxRecDepth 16384
noncomputable section
open Idealize.ShloMosaic Idealize.ShloMosaic.TcCoe Idealize.SL.Sem
namespace Cert.KernelIdeal.Mix
open Cert.KernelIdeal Cert.KernelIdeal.Gen Cert.MixMath Cert.MixSpec

/-- Which block every window stages at a grid point. -/
theorem idx : ∀ t : Fin cfg0.N, t.val < 16
    ∧ win0_0.index t = ![t.val, 0] ∧ win0_1.index t = ![0, 0] ∧ win0_2.index t = ![t.val, 0]
    ∧ win0_3.index t = ![t.val / 4, t.val % 4, 0, 0] ∧ win0_4.index t = ![t.val, 0]
    ∧ win0_5.index t = ![t.val, 0] ∧ win0_6.index t = ![t.val, 0] ∧ win0_7.index t = ![t.val, 0]
    ∧ win0_8.index t = ![0, 0] ∧ win0_9.index t = ![0, 0]
    ∧ win0_10.index t = ![t.val, 0] ∧ win0_11.index t = ![t.val / 4, t.val % 4, 0, 0] ∧ win0_12.index t = ![t.val, 0]
    ∧ win0_13.index t = ![t.val, 0] ∧ win0_14.index t = ![t.val, 0] ∧ win0_15.index t = ![t.val, 0] :=
  (by decide +kernel : ∀ t : Fin grid0.N, _)

variable (m : (ℓ : Loc nD τ sig) → Buf (Elt Ideal) ℓ) (c : Dev nD)

/-- The token row of a block's row. -/
abbrev row (t : Fin cfg0.N) (r : Fin 512) : Fin 8192 := ⟨t.val * 512 + r, by have := (idx t).1; omega⟩

/-- The cotangent's block. -/
theorem blk0 (t : Fin cfg0.N) (r : Fin 512) (k : Fin 1024) :
    (iblk m c 0 t : FVec Ideal S512x1024 .bf16) (ix2 r k) = (V m c main_v9 : FVec Ideal S8192x1024 .bf16) (ix2 (row t r) k) := by
  blk_ext! [iblk, idx t]

/-- Group 0's output's block. -/
theorem blk2 (t : Fin cfg0.N) (r : Fin 512) (k : Fin 1024) :
    (iblk m c 2 t : FVec Ideal S512x1024 .bf16) (ix2 r k) = (V m c main_v0 : FVec Ideal S8192x1024 .bf16) (ix2 (row t r) k) := by
  blk_ext! [iblk, idx t]

/-- Group 2's output's block. -/
theorem blk4 (t : Fin cfg0.N) (r : Fin 512) (k : Fin 1024) :
    (iblk m c 4 t : FVec Ideal S512x1024 .bf16) (ix2 r k) = (V m c main_v2 : FVec Ideal S8192x1024 .bf16) (ix2 (row t r) k) := by
  blk_ext! [iblk, idx t]

/-- Group 0's denominators' block. -/
theorem blk5 (t : Fin cfg0.N) (r : Fin 512) (k : Fin 128) :
    (iblk m c 5 t : FVec Ideal S512x128 .f32) (ix2 r k) = (V m c main_v4 : FVec Ideal S8192x128 .f32) (ix2 (row t r) k) := by
  blk_ext! [iblk, idx t]

/-- Group 1's denominators' block. -/
theorem blk6 (t : Fin cfg0.N) (r : Fin 512) (k : Fin 128) :
    (iblk m c 6 t : FVec Ideal S512x128 .f32) (ix2 r k) = (V m c main_v6 : FVec Ideal S8192x128 .f32) (ix2 (row t r) k) := by
  blk_ext! [iblk, idx t]

/-- Group 2's denominators' block. -/
theorem blk7 (t : Fin cfg0.N) (r : Fin 512) (k : Fin 128) :
    (iblk m c 7 t : FVec Ideal S512x128 .f32) (ix2 r k) = (V m c main_v8 : FVec Ideal S8192x128 .f32) (ix2 (row t r) k) := by
  blk_ext! [iblk, idx t]

/-- The projection's block is the projection. -/
theorem blk1 (t : Fin cfg0.N) (l k : Fin 1024) :
    (iblk m c 1 t : FVec Ideal S1024x1024 .bf16) (ix2 l k) = (V m c main_arg1 : FVec Ideal S1024x1024 .bf16) (ix2 l k) := by
  blk_ext! [iblk, idx t]

/-- The head expander's block. -/
theorem blk8 (t : Fin cfg0.N) (l : Fin 128) (k : Fin 1024) :
    (iblk m c 8 t : FVec Ideal S128x1024 .bf16) (ix2 l k) = (V m c main_v18 : FVec Ideal S128x1024 .bf16) (ix2 l k) := by
  blk_ext! [iblk, idx t]

/-- The transposed head expander's block. -/
theorem blk9 (t : Fin cfg0.N) (l : Fin 1024) (k : Fin 128) :
    (iblk m c 9 t : FVec Ideal S1024x128 .bf16) (ix2 l k) = (V m c main_v19 : FVec Ideal S1024x128 .bf16) (ix2 l k) := by
  blk_ext! [iblk, idx t]

/-- Group 1's output's block. -/
theorem blk3 (t : Fin cfg0.N) (a : Fin 1) (r : Fin 128) (p : Fin 4) (k : Fin 1024) :
    (iblk m c 3 t : FVec Ideal S1x128x4x1024 .bf16) (ix4 a r p k) = (V m c main_v1 : FVec Ideal S4x512x4x1024 .bf16) (ix4 ⟨t.val / 4, by have := (idx t).1; omega⟩ ⟨t.val % 4 * 128 + r, by omega⟩ p k) := by
  blk_ext! [iblk, idx t]

/-- A block row's batch. -/
abbrev bat (t : Fin cfg0.N) (r : Fin 512) : Fin 4 := ⟨(t.val * 512 + r) / 2048, by have := (idx t).1; omega⟩
/-- A block row's token. -/
abbrev tok (t : Fin cfg0.N) (r : Fin 512) : Fin 2048 := ⟨(t.val * 512 + r) % 2048, by omega⟩

/-- What a grid point stages is what the spec reads. -/
theorem staged (t : Fin cfg0.N) :
    Staged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bat t) (tok t)
      (iblk m c 0 t) (iblk m c 1 t) (iblk m c 2 t) (iblk m c 3 t) (iblk m c 4 t) (iblk m c 5 t) (iblk m c 6 t) (iblk m c 7 t) (iblk m c 8 t) (iblk m c 9 t) where
  h0 r k := (blk0 m c t r k).trans (V_dx m c _ _)
  h1 l k := (blk1 m c t l k).trans (congrFun (V_main_arg1 m c) _)
  h2 r l := (blk2 m c t r l).trans (V_o0 m c _ _)
  h3 r l := by
    refine (blk3 m c t 0 _ _ l).trans ((V_o1 m c _ _ _ _).trans (congrArg (m ((c : Thread nD τ).loc main_arg3) : Out) ?_))
    have ht := (idx t).1
    have e1 : (⟨t.val / 4, by omega⟩ : Fin 4) = bat t r := Fin.ext (by show t.val / 4 = (t.val * 512 + r) / 2048; omega)
    have e2 : (⟨(t.val % 4 * 128 + (r : ℕ) / 4) * 4 + (r : ℕ) % 4, by omega⟩ : Fin 2048) = tok t r :=
      Fin.ext (by show (t.val % 4 * 128 + (r : ℕ) / 4) * 4 + (r : ℕ) % 4 = (t.val * 512 + r) % 2048; omega)
    exact congrArg₂ (fun u v => ix4 u v (⟨(l : ℕ) / 64, by omega⟩ : Fin 16) (⟨(l : ℕ) % 64, by omega⟩ : Fin 64)) e1 e2
  h4 r l := (blk4 m c t r l).trans (V_o2 m c _ _)
  h5 r h := (blk5 m c t r h).trans (V_lse0 m c _ _)
  h6 r h := (blk6 m c t r h).trans (V_lse1 m c _ _)
  h7 r h := (blk7 m c t r h).trans (V_lse2 m c _ _)
  h8 h l := (blk8 m c t h l).trans (V_e m c h l)
  h9 h l := (blk9 m c t l h).trans (V_et m c h l)

end Cert.KernelIdeal.Mix
-- ==== Proof.MixFinal.lean ====
/- The kernel's six result arrays, whole. -/
module
public import proofs.«01_k».proof.Proof.MixBlk

@[expose] public section
set_option maxRecDepth 16384
noncomputable section
open Idealize.ShloMosaic Idealize.ShloMosaic.TcCoe Idealize.SL.Sem
namespace Cert.KernelIdeal.Mix
open Cert.KernelIdeal Cert.KernelIdeal.Gen Cert.MixMath Cert.MixSpec
variable (m : (ℓ : Loc nD τ sig) → Buf (Elt Ideal) ℓ) (c : Dev nD)

/-- An index of a rank-two shape from its coordinates. -/
theorem at2 {A B : ℕ} {X : Type} (f g : (⟨2, ![A, B]⟩ : Shape).Idx → X) (h : ∀ r l, f (ix2 r l) = g (ix2 r l)) (y) : f y = g y := by
  rw [eq_ix2 y]; exact h _ _
/-- An index of a rank-four shape from its coordinates. -/
theorem at4 {A B C D : ℕ} {X : Type} (f g : (⟨4, ![A, B, C, D]⟩ : Shape).Idx → X) (h : ∀ a r p l, f (ix4 a r p l) = g (ix4 a r p l)) (y) : f y = g y := by
  rw [eq_ix4 y]; exact h _ _ _ _

/-- The gradient of group 0's output, as an array. -/
def G10 : FVec Ideal S8192x1024 .bf16 := fun j =>
  dOut (m ((c : Thread nD τ).loc main_arg0)) (m ((c : Thread nD τ).loc main_arg1)) (m ((c : Thread nD τ).loc main_arg5)) (m ((c : Thread nD τ).loc main_arg5)) (m ((c : Thread nD τ).loc main_arg6)) (m ((c : Thread nD τ).loc main_arg7)) (⟨(show Fin 8192 from j 0).val / 2048, by omega⟩ : Fin 4) (⟨(show Fin 8192 from j 0).val % 2048, by omega⟩ : Fin 2048) (show Fin 1024 from j 1)

/-- Every grid point writes its block of that array. -/
theorem final10 : (dats m 0 c).arrAt 10 cfg0.N = G10 m c := by
  refine (dats m 0 c).arrAt_eq_of_covers 10 _ (by decide +kernel) fun t _ y => ?_
  blk_simp
  rw [after0_10]
  frame_out
  simp only [k0_pay24, k0_pay27]
  frame_out
  refine at2 _ (fun y => G10 m c (((View.whole main_v20_0).slice (win0_10.rect t)).emb y)) (fun r l => ?_) y
  have he : (((View.whole main_v20_0).slice (win0_10.rect t)).emb (ix2 r l : S512x1024.Idx)) = (ix2 (row t r) l : S8192x1024.Idx) := by
    blk_ext! [idx t]
  exact ((staged m c t).do0 r l).trans (congrArg (G10 m c) he).symm

/-- The gradient of group 2's output, as an array. -/
def G12 : FVec Ideal S8192x1024 .bf16 := fun j =>
  dOut (m ((c : Thread nD τ).loc main_arg0)) (m ((c : Thread nD τ).loc main_arg1)) (m ((c : Thread nD τ).loc main_arg7)) (m ((c : Thread nD τ).loc main_arg5)) (m ((c : Thread nD τ).loc main_arg6)) (m ((c : Thread nD τ).loc main_arg7)) (⟨(show Fin 8192 from j 0).val / 2048, by omega⟩ : Fin 4) (⟨(show Fin 8192 from j 0).val % 2048, by omega⟩ : Fin 2048) (show Fin 1024 from j 1)

/-- Every grid point writes its block of that array. -/
theorem final12 : (dats m 0 c).arrAt 12 cfg0.N = G12 m c := by
  refine (dats m 0 c).arrAt_eq_of_covers 12 _ (by decide +kernel) fun t _ y => ?_
  blk_simp
  rw [after0_12]
  frame_out
  simp only [k0_pay26, k0_pay27]
  frame_out
  refine at2 _ (fun y => G12 m c (((View.whole main_v20_2).slice (win0_12.rect t)).emb y)) (fun r l => ?_) y
  have he : (((View.whole main_v20_2).slice (win0_12.rect t)).emb (ix2 r l : S512x1024.Idx)) = (ix2 (row t r) l : S8192x1024.Idx) := by
    blk_ext! [idx t]
  exact ((staged m c t).do2 r l).trans (congrArg (G12 m c) he).symm

/-- The gradient of group 1's output, as an array. -/
def G11 : FVec Ideal S4x512x4x1024 .bf16 := fun j =>
  dOut (m ((c : Thread nD τ).loc main_arg0)) (m ((c : Thread nD τ).loc main_arg1)) (m ((c : Thread nD τ).loc main_arg6)) (m ((c : Thread nD τ).loc main_arg5)) (m ((c : Thread nD τ).loc main_arg6)) (m ((c : Thread nD τ).loc main_arg7)) (show Fin 4 from j 0) (⟨(show Fin 512 from j 1).val * 4 + (show Fin 4 from j 2).val, by omega⟩ : Fin 2048) (show Fin 1024 from j 3)

/-- Every grid point writes its block of that array. -/
theorem final11 : (dats m 0 c).arrAt 11 cfg0.N = G11 m c := by
  refine (dats m 0 c).arrAt_eq_of_covers 11 _ (by decide +kernel) fun t _ y => ?_
  blk_simp
  rw [after0_11]
  frame_out
  simp only [k0_pay25, k0_pay27]
  frame_out
  refine at4 _ (fun y => G11 m c (((View.whole main_v20_1).slice (win0_11.rect t)).emb y)) (fun q r p l => ?_) y
  have he : (((View.whole main_v20_1).slice (win0_11.rect t)).emb (ix4 q r p l : S1x128x4x1024.Idx))
      = (ix4 ⟨t.val / 4, by have := (idx t).1; omega⟩ ⟨t.val % 4 * 128 + r, by omega⟩ p l : S4x512x4x1024.Idx) := by
    blk_ext! [idx t]
  refine ((staged m c t).do1 q r p l).trans (Eq.trans ?_ (congrArg (G11 m c) he).symm)
  have ht := (idx t).1
  have e1 : bat t ⟨(r : ℕ) * 4 + p, by omega⟩ = (⟨t.val / 4, by omega⟩ : Fin 4) :=
    Fin.ext (by show (t.val * 512 + ((r : ℕ) * 4 + p)) / 2048 = t.val / 4; omega)
  have e2 : tok t ⟨(r : ℕ) * 4 + p, by omega⟩ = (⟨(t.val % 4 * 128 + (r : ℕ)) * 4 + p, by omega⟩ : Fin 2048) :=
    Fin.ext (by show (t.val * 512 + ((r : ℕ) * 4 + p)) % 2048 = (t.val % 4 * 128 + (r : ℕ)) * 4 + p; omega)
  exact congrArg₂ (fun u v => dOut (m ((c : Thread nD τ).loc main_arg0)) (m ((c : Thread nD τ).loc main_arg1)) (m ((c : Thread nD τ).loc main_arg6)) (m ((c : Thread nD τ).loc main_arg5)) (m ((c : Thread nD τ).loc main_arg6)) (m ((c : Thread nD τ).loc main_arg7)) u v l) e1 e2

/-- Group 0's scalar, as an array padded to 128 lanes. -/
def G13 : FVec Ideal S8192x128 .f32 := fun j =>
  if hc : (show Fin 128 from j 1).val < 16 then
    adj (m ((c : Thread nD τ).loc main_arg0)) (m ((c : Thread nD τ).loc main_arg1)) (m ((c : Thread nD τ).loc main_arg2)) (m ((c : Thread nD τ).loc main_arg2)) (m ((c : Thread nD τ).loc main_arg3)) (m ((c : Thread nD τ).loc main_arg4)) (m ((c : Thread nD τ).loc main_arg5)) (m ((c : Thread nD τ).loc main_arg5)) (m ((c : Thread nD τ).loc main_arg6)) (m ((c : Thread nD τ).loc main_arg7))
      (⟨(show Fin 8192 from j 0).val / 2048, by omega⟩ : Fin 4) (⟨(show Fin 8192 from j 0).val % 2048, by omega⟩ : Fin 2048) ⟨(show Fin 128 from j 1).val, hc⟩
  else (0 : EReal)

/-- Every grid point writes its block of that array. -/
theorem final13 : (dats m 0 c).arrAt 13 cfg0.N = G13 m c := by
  refine (dats m 0 c).arrAt_eq_of_covers 13 _ (by decide +kernel) fun t _ y => ?_
  blk_simp
  rw [after0_13]
  frame_out
  simp only [k0_pay24, k0_pay25, k0_pay26, k0_pay27, k0_pay28, k0_pay29]
  frame_out
  refine at2 _ (fun y => G13 m c (((View.whole main_v20_3).slice (win0_13.rect t)).emb y)) (fun r l => ?_) y
  have he : (((View.whole main_v20_3).slice (win0_13.rect t)).emb (ix2 r l : S512x128.Idx)) = (ix2 (row t r) l : S8192x128.Idx) := by
    blk_ext! [idx t]
  exact ((staged m c t).a0 r l).trans (congrArg (G13 m c) he).symm

/-- Group 1's scalar, as an array padded to 128 lanes. -/
def G14 : FVec Ideal S8192x128 .f32 := fun j =>
  if hc : (show Fin 128 from j 1).val < 16 then
    adj (m ((c : Thread nD τ).loc main_arg0)) (m ((c : Thread nD τ).loc main_arg1)) (m ((c : Thread nD τ).loc main_arg3)) (m ((c : Thread nD τ).loc main_arg2)) (m ((c : Thread nD τ).loc main_arg3)) (m ((c : Thread nD τ).loc main_arg4)) (m ((c : Thread nD τ).loc main_arg6)) (m ((c : Thread nD τ).loc main_arg5)) (m ((c : Thread nD τ).loc main_arg6)) (m ((c : Thread nD τ).loc main_arg7))
      (⟨(show Fin 8192 from j 0).val / 2048, by omega⟩ : Fin 4) (⟨(show Fin 8192 from j 0).val % 2048, by omega⟩ : Fin 2048) ⟨(show Fin 128 from j 1).val, hc⟩
  else (0 : EReal)

/-- Every grid point writes its block of that array. -/
theorem final14 : (dats m 0 c).arrAt 14 cfg0.N = G14 m c := by
  refine (dats m 0 c).arrAt_eq_of_covers 14 _ (by decide +kernel) fun t _ y => ?_
  blk_simp
  rw [after0_14]
  frame_out
  simp only [k0_pay24, k0_pay25, k0_pay26, k0_pay27, k0_pay28, k0_pay29, k0_pay30]
  frame_out
  refine at2 _ (fun y => G14 m c (((View.whole main_v20_4).slice (win0_14.rect t)).emb y)) (fun r l => ?_) y
  have he : (((View.whole main_v20_4).slice (win0_14.rect t)).emb (ix2 r l : S512x128.Idx)) = (ix2 (row t r) l : S8192x128.Idx) := by
    blk_ext! [idx t]
  exact ((staged m c t).a1 r l).trans (congrArg (G14 m c) he).symm

/-- Group 2's scalar, as an array padded to 128 lanes. -/
def G15 : FVec Ideal S8192x128 .f32 := fun j =>
  if hc : (show Fin 128 from j 1).val < 16 then
    adj (m ((c : Thread nD τ).loc main_arg0)) (m ((c : Thread nD τ).loc main_arg1)) (m ((c : Thread nD τ).loc main_arg4)) (m ((c : Thread nD τ).loc main_arg2)) (m ((c : Thread nD τ).loc main_arg3)) (m ((c : Thread nD τ).loc main_arg4)) (m ((c : Thread nD τ).loc main_arg7)) (m ((c : Thread nD τ).loc main_arg5)) (m ((c : Thread nD τ).loc main_arg6)) (m ((c : Thread nD τ).loc main_arg7))
      (⟨(show Fin 8192 from j 0).val / 2048, by omega⟩ : Fin 4) (⟨(show Fin 8192 from j 0).val % 2048, by omega⟩ : Fin 2048) ⟨(show Fin 128 from j 1).val, hc⟩
  else (0 : EReal)

/-- Every grid point writes its block of that array. -/
theorem final15 : (dats m 0 c).arrAt 15 cfg0.N = G15 m c := by
  refine (dats m 0 c).arrAt_eq_of_covers 15 _ (by decide +kernel) fun t _ y => ?_
  blk_simp
  rw [after0_15]
  frame_out
  simp only [k0_pay24, k0_pay25, k0_pay26, k0_pay27, k0_pay28, k0_pay29, k0_pay30]
  frame_out
  refine at2 _ (fun y => G15 m c (((View.whole main_v20_5).slice (win0_15.rect t)).emb y)) (fun r l => ?_) y
  have he : (((View.whole main_v20_5).slice (win0_15.rect t)).emb (ix2 r l : S512x128.Idx)) = (ix2 (row t r) l : S8192x128.Idx) := by
    blk_ext! [idx t]
  exact ((staged m c t).a2 r l).trans (congrArg (G15 m c) he).symm

end Cert.KernelIdeal.Mix
-- ==== Proof.MixJoin.lean ====
/- The reference's results are the arrays the kernel writes. -/
module
public import proofs.«01_k».proof.Proof.Gen.Pre_finite
public import proofs.«01_k».proof.Proof.MixRefOut
public import proofs.«01_k».proof.Proof.MixRefAdj
public import proofs.«01_k».proof.Proof.MixFinal

@[expose] public section
set_option maxRecDepth 16384
noncomputable section
open Idealize.ShloMosaic Idealize.ShloMosaic.TcCoe Idealize.SL.Sem
namespace Cert.KernelIdeal.Mix
open Cert.KernelIdeal Cert.KernelIdeal.Gen Cert.MixMath Cert.MixSpec

/-- The word of infinity. -/
theorem pos_inf : Ideal.ofBits .f32 0x7F800000#32 = (⊤ : EReal) := by
  simp [Ideal.ofBits, Ideal.ieee]

/-- An array that passes the comparison of the precondition is finite. -/
theorem allFin_of_pre (l : Lse)
    (h : cmpf .olt (Host.absf l) (broadcastInDim Cert.Pre_finite.S4x2048x16 ![] Cert.Pre_finite.Facts.bcast_S_S4x2048x16 (constant (F := Ideal) Cert.Pre_finite.S_ .f32 0x7F800000#32)) = fun _ => 1#1) : AllFin l := by
  intro b s h'
  have e := congrFun h (ix3 b s h')
  have e' : Ideal.cmp .olt (max (l (ix3 b s h') : EReal) (-(l (ix3 b s h') : EReal))) (Ideal.ofBits .f32 0x7F800000#32) = 1 := e
  rw [Ideal.cmp_olt_eq_one, pos_inf] at e'
  constructor
  · intro hx; rw [hx] at e'; exact absurd e' (by simp)
  · intro hx; rw [hx] at e'; exact absurd e' (by simp)

variable (m : (ℓ : Loc nD τ sig) → Buf (Elt Ideal) ℓ) (c : Dev nD)

/-- Result 105 of the reference. -/
theorem ref10 : Cert.ReferenceIdeal.Read.val_main_v105 (F := Ideal) (m ((c : Thread nD τ).loc main_arg0)) (m ((c : Thread nD τ).loc main_arg1)) (m ((c : Thread nD τ).loc main_arg5)) (m ((c : Thread nD τ).loc main_arg6)) (m ((c : Thread nD τ).loc main_arg7)) = G10 m c :=
  funext (at2 _ _ fun r l => Cert.ReferenceIdeal.Mix.do0_at _ _ _ _ _ r l)

/-- Result 107 of the reference. -/
theorem ref12 : Cert.ReferenceIdeal.Read.val_main_v107 (F := Ideal) (m ((c : Thread nD τ).loc main_arg0)) (m ((c : Thread nD τ).loc main_arg1)) (m ((c : Thread nD τ).loc main_arg5)) (m ((c : Thread nD τ).loc main_arg6)) (m ((c : Thread nD τ).loc main_arg7)) = G12 m c :=
  funext (at2 _ _ fun r l => Cert.ReferenceIdeal.Mix.do2_at _ _ _ _ _ r l)

/-- Result 106 of the reference. -/
theorem ref11 : Cert.ReferenceIdeal.Read.val_main_v106 (F := Ideal) (m ((c : Thread nD τ).loc main_arg0)) (m ((c : Thread nD τ).loc main_arg1)) (m ((c : Thread nD τ).loc main_arg5)) (m ((c : Thread nD τ).loc main_arg6)) (m ((c : Thread nD τ).loc main_arg7)) = G11 m c :=
  funext (at4 _ _ fun b r p l => Cert.ReferenceIdeal.Mix.do1_at _ _ _ _ _ b r p l)

/-- Result 114 of the reference. -/
theorem ref13 (h5 : AllFin (m ((c : Thread nD τ).loc main_arg5))) (h6 : AllFin (m ((c : Thread nD τ).loc main_arg6))) (h7 : AllFin (m ((c : Thread nD τ).loc main_arg7))) :
    Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = G13 m c :=
  funext (at2 _ _ fun r l => Cert.ReferenceIdeal.Mix.a0_at _ _ _ _ _ _ _ _ h5 h6 h7 r l _ rfl)

/-- Result 121 of the reference. -/
theorem ref14 (h5 : AllFin (m ((c : Thread nD τ).loc main_arg5))) (h6 : AllFin (m ((c : Thread nD τ).loc main_arg6))) (h7 : AllFin (m ((c : Thread nD τ).loc main_arg7))) :
    Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = G14 m c :=
  funext (at2 _ _ fun r l => Cert.ReferenceIdeal.Mix.a1_at _ _ _ _ _ _ _ _ h5 h6 h7 r l _ rfl)

/-- Result 128 of the reference. -/
theorem ref15 (h5 : AllFin (m ((c : Thread nD τ).loc main_arg5))) (h6 : AllFin (m ((c : Thread nD τ).loc main_arg6))) (h7 : AllFin (m ((c : Thread nD τ).loc main_arg7))) :
    Cert.ReferenceIdeal.Read.val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = G15 m c :=
  funext (at2 _ _ fun r l => Cert.ReferenceIdeal.Mix.a2_at _ _ _ _ _ _ _ _ h5 h6 h7 r l _ rfl)

end Cert.KernelIdeal.Mix
end
-- ==== Proof.GradStep.lean ====
/- One grid step of a feed-forward weight's gradient: a block of rows times a block of columns, added to a running sum. -/
module
public import proofs.«01_k».proof.Proof.Gen.Kernel2Ideal.Frame
public import Idealize.ShloMosaic.Lib.Pointwise
public import Idealize.ShloMosaic.Lib.Pipeline.ValueKit
public import Idealize.ShloMosaic.Lib.Tactic

@[expose] public section
set_option maxRecDepth 16384
noncomputable section
open Idealize.ShloMosaic Idealize.ShloMosaic.TcCoe Idealize.SL.Sem
namespace Cert.Kernel2Ideal.Grad
open Cert.Kernel2Ideal Cert.Kernel2Ideal.Gen

variable {F : FTy → Type} [FloatOps F]

/-- Two zero offsets. -/
theorem off2 : (![0, 0] : Fin 2 → Nat) = fun _ => 0 := funext fun a => by fin_cases a <;> rfl

/-- Three zero offsets. -/
theorem off3 : (![0, 0, 0] : Fin 3 → Nat) = fun _ => 0 := funext fun a => by fin_cases a <;> rfl

variable (c : Dev nD) (i : grid0.Coords) (a3 : Memref sig .tc .vmem S1x2048x704 .bf16) (h3 : a3.IsWhole)
  (a4 : Memref sig .tc .vmem S2048x1024 .bf16) (h4 : a4.IsWhole) (a5 : Memref sig .tc .vmem S1x704x1024 .bf16) (h5 : a5.IsWhole)
  (a6 : Memref sig .tc .vmem S704x1024 .f32) (h6 : a6.IsWhole)
  (x0 : Vec F S1x2048x704 .bf16) (x1 : Vec F S2048x1024 .bf16) (xs : Vec F S704x1024 .f32)

/-- The first step of a chip's run starts from zero. -/
theorem step_first (hc0 : cond0_0 i) (hc1 : ¬cond0_1 i) :
    sout0_A_0 c i a3 h3 a4 h4 a5 h5 a6 h6 hc0 hc1 x0 x1 = k0_pay2 x0 k0_pay1 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S704x1024) off2, View.readCov_unit_zero (S := S704x1024) _ off2]
  simp only [View.readAt_eq_ld, h3.read_unread, h4.read_unread, View.ld_unit_zero (S := S1x2048x704) off3, View.ld_unit_zero (S := S2048x1024) off2]

/-- A middle step adds to what the step before left. -/
theorem step_mid (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S704x1024) off2]
  simp only [View.readAt_eq_ld, h3.read_unread, h4.read_unread, h6.read_unread, View.ld_unit_zero (S := S1x2048x704) off3, View.ld_unit_zero (S := S2048x1024) off2, View.ld_unit_zero (S := S704x1024) off2]

/-- The last step adds its product and writes the sum out. -/
theorem step_last (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1x704x1024) off3, View.readCov_unit_zero (S := S704x1024) _ off2]
  simp only [View.readAt_eq_ld, h3.read_unread, h4.read_unread, h6.read_unread, View.ld_unit_zero (S := S1x2048x704) off3, View.ld_unit_zero (S := S2048x1024) off2, View.ld_unit_zero (S := S704x1024) off2]

end Cert.Kernel2Ideal.Grad
end
-- ==== Proof.GradVal.lean ====
/- The running sum of a feed-forward weight's gradient, read at an index. -/
module
public import proofs.«01_k».proof.Proof.GradStep

@[expose] public section
set_option maxRecDepth 16384
noncomputable section
open Idealize.ShloMosaic Idealize.ShloMosaic.TcCoe Idealize.SL.Sem
namespace Cert.Kernel2Ideal.Grad
open Cert.Kernel2Ideal Cert.Kernel2Ideal.Gen

/-- A step's product, added to the running sum. -/
theorem step_apply (x0 : FVec Ideal S1x2048x704 .bf16) (xs : FVec Ideal S704x1024 .f32) (x1 : FVec Ideal S2048x1024 .bf16)
    (f : Fin 704) (d : Fin 1024) :
    k0_pay2 (F := Ideal) x0 xs x1 (ix2 f d) = xs (ix2 f d) + ∑ k : Fin 2048, x0 (ix3 (0 : Fin 1) k f) * x1 (ix2 k d) := by
  generalize hz : xs (ix2 f d) + ∑ k : Fin 2048, x0 (ix3 (0 : Fin 1) k f) * x1 (ix2 k d) = z
  pointwise [k0_pay2]
  rw [← hz]

/-- The reset's block is zero. -/
theorem zero_apply (f : Fin 704) (d : Fin 1024) : (k0_pay1 : FVec Ideal S704x1024 .f32) (ix2 f d) = 0 := by
  pointwise [k0_pay1]

/-- The block written out is the running sum. -/
theorem cast_apply (xs : FVec Ideal S704x1024 .f32) (a : Fin 1) (f : Fin 704) (d : Fin 1024) :
    k0_pay3 (F := Ideal) xs (ix3 a f d) = xs (ix2 f d) := by
  pointwise [k0_pay3]

variable (m : (ℓ : Loc nD τ sig) → Buf (Elt Ideal) ℓ) (c : Dev nD)

/-- Which block every window stages at a grid point. -/
theorem idx : ∀ t : Fin cfg0.N, t.val < 16 ∧ win0_0.index t = ![t.val / 4, t.val % 4, 0] ∧ win0_1.index t = ![t.val % 4, 0]
    ∧ win0_2.index t = ![t.val / 4, 0, 0] :=
  (by decide +kernel : ∀ t : Fin grid0.N, _)

/-- The rows' operand. -/
theorem V_rows (q : Fin 4) (r : Fin 8192) (f : Fin 704) :
    (V m c main_v1 : FVec Ideal S4x8192x704 .bf16) (ix3 q r f)
      = (m ((c : Thread nD τ).loc main_arg0) : FVec Ideal S4x2048x2816 .bf16)
          (ix3 (⟨r / 2048, by omega⟩ : Fin 4) (⟨r % 2048, by omega⟩ : Fin 2048) (⟨q * 704 + f, by omega⟩ : Fin 2816)) := by
  entry_read
  pointwise

/-- The columns' operand. -/
theorem V_cols (r : Fin 8192) (d : Fin 1024) :
    (V m c main_v2 : FVec Ideal S8192x1024 .bf16) (ix2 r d)
      = (m ((c : Thread nD τ).loc main_arg1) : FVec Ideal S4x2048x1024 .bf16)
          (ix3 (⟨r / 2048, by omega⟩ : Fin 4) (⟨r % 2048, by omega⟩ : Fin 2048) d) := by
  entry_read
  pointwise

/-- The rows' block: sequence `s` of chip `q`'s slice. -/
theorem rows_blk (t : Fin cfg0.N) (q s : Fin 4) (hq : t.val = 4 * q.val + s.val) (a : Fin 1) (k : Fin 2048) (f : Fin 704) :
    (iblk m c 0 t : FVec Ideal S1x2048x704 .bf16) (ix3 a k f)
      = (m ((c : Thread nD τ).loc main_arg0) : FVec Ideal S4x2048x2816 .bf16) (ix3 s k (⟨q * 704 + f, by omega⟩ : Fin 2816)) := by
  have h : (iblk m c 0 t : FVec Ideal S1x2048x704 .bf16) (ix3 a k f)
      = (V m c main_v1 : FVec Ideal S4x8192x704 .bf16) (ix3 (⟨t.val / 4, by have := (idx t).1; omega⟩ : Fin 4) (⟨t.val % 4 * 2048 + k, by omega⟩ : Fin 8192) f) := by
    blk_ext! [iblk, idx t]
  rw [h, V_rows]
  congr 1
  congr 1 <;> apply Fin.ext <;> dsimp only <;> omega

/-- The columns' block: sequence `s`. -/
theorem cols_blk (t : Fin cfg0.N) (q s : Fin 4) (hq : t.val = 4 * q.val + s.val) (k : Fin 2048) (d : Fin 1024) :
    (iblk m c 1 t : FVec Ideal S2048x1024 .bf16) (ix2 k d)
      = (m ((c : Thread nD τ).loc main_arg1) : FVec Ideal S4x2048x1024 .bf16) (ix3 s k d) := by
  have h : (iblk m c 1 t : FVec Ideal S2048x1024 .bf16) (ix2 k d)
      = (V m c main_v2 : FVec Ideal S8192x1024 .bf16) (ix2 (⟨t.val % 4 * 2048 + k, by omega⟩ : Fin 8192) d) := by
    blk_ext! [iblk, idx t]
  rw [h, V_cols]
  congr 1
  congr 1 <;> apply Fin.ext <;> dsimp only <;> omega

/-- One sequence's part of the gradient. -/
def part (A : FVec Ideal S4x2048x2816 .bf16) (B : FVec Ideal S4x2048x1024 .bf16) (s : Fin 4) (f : Fin 2816) (d : Fin 1024) : EReal :=
  ∑ k : Fin 2048, A (ix3 s k f) * B (ix3 s k d)

/-- A weight's gradient: the sum of the sequences' parts. -/
def grad (A : FVec Ideal S4x2048x2816 .bf16) (B : FVec Ideal S4x2048x1024 .bf16) (f : Fin 2816) (d : Fin 1024) : EReal :=
  ∑ s : Fin 4, part A B s f d

/-- A step at sequence `s` adds that sequence's part. -/
theorem step_blk (t : Fin cfg0.N) (q s : Fin 4) (hq : t.val = 4 * q.val + s.val) (xs : FVec Ideal S704x1024 .f32) (f : Fin 704) (d : Fin 1024) :
    k0_pay2 (F := Ideal) (iblk m c 0 t) xs (iblk m c 1 t) (ix2 f d)
      = xs (ix2 f d) + part (m ((c : Thread nD τ).loc main_arg0)) (m ((c : Thread nD τ).loc main_arg1)) s (⟨q * 704 + f, by omega⟩ : Fin 2816) d := by
  rw [step_apply]
  unfold part
  congr 1
  refine Finset.sum_congr rfl fun k _ => ?_
  rw [rows_blk m c t q s hq, cols_blk m c t q s hq]

end Cert.Kernel2Ideal.Grad
end
-- ==== Proof.GradFinal.lean ====
/- The gradient's array after the last grid point. -/
module
public import proofs.«01_k».proof.Proof.GradVal
public import proofs.«01_k».proof.Proof.Gen.Kernel2Ideal.Value

@[expose] public section
set_option maxRecDepth 16384
noncomputable section
open Idealize.ShloMosaic Idealize.ShloMosaic.TcCoe Idealize.SL.Sem
namespace Cert.Kernel2Ideal.Grad
open Cert.Kernel2Ideal Cert.Kernel2Ideal.Gen

variable (m : (ℓ : Loc nD τ sig) → Buf (Elt Ideal) ℓ) (c : Dev nD)

/-- The running sum after chip `q`'s first step. -/
theorem sum0 (t : Fin cfg0.N) (q : Fin 4) (ht : t.val = 4 * q.val) (f : Fin 704) (d : Fin 1024) :
    ((outsAt0 m c t.val t.isLt).2 : FVec Ideal S704x1024 .f32) (ix2 f d)
      = part (m ((c : Thread nD τ).loc main_arg0)) (m ((c : Thread nD τ).loc main_arg1)) 0 (⟨q * 704 + f, by omega⟩ : Fin 2816) d := by
  rw [outsAt0_A m c t (by omega) (by omega)]
  dsimp only
  rw [step_first, step_blk m c t q 0 (by simpa using ht), zero_apply, zero_add]

/-- The running sum after a middle step: the step before's, and that sequence's part. -/
theorem sum_next (t : Fin cfg0.N) (q s : Fin 4) (ht : t.val = 4 * q.val + s.val) (h0 : s.val ≠ 0) (h3 : s.val ≠ 3)
    (f : Fin 704) (d : Fin 1024) :
    ((outsAt0 m c t.val t.isLt).2 : FVec Ideal S704x1024 .f32) (ix2 f d)
      = ((outsAt0 m c (t.val - 1) (Nat.lt_of_le_of_lt (Nat.sub_le _ _) t.isLt)).2 : FVec Ideal S704x1024 .f32) (ix2 f d)
        + part (m ((c : Thread nD τ).loc main_arg0)) (m ((c : Thread nD τ).loc main_arg1)) s (⟨q * 704 + f, by omega⟩ : Fin 2816) d := by
  rw [outsAt0_B m c t (by omega) (by omega)]
  dsimp only
  rw [step_mid, step_blk m c t q s ht]

/-- What chip `q`'s last step writes: the four sequences' parts. -/
theorem sum_last (t : Fin cfg0.N) (q : Fin 4) (ht : t.val = 4 * q.val + 3) (a : Fin 1) (f : Fin 704) (d : Fin 1024) :
    ((outsAt0 m c t.val t.isLt).1 : FVec Ideal S1x704x1024 .bf16) (ix3 a f d)
      = grad (m ((c : Thread nD τ).loc main_arg0)) (m ((c : Thread nD τ).loc main_arg1)) (⟨q * 704 + f, by omega⟩ : Fin 2816) d := by
  have hN : t.val < 16 := (idx t).1
  have lt1 : t.val - 1 < cfg0.N := Nat.lt_of_le_of_lt (Nat.sub_le _ _) t.isLt
  have lt2 : t.val - 1 - 1 < cfg0.N := Nat.lt_of_le_of_lt (Nat.sub_le _ _) lt1
  have lt3 : t.val - 1 - 1 - 1 < cfg0.N := Nat.lt_of_le_of_lt (Nat.sub_le _ _) lt2
  rw [outsAt0_C m c t (by omega) (by omega)]
  dsimp only
  rw [step_last, cast_apply, step_blk m c t q 3 (by simpa using ht),
    sum_next m c ⟨t.val - 1, lt1⟩ q 2 (by simp; omega) (by decide) (by decide) f d]
  dsimp only
  rw [sum_next m c ⟨t.val - 1 - 1, lt2⟩ q 1 (by simp; omega) (by decide) (by decide) f d]
  dsimp only
  rw [sum0 m c ⟨t.val - 1 - 1 - 1, lt3⟩ q (by dsimp only; omega) f d]
  unfold grad
  rw [Fin.sum_univ_four]

/-- A weight's gradient as the kernel returns it: one slice of the rows per chip. -/
def sliced (A : FVec Ideal S4x2048x2816 .bf16) (B : FVec Ideal S4x2048x1024 .bf16) : FVec Ideal S4x704x1024 .bf16 := fun j =>
  grad A B (⟨(show Fin 4 from j 0).val * 704 + (show Fin 704 from j 1).val, by omega⟩ : Fin 2816) (show Fin 1024 from j 2)

/-- The gradient's array. -/
def G : FVec Ideal S4x704x1024 .bf16 := sliced (m ((c : Thread nD τ).loc main_arg0)) (m ((c : Thread nD τ).loc main_arg1))

/-- Two arrays that agree at every index of their three axes agree. -/
theorem at3 {A : Type} {x y z : ℕ} (f g : (⟨3, ![x, y, z]⟩ : Shape).Idx → A) (h : ∀ (a : Fin x) (b : Fin y) (e : Fin z), f (ix3 a b e) = g (ix3 a b e))
    (j : (⟨3, ![x, y, z]⟩ : Shape).Idx) : f j = g j :=
  (congrArg f (eq_ix3 j)).trans ((h (j 0) (j 1) (j 2)).trans (congrArg g (eq_ix3 j)).symm)

/-- Every chip's last step writes its slice of that array. -/
theorem final : (dats m 0 c).arrAt 2 cfg0.N = G m c := by
  refine ((dats m 0 c).arrAt_eq_of_cover 2 _ (fun t hf => ?_) (fun i => (Value.covered_iff2 i).2 (by
    have h0 : (i 0).val < 4 := (i 0).isLt; have h1 : (i 1).val < 704 := (i 1).isLt; have h2 : (i 2).val < 1024 := (i 2).isLt; omega)))
  have hm : t.val % 4 = 3 := (flush0_2 t).mp hf
  have hN : t.val < 16 := (idx t).1
  funext y
  blk_simp
  rw [after0_2]
  refine at3 _ (fun y => G m c (((View.whole main_v3).slice (win0_2.rect t)).emb y)) (fun a f d => ?_) y
  have he : (((View.whole main_v3).slice (win0_2.rect t)).emb (ix3 a f d : S1x704x1024.Idx)) = (ix3 (⟨t.val / 4, by omega⟩ : Fin 4) f d : S4x704x1024.Idx) := by
    blk_ext! [idx t]
  exact (sum_last m c t ⟨t.val / 4, by omega⟩ (by dsimp only; omega) a f d).trans (congrArg (G m c) he).symm

/-- The kernel's result in closed form. -/
theorem result : Value.G2 m c = G m c := (Value.final2 m c).symm.trans (final m c)

end Cert.Kernel2Ideal.Grad
end
-- ==== Proof.GradRef.lean ====
/- The reference's gradients, read at an index. -/
module
public import proofs.«01_k».proof.Proof.GradFinal
public import proofs.«01_k».proof.Proof.Gen.Reference2Ideal.Read
public import proofs.«01_k».proof.Proof.Gen.Reference3Ideal.Read

@[expose] public section
set_option maxRecDepth 16384
noncomputable section
open Idealize.ShloMosaic Idealize.ShloMosaic.TcCoe Idealize.SL.Sem
namespace Cert.Kernel2Ideal.Grad

/-- The down-projection's gradient sums the same products over sequences and tokens. -/
theorem ref_down (A : FVec Ideal Cert.Kernel2Ideal.S4x2048x2816 .bf16) (B : FVec Ideal Cert.Kernel2Ideal.S4x2048x1024 .bf16) :
    Cert.Reference2Ideal.Read.val_main_v8 (F := Ideal) A B = sliced A B := by
  funext j
  refine at3 (x := 4) (y := 704) (z := 1024) _ (sliced A B) (fun q f d => ?_) j
  show _ = ∑ s : Fin 4, ∑ k : Fin 2048, A (ix3 s k (⟨q * 704 + f, by omega⟩ : Fin 2816)) * B (ix3 s k d)
  generalize hz : (∑ s : Fin 4, ∑ k : Fin 2048, A (ix3 s k (⟨q * 704 + f, by omega⟩ : Fin 2816)) * B (ix3 s k d)) = z
  pointwise [Cert.Reference2Ideal.Read.val_main_v8, Cert.Reference2Ideal.Read.val_main_v7, Cert.Reference2Ideal.Read.val_main_v6, Cert.Reference2Ideal.Read.val_main_v5, Cert.Reference2Ideal.Read.val_main_v4, Cert.Reference2Ideal.Read.val_main_v1]
  rw [← hz]
  simp only [mul_comm]

/-- The gate's and the up-projection's gradient likewise. -/
theorem ref_up (A : FVec Ideal Cert.Kernel2Ideal.S4x2048x2816 .bf16) (B : FVec Ideal Cert.Kernel2Ideal.S4x2048x1024 .bf16) :
    Cert.Reference3Ideal.Read.val_main_v9 (F := Ideal) A B = sliced A B := by
  funext j
  refine at3 (x := 4) (y := 704) (z := 1024) _ (sliced A B) (fun q f d => ?_) j
  show _ = ∑ s : Fin 4, ∑ k : Fin 2048, A (ix3 s k (⟨q * 704 + f, by omega⟩ : Fin 2816)) * B (ix3 s k d)
  generalize hz : (∑ s : Fin 4, ∑ k : Fin 2048, A (ix3 s k (⟨q * 704 + f, by omega⟩ : Fin 2816)) * B (ix3 s k d)) = z
  pointwise [Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v1]
  rw [← hz]

end Cert.Kernel2Ideal.Grad
end
-- ==== Proof.FfnMath.lean ====
/- Arithmetic of the feed-forward block's gradients: what holds of all extended reals, and what holds of real numbers. -/
module
public import Idealize.ShloMosaic.Lib.Pointwise
public import Idealize.ShloMosaic.Lib.Pipeline.ValueKit

@[expose] public section
noncomputable section
open Idealize.ShloMosaic
namespace Cert.FfnMath

/-- The logistic function, as both programs write it. -/
def sg (z : EReal) : EReal := Ideal.div 1 (1 + Ideal.exp (-z))
/-- The gate's derivative times the other projection. -/
def fgate (g u : EReal) : EReal := (sg g * (1 + g * (1 - sg g))) * u

/-- A value that is a real number. -/
def IsReal (a : EReal) : Prop := ∃ r : ℝ, a = (r : EReal)

theorem IsReal.add {a b : EReal} : IsReal a → IsReal b → IsReal (a + b) := fun ⟨x, hx⟩ ⟨y, hy⟩ => ⟨x + y, by rw [hx, hy, EReal.coe_add]⟩
theorem IsReal.mul {a b : EReal} : IsReal a → IsReal b → IsReal (a * b) := fun ⟨x, hx⟩ ⟨y, hy⟩ => ⟨x * y, by rw [hx, hy, EReal.coe_mul]⟩
/-- The real sum behind a sum of real numbers. -/
theorem coe_sum {n : ℕ} (f : Fin n → ℝ) : (∑ i, (f i : EReal)) = ((∑ i, f i : ℝ) : EReal) := by
  induction n with
  | zero => simp
  | succ n ih => rw [Fin.sum_univ_succ, Fin.sum_univ_succ, ih, EReal.coe_add]
/-- A finite sum of real numbers is a real number. -/
theorem IsReal.sum {n : ℕ} {f : Fin n → EReal} (h : ∀ i, IsReal (f i)) : IsReal (∑ i, f i) := by
  choose g hg using h
  exact ⟨∑ i, g i, by simp only [hg]; exact coe_sum g⟩
/-- The logistic function at a real number. -/
theorem sg_coe (z : ℝ) : sg (z : EReal) = ((1 / (1 + Real.exp (-z)) : ℝ) : EReal) := by
  have h : (1 + Real.exp (-z)) ≠ 0 := by have := Real.exp_pos (-z); linarith
  unfold sg
  rw [← EReal.coe_neg, Ideal.exp_coe, ← EReal.coe_one, ← EReal.coe_add, Ideal.div_coe h, ← EReal.coe_mul, one_mul]

theorem IsReal.sg {z : EReal} : IsReal z → IsReal (sg z) := fun ⟨x, hx⟩ => ⟨_, by rw [hx, sg_coe]⟩

theorem IsReal.fgate {g u : EReal} (hg : IsReal g) (hu : IsReal u) : IsReal (fgate g u) := by
  obtain ⟨g, rfl⟩ := hg; obtain ⟨u, rfl⟩ := hu
  exact ⟨_, by unfold FfnMath.fgate; rw [sg_coe, ← EReal.coe_one, ← EReal.coe_sub, ← EReal.coe_mul, ← EReal.coe_add, ← EReal.coe_mul, ← EReal.coe_mul]⟩

theorem sg_top : sg ⊤ = 1 := by unfold sg; simp [Ideal.div]
theorem sg_bot : sg ⊥ = 0 := by unfold sg; simp [Ideal.div, show (1 : EReal) + ⊤ = ⊤ from EReal.coe_add_top 1]

/-- The gate's gradient by the product rule is the gradient through the stored derivative, at any gate. -/
theorem gate_grad {da g u : EReal} (hd : IsReal da) (hu : IsReal u) :
    (da * u) * sg g + (g * (da * u)) * (sg g * (1 - sg g)) = da * fgate g u := by
  obtain ⟨d, rfl⟩ := hd; obtain ⟨u, rfl⟩ := hu
  have h0 : (1 : EReal) - 1 = 0 := by rw [← EReal.coe_one, ← EReal.coe_sub, sub_self, EReal.coe_zero]
  unfold fgate
  induction g using EReal.rec with
  | bot => simp [sg_bot]
  | top => simp [sg_top, h0]
  | coe g =>
    rw [sg_coe]
    generalize (1 / (1 + Real.exp (-g)) : ℝ) = s
    rw [← EReal.coe_one, ← EReal.coe_sub]
    simp only [← EReal.coe_mul, ← EReal.coe_add]
    congr 1; ring

/-- The mean square plus the offset, of a row of real numbers, is positive. -/
theorem var_coe {n : ℕ} (x : Fin n → ℝ) {k e : ℝ} (hk : 0 < k) :
    Ideal.div (∑ d, (x d : EReal) * (x d : EReal)) (k : EReal) + (e : EReal) = (((∑ d, x d * x d) / k + e : ℝ) : EReal) := by
  simp only [← EReal.coe_mul]
  rw [coe_sum, Ideal.div_coe hk.ne', ← EReal.coe_mul, ← EReal.coe_add, mul_one_div]

theorem var_pos {n : ℕ} (x : Fin n → ℝ) {k e : ℝ} (hk : 0 < k) (he : 0 < e) : 0 < (∑ d, x d * x d) / k + e :=
  add_pos_of_nonneg_of_pos (div_nonneg (Finset.sum_nonneg fun d _ => mul_self_nonneg _) hk.le) he

/-- A nonnegative real factor comes out of a sum. -/
theorem sum_mul_real {n : ℕ} (f : Fin n → EReal) {r : ℝ} (hr : 0 ≤ r) : (∑ i, f i * (r : EReal)) = (∑ i, f i) * (r : EReal) := by
  induction n with
  | zero => simp
  | succ n ih => rw [Fin.sum_univ_succ, Fin.sum_univ_succ, ih, EReal.right_distrib_of_nonneg_of_ne_top (EReal.coe_nonneg.mpr hr) (EReal.coe_ne_top r)]
/-- Twice a value. -/
theorem twice (y : EReal) (t : ℝ) : y * (t : EReal) + y * (t : EReal) = y * ((t * 2 : ℝ) : EReal) := by
  rw [EReal.coe_mul, ← mul_assoc]
  generalize y * (t : EReal) = z
  induction z using EReal.rec with
  | bot => rw [EReal.bot_mul_coe_of_pos two_pos]; rfl
  | top => rw [EReal.top_mul_coe_of_pos two_pos]; rfl
  | coe z => rw [← EReal.coe_add, ← EReal.coe_mul]; congr 1; ring

/-- One row of the norm's gradient: the derivative of the reciprocal root taken by the chain rule, against the projection form.
Only the row itself is real. -/
theorem norm_grad {n : ℕ} (ct : EReal) (x : Fin n → ℝ) (w dh : Fin n → EReal) {k v : ℝ} (hk : 0 < k) (hv : 0 < v) (d : Fin n) :
    ct + (((dh d * w d) * Ideal.rsqrt v
        + x d * Ideal.div ((∑ e, (x e : EReal) * (dh e * w e)) * (((-(1 / 2) : ℝ) : EReal) * Ideal.div (Ideal.rsqrt v) v)) k)
      + Ideal.div ((∑ e, (x e : EReal) * (dh e * w e)) * (((-(1 / 2) : ℝ) : EReal) * Ideal.div (Ideal.rsqrt v) v)) k * x d)
    = ct + Ideal.rsqrt v * (dh d * w d - (x d * Ideal.rsqrt v)
        * Ideal.div (∑ e, (dh e * w e) * ((x e : EReal) * Ideal.rsqrt v)) k) := by
  have hr : Ideal.rsqrt (v : EReal) = (((√v)⁻¹ : ℝ) : EReal) := by
    rw [Ideal.rsqrt_coe, if_neg (not_lt.mpr hv.le), if_neg hv.ne']
  have h2 : (√v)⁻¹ * (√v)⁻¹ = 1 / v := by rw [← mul_inv, Real.mul_self_sqrt hv.le, one_div]
  have h0 : 0 ≤ (√v)⁻¹ := inv_nonneg.mpr (Real.sqrt_nonneg v)
  rw [hr]
  generalize (√v)⁻¹ = r at h2 h0
  have e1 : ∑ e, dh e * w e * ((x e : EReal) * (r : EReal)) = (∑ e, (x e : EReal) * (dh e * w e)) * (r : EReal) := by
    rw [← sum_mul_real _ h0]; exact Finset.sum_congr rfl fun e _ => by ac_rfl
  rw [e1]
  generalize (∑ e, (x e : EReal) * (dh e * w e)) = S
  generalize dh d * w d = P
  generalize x d = y
  refine congrArg (ct + ·) ?_
  simp only [Ideal.div_coe hk.ne', Ideal.div_coe hv.ne']
  have e2 : (y : EReal) * (S * (((-(1 / 2) : ℝ) : EReal) * ((r : EReal) * ((1 / v : ℝ) : EReal))) * ((1 / k : ℝ) : EReal)) = S * ((-(1 / 2) * (r * (1 / v)) * (1 / k) * y : ℝ) : EReal) := by
    simp only [EReal.coe_mul]; ac_rfl
  rw [mul_comm _ (y : EReal), e2, add_assoc, twice, sub_eq_add_neg, EReal.left_distrib_of_nonneg_of_ne_top (EReal.coe_nonneg.mpr h0) (EReal.coe_ne_top r), mul_comm (r : EReal) P]
  refine congrArg (P * r + ·) ?_
  have e3 : (r : EReal) * ((y : EReal) * r * (S * r * ((1 / k : ℝ) : EReal))) = S * ((r * y * r * r * (1 / k) : ℝ) : EReal) := by
    simp only [EReal.coe_mul]; ac_rfl
  rw [mul_neg, e3, ← mul_neg, ← EReal.coe_neg, ← h2]
  congr 2; ring

theorem mul_self_nonneg' (a : EReal) : 0 ≤ a * a := by
  induction a using EReal.rec with
  | bot => simp
  | top => simp
  | coe a => rw [← EReal.coe_mul]; exact EReal.coe_nonneg.mpr (mul_self_nonneg a)
theorem mul_self_top {a : EReal} (h : ¬ IsReal a) : a * a = ⊤ := by
  induction a using EReal.rec with
  | bot => simp
  | top => simp
  | coe a => exact absurd ⟨a, rfl⟩ h
/-- The sum of squares of a row with an infinite element is infinite. -/
theorem sum_sq_top {n : ℕ} (x : Fin n → EReal) (d : Fin n) (h : ¬ IsReal (x d)) : (∑ d, x d * x d) = ⊤ := by
  rw [← Finset.add_sum_erase _ _ (Finset.mem_univ d), mul_self_top h]
  exact EReal.top_add_of_ne_bot (ne_of_gt (lt_of_lt_of_le EReal.bot_lt_zero (Finset.sum_nonneg fun e _ => mul_self_nonneg' _)))

/-- Adding two gradients tile by tile, in turn, is adding the two sums. -/
theorem four_tiles (a b : Fin 4 → EReal) :
    ((((((a 0 + b 0) + a 1) + b 1) + a 2) + b 2) + a 3) + b 3 = (∑ q, b q) + ∑ q, a q := by
  simp only [Fin.sum_univ_four, zero_add]
  ac_rfl

/-- The reciprocal root of a row's mean square. -/
def rs {n : ℕ} (x : Fin n → EReal) : EReal := Ideal.rsqrt (Ideal.div (∑ d, x d * x d) (Ideal.ofBits .f32 0x44800000#32) + Ideal.ofBits .f32 0x358637BD#32)

/-- One element of the norm's gradient, in the projection form. -/
def normBack {n : ℕ} (ct : EReal) (x w dh : Fin n → EReal) (k : Fin n) : EReal :=
  ct + rs x * (dh k * w k - (x k * rs x) * Ideal.div (∑ e, (dh e * w e) * (x e * rs x)) (Ideal.ofBits .f32 0x44800000#32))

end Cert.FfnMath
-- ==== Proof.FfnSpec.lean ====
/- The feed-forward block's activation and gradients, as functions of the six operands. -/
module
public import proofs.«01_k».proof.Proof.FfnMath
public import Idealize.ShloMosaic.Lib.Pointwise

@[expose] public section
noncomputable section
open Idealize.ShloMosaic
namespace Cert.FfnSpec
open Cert.FfnMath

/-- A residual stream: batch, position, model feature. -/
abbrev Stream := FVec Ideal ⟨3, ![4, 2048, 1024]⟩ .f32
/-- A norm's weight. -/
abbrev Norm := FVec Ideal ⟨1, ![1024]⟩ .f32
/-- A projection into the hidden features. -/
abbrev In := FVec Ideal ⟨2, ![1024, 2816]⟩ .bf16
/-- The projection back. -/
abbrev Out := FVec Ideal ⟨2, ![2816, 1024]⟩ .bf16

/-- A token's row of a stream. -/
def row (x : Stream) (r : Fin 8192) (d : Fin 1024) : EReal := x (ix3 ⟨r.val / 2048, by omega⟩ ⟨r.val % 2048, by omega⟩ d)
/-- The hidden feature a chip holds. -/
abbrev col (q : Fin 4) (f : Fin 704) : Fin 2816 := ⟨q.val * 704 + f.val, by omega⟩

variable (x : Stream) (nf : Norm) (wg wu : In) (wd : Out) (ct : Stream)
/-- A token's normalised row. -/
def hid (r : Fin 8192) (d : Fin 1024) : EReal := row x r d * rs (row x r) * nf (ix1 d)
/-- A projection of it. -/
def inp (w : In) (r : Fin 8192) (f : Fin 2816) : EReal := ∑ d : Fin 1024, hid x nf r d * w (ix2 d f)
/-- The gated activation. -/
def act (r : Fin 8192) (f : Fin 2816) : EReal := (inp x nf wg r f * sg (inp x nf wg r f)) * inp x nf wu r f
/-- The activation's gradient. -/
def da (r : Fin 8192) (f : Fin 2816) : EReal := ∑ d : Fin 1024, row ct r d * wd (ix2 f d)
/-- The gate's gradient. -/
def dg (r : Fin 8192) (f : Fin 2816) : EReal := da wd ct r f * fgate (inp x nf wg r f) (inp x nf wu r f)
/-- The other projection's gradient. -/
def du (r : Fin 8192) (f : Fin 2816) : EReal := da wd ct r f * (inp x nf wg r f * sg (inp x nf wg r f))
/-- The normalised row's gradient. -/
def dh (r : Fin 8192) (k : Fin 1024) : EReal :=
  (∑ f : Fin 2816, du x nf wg wd ct r f * wu (ix2 k f)) + ∑ f : Fin 2816, dg x nf wg wu wd ct r f * wg (ix2 k f)
/-- The residual stream's gradient. -/
def dx (r : Fin 8192) (k : Fin 1024) : EReal := normBack (row ct r k) (row x r) (fun d => nf (ix1 d)) (dh x nf wg wu wd ct r) k
/-- The norm weight's gradient. -/
def dnf (k : Fin 1024) : EReal := ∑ r : Fin 8192, dh x nf wg wu wd ct r k * (row x r k * rs (row x r))

/-- A sum over hidden features, chip by chip. -/
theorem sum_chips (g : Fin 2816 → EReal) : (∑ q : Fin 4, ∑ f : Fin 704, g (col q f)) = ∑ f : Fin 2816, g f :=
  Fin.sum_mul_add_congr fun q f hl => rfl

end Cert.FfnSpec
-- ==== Proof.FfnRef.lean ====
/- The reference's stages, read one element at a time. -/
module
public import proofs.«01_k».proof.Proof.FfnSpec
public import proofs.«01_k».proof.Proof.Gen.Reference4Ideal.Run
public import proofs.«01_k».proof.Proof.Gen.Reference4Ideal.Read

@[expose] public section
set_option maxRecDepth 16384
noncomputable section
open Idealize.ShloMosaic Idealize.ShloMosaic.TcCoe Idealize.SL.Sem
namespace Cert.Reference4Ideal.Ffn
open Cert.Reference4Ideal Cert.Reference4Ideal.Read Cert.FfnMath Cert.FfnSpec

/-- The row number of a token. -/
def tok (b : Fin 4) (s : Fin 2048) : Fin 8192 := ⟨b.val * 2048 + s.val, by omega⟩
theorem row_tok (x : Stream) (b : Fin 4) (s : Fin 2048) (d : Fin 1024) : row x (tok b s) d = x (ix3 b s d) := by
  have h1 : (⟨(tok b s).val / 2048, by have := (tok b s).isLt; omega⟩ : Fin 4) = b := Fin.ext (by show (b.val * 2048 + s.val) / 2048 = b.val; omega)
  have h2 : (⟨(tok b s).val % 2048, by omega⟩ : Fin 2048) = s := Fin.ext (by show (b.val * 2048 + s.val) % 2048 = s.val; omega)
  unfold row
  rw [h1, h2]
theorem tok_divmod (r : Fin 8192) : tok ⟨r.val / 2048, by omega⟩ ⟨r.val % 2048, by omega⟩ = r := Fin.ext (by show r.val / 2048 * 2048 + r.val % 2048 = r.val; omega)

variable (x : Stream) (nf : Norm) (wg wu : In) (wd : Out) (ct : Stream) (b : Fin 4) (s : Fin 2048)

/-- The mean square with the small constant. -/
def ms (r : Fin 8192) : EReal := Ideal.div (∑ d, row x r d * row x r d) (Ideal.ofBits .f32 0x44800000#32) + Ideal.ofBits .f32 0x358637BD#32

theorem v9_at (a : Fin 1) : val_main_v9 (F := Ideal) x (ix3 b s a) = ms x (tok b s) := by
  generalize hz : ms x (tok b s) = z
  pointwise [val_main_v9, val_main_v8, val_main_v7, val_main_v6, val_main_v5, val_main_v4, val_main_v3, val_main_cst]
  rw [← hz]; unfold ms; simp only [row_tok]; rfl
theorem v10_at (a : Fin 1) : val_main_v10 (F := Ideal) x (ix3 b s a) = rs (row x (tok b s)) :=
  congrArg Ideal.rsqrt (v9_at x b s a)
theorem v15_at (d : Fin 1024) : val_main_v15 (F := Ideal) x (ix3 b s d) = row x (tok b s) d * rs (row x (tok b s)) := by
  rw [row_tok, ← v10_at x b s 0]
  generalize hz : val_main_v10 (F := Ideal) x (ix3 b s 0) = z
  pointwise [val_main_v15, val_main_v14]
  rw [← hz]
theorem v18_at (d : Fin 1024) : val_main_v18 (F := Ideal) x nf (ix3 b s d) = hid x nf (tok b s) d := by
  unfold hid
  rw [← v15_at x b s d]
  generalize hz : val_main_v15 (F := Ideal) x (ix3 b s d) = z
  pointwise [val_main_v18, val_main_v17, val_main_v16]
  rw [← hz]
theorem v19_at (f : Fin 2816) : val_main_v19 (F := Ideal) x nf wg (ix3 b s f) = inp x nf wg (tok b s) f := by
  unfold inp
  simp only [← v18_at x nf b s]
  generalize hz : (∑ d : Fin 1024, val_main_v18 (F := Ideal) x nf (ix3 b s d) * wg (ix2 d f)) = z
  pointwise [val_main_v19, val_main_v0]
  rw [← hz]
theorem v20_at (f : Fin 2816) : val_main_v20 (F := Ideal) x nf wu (ix3 b s f) = inp x nf wu (tok b s) f := by
  unfold inp
  simp only [← v18_at x nf b s]
  generalize hz : (∑ d : Fin 1024, val_main_v18 (F := Ideal) x nf (ix3 b s d) * wu (ix2 d f)) = z
  pointwise [val_main_v20, val_main_v1]
  rw [← hz]
theorem v26_at (f : Fin 2816) : val_main_v26 (F := Ideal) x nf wg (ix3 b s f) = sg (inp x nf wg (tok b s) f) := by
  rw [← v19_at x nf wg b s f]
  generalize hz : sg (val_main_v19 (F := Ideal) x nf wg (ix3 b s f)) = z
  pointwise [val_main_v26, val_main_v25, val_main_v24, val_main_v23, val_main_v22, val_main_v21, val_main_cst_3, val_main_cst_4]
  rw [← hz]; rfl
theorem v30_at (f : Fin 2816) : val_main_v30 (F := Ideal) x nf wg (ix3 b s f) = inp x nf wg (tok b s) f * sg (inp x nf wg (tok b s) f) :=
  congrArg₂ (· * ·) (v19_at x nf wg b s f) (v26_at x nf wg b s f)
theorem v31_at (f : Fin 2816) : val_main_v31 (F := Ideal) x nf wg wu (ix3 b s f) = act x nf wg wu (tok b s) f :=
  congrArg₂ (· * ·) (v30_at x nf wg b s f) (v20_at x nf wu b s f)
theorem v33_at (f : Fin 2816) : val_main_v33 (F := Ideal) wd ct (ix3 b s f) = da wd ct (tok b s) f := by
  unfold da
  simp only [row_tok]
  generalize hz : (∑ d : Fin 1024, ct (ix3 b s d) * wd (ix2 f d)) = z
  pointwise [val_main_v33, val_main_v2]
  rw [← hz]
theorem v34_at (f : Fin 2816) : val_main_v34 (F := Ideal) x nf wg wd ct (ix3 b s f) = du x nf wg wd ct (tok b s) f :=
  (congrArg₂ (· * ·) (v30_at x nf wg b s f) (v33_at wd ct b s f)).trans (mul_comm _ _)
/-- The gate's gradient by the product rule. -/
theorem v39_at (f : Fin 2816) (hd : IsReal (da wd ct (tok b s) f)) (hu : IsReal (inp x nf wu (tok b s) f)) :
    val_main_v39 (F := Ideal) x nf wg wu wd ct (ix3 b s f) = dg x nf wg wu wd ct (tok b s) f := by
  refine Eq.trans ?_ (gate_grad hd hu)
  rw [← v33_at wd ct b s f, ← v19_at x nf wg b s f, ← v20_at x nf wu b s f]
  pointwise [val_main_v39, val_main_v38, val_main_v37, val_main_v36, val_main_v35, val_main_v29, val_main_v28, val_main_v27, val_main_cst_5]
  rw [v26_at, ← v19_at x nf wg b s f]

/-- The normalised row's gradient, from the two projections' gradients. -/
theorem v42_at (k : Fin 1024) (hg : ∀ f, val_main_v39 (F := Ideal) x nf wg wu wd ct (ix3 b s f) = dg x nf wg wu wd ct (tok b s) f) :
    val_main_v42 (F := Ideal) x nf wg wu wd ct (ix3 b s k) = dh x nf wg wu wd ct (tok b s) k := by
  unfold dh
  simp only [← v34_at x nf wg wd ct b s, ← hg]
  generalize hz : (∑ f : Fin 2816, val_main_v34 (F := Ideal) x nf wg wd ct (ix3 b s f) * wu (ix2 k f)) + (∑ f : Fin 2816, val_main_v39 (F := Ideal) x nf wg wu wd ct (ix3 b s f) * wg (ix2 k f)) = z
  pointwise [val_main_v42, val_main_v41, val_main_v40, val_main_v0, val_main_v1]
  rw [← hz]

/-- What the gradient of the mean square contributes, before its factor. -/
def dms (x : Stream) (nf : Norm) (h : Fin 1024 → EReal) (r : Fin 8192) : EReal :=
  Ideal.div ((∑ e, row x r e * (h e * nf (ix1 e))) * (Ideal.ofBits .f32 0xBF000000#32 * Ideal.div (rs (row x r)) (ms x r))) (Ideal.ofBits .f32 0x44800000#32)

theorem v47_at (d : Fin 1024) : val_main_v47 (F := Ideal) x nf wg wu wd ct (ix3 b s d) = val_main_v42 (F := Ideal) x nf wg wu wd ct (ix3 b s d) * nf (ix1 d) := by
  generalize hz : val_main_v42 (F := Ideal) x nf wg wu wd ct (ix3 b s d) * nf (ix1 d) = z
  pointwise [val_main_v47, val_main_v46, val_main_v16]
  rw [← hz]
theorem v13_at (a : Fin 1) : val_main_v13 (F := Ideal) x (ix3 b s a) = Ideal.ofBits .f32 0xBF000000#32 * Ideal.div (rs (row x (tok b s))) (ms x (tok b s)) := by
  rw [← v9_at x b s a, ← v10_at x b s a]
  rfl
theorem v57_at : val_main_v57 (F := Ideal) x nf wg wu wd ct (ix2 b s)
    = dms x nf (fun e => val_main_v42 (F := Ideal) x nf wg wu wd ct (ix3 b s e)) (tok b s) := by
  unfold dms
  rw [← v13_at x b s 0]
  simp only [row_tok]
  have e : (∑ e, x (ix3 b s e) * (val_main_v42 (F := Ideal) x nf wg wu wd ct (ix3 b s e) * nf (ix1 e))) = ∑ e, x (ix3 b s e) * val_main_v47 (F := Ideal) x nf wg wu wd ct (ix3 b s e) :=
    Finset.sum_congr rfl fun e _ => congrArg (x (ix3 b s e) * ·) (v47_at x nf wg wu wd ct b s e).symm
  rw [e]
  generalize hz : Ideal.div ((∑ e, x (ix3 b s e) * val_main_v47 (F := Ideal) x nf wg wu wd ct (ix3 b s e)) * val_main_v13 (F := Ideal) x (ix3 b s 0)) (Ideal.ofBits .f32 0x44800000#32) = z
  pointwise [val_main_v57, val_main_v56, val_main_v55, val_main_v54, val_main_v51, val_main_v50, val_main_v49, val_main_cst_8, val_main_cst_9, val_main_cst_10]
  rw [Fin.sum_univ_one, ← hz]
theorem v63_at (d : Fin 1024) : val_main_v63 (F := Ideal) x nf wg wu wd ct (ix3 b s d)
    = row ct (tok b s) d + ((((val_main_v42 (F := Ideal) x nf wg wu wd ct (ix3 b s d) * nf (ix1 d)) * rs (row x (tok b s)))
        + row x (tok b s) d * dms x nf (fun e => val_main_v42 (F := Ideal) x nf wg wu wd ct (ix3 b s e)) (tok b s))
      + dms x nf (fun e => val_main_v42 (F := Ideal) x nf wg wu wd ct (ix3 b s e)) (tok b s) * row x (tok b s) d) := by
  rw [← v57_at, ← v47_at, ← v10_at x b s 0, row_tok, row_tok]
  generalize hz : val_main_v57 (F := Ideal) x nf wg wu wd ct (ix2 b s) = z
  generalize hy : val_main_v47 (F := Ideal) x nf wg wu wd ct (ix3 b s d) = y
  generalize hw : val_main_v10 (F := Ideal) x (ix3 b s 0) = w
  pointwise [val_main_v63, val_main_v62, val_main_v61, val_main_v60, val_main_v59, val_main_v58, val_main_v53, val_main_v52]
  rw [hz, hy, hw]
/-- A sum over the first two axes. -/
theorem sum_two {n0 n1 n2 : ℕ} (h : (⟨3, ![n0, n1, n2]⟩ : Shape).ReducesTo [0, 1] ⟨1, ![n2]⟩) (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  rw [← Fintype.sum_prod_type' (f := fun a b => v (ix3 a b k))]
  refine Finset.sum_filter_eq_sum_of_fiber _ (fun p : Fin n0 × Fin n1 => ix3 p.1 p.2 k) (fun p q e => Prod.ext (congrFun e 0) (congrFun e 1)) (fun i => ⟨fun e => ⟨(i 0, i 1), ?_⟩, ?_⟩) v
  · funext a; apply Fin.ext
    match a with
    | ⟨0, _⟩ => rfl
    | ⟨1, _⟩ => rfl
    | ⟨2, _⟩ => exact (congrArg Fin.val (congrFun e ⟨0, Nat.one_pos⟩)).symm
  · rintro ⟨p, rfl⟩
    funext a; apply Fin.ext
    match a with
    | ⟨0, _⟩ => rfl
theorem v44_at (k : Fin 1024) : val_main_v44 (F := Ideal) x nf wg wu wd ct (ix1 k)
    = ∑ b : Fin 4, ∑ s : Fin 2048, (row x (tok b s) k * rs (row x (tok b s))) * val_main_v42 (F := Ideal) x nf wg wu wd ct (ix3 b s k) := by
  simp only [← v15_at]
  refine (sum_two Gen.reducesTo_S4x2048x1024_S1024_d0_1 (val_main_v43 (F := Ideal) x nf wg wu wd ct) _ k).trans ?_
  rw [show val_main_cst_6 (F := Ideal) _ = 0 from Ideal.ofBits_zero .f32, zero_add]
  rfl
theorem v48_at (k : Fin 1024) : val_main_v48 (F := Ideal) x nf wg wu wd ct (ix1 k) = val_main_v44 (F := Ideal) x nf wg wu wd ct (ix1 k) := by
  refine (sum_two Gen.reducesTo_S1x1x1024_S1024_d0_1 (val_main_v45 (F := Ideal) x nf wg wu wd ct) _ k).trans ?_
  rw [show val_main_cst_7 (F := Ideal) _ = 0 from Ideal.ofBits_zero .f32, zero_add, Fin.sum_univ_one, Fin.sum_univ_one]
  generalize hz : val_main_v44 (F := Ideal) x nf wg wu wd ct (ix1 k) = z
  pointwise [val_main_v45]
  rw [hz]

end Cert.Reference4Ideal.Ffn
-- ==== Proof.FfnReal.lean ====
/- On finite operands the reference's results are the gradients in the stated forms. -/
module
public import proofs.«01_k».proof.Proof.FfnRef

@[expose] public section
set_option maxRecDepth 16384
noncomputable section
open Idealize.ShloMosaic Idealize.ShloMosaic.TcCoe Idealize.SL.Sem
namespace Cert.Reference4Ideal.Ffn
open Cert.Reference4Ideal Cert.Reference4Ideal.Read Cert.FfnMath Cert.FfnSpec

/-- The word of the row length. -/
theorem word_len : Ideal.ofBits .f32 0x44800000#32 = ((1024 : ℝ) : EReal) := by
  simp [Ideal.ofBits, Ideal.ieee]
  rw [← EReal.coe_mul]; norm_num
/-- The word of minus one half. -/
theorem word_half : Ideal.ofBits .f32 0xBF000000#32 = ((-(1 / 2) : ℝ) : EReal) := by
  simp [Ideal.ofBits, Ideal.ieee]
  rw [← EReal.coe_mul]; norm_num
/-- The word of the small constant is positive. -/
theorem word_eps : ∃ e : ℝ, 0 < e ∧ Ideal.ofBits .f32 0x358637BD#32 = (e : EReal) := by
  simp only [Ideal.ofBits, Ideal.ieee]
  refine ⟨_, ?_, rfl⟩
  norm_num
  rw [if_neg (by decide)]; positivity

variable {x : Stream} {nf : Norm} {wg wu : In} {wd : Out} {ct : Stream} (r : Fin 8192)

/-- The mean square of a real row with the small constant is a positive real number. -/
theorem ms_real (hx : ∀ d, IsReal (row x r d)) : ∃ v : ℝ, 0 < v ∧ ms x r = (v : EReal) := by
  choose xs hxs using hx
  obtain ⟨e, he, hw⟩ := word_eps
  refine ⟨_, var_pos xs (k := 1024) (by norm_num) he, ?_⟩
  unfold ms
  simp only [hxs]
  rw [word_len, hw]
  exact var_coe xs (by norm_num)
/-- The mean square of a row with an infinite element is infinite, -/
theorem ms_top (hx : ¬ ∀ d, IsReal (row x r d)) : ms x r = ⊤ := by
  obtain ⟨d, hd⟩ := not_forall.mp hx
  obtain ⟨e, he, hw⟩ := word_eps
  unfold ms
  rw [sum_sq_top _ d hd, word_len, hw, Ideal.div_coe (by norm_num), EReal.top_mul_coe_of_pos (by norm_num), EReal.top_add_coe]
/-- and the reciprocal of its root is zero. -/
theorem rs_zero (hx : ¬ ∀ d, IsReal (row x r d)) : rs (row x r) = 0 :=
  congrArg Ideal.rsqrt (ms_top r hx)
theorem hid_real (hn : ∀ i, IsReal (nf i)) (d : Fin 1024) : IsReal (hid x nf r d) := by
  by_cases hx : ∀ d, IsReal (row x r d)
  · obtain ⟨v, hv, e⟩ := ms_real r hx
    refine ((hx d).mul ⟨(√v)⁻¹, ?_⟩).mul (hn _)
    show Ideal.rsqrt (ms x r) = _
    rw [e, Ideal.rsqrt_coe, if_neg (not_lt.mpr hv.le), if_neg hv.ne']
  · exact ⟨0, by unfold hid; rw [rs_zero r hx, mul_zero, zero_mul, EReal.coe_zero]⟩
theorem inp_real (hn : ∀ i, IsReal (nf i)) (hw : ∀ i, IsReal (wg i)) (f : Fin 2816) : IsReal (inp x nf wg r f) :=
  IsReal.sum fun d => (hid_real r hn d).mul (hw _)
theorem da_real (hw : ∀ i, IsReal (wd i)) (hc : ∀ i, IsReal (ct i)) (f : Fin 2816) : IsReal (da wd ct r f) :=
  IsReal.sum fun d => (hc _).mul (hw _)

/-- The norm's weight, the projections behind the gate and the cotangent are finite. -/
structure AllReal (nf : Norm) (wu : In) (wd : Out) (ct : Stream) : Prop where
  nf : ∀ i, IsReal (nf i)
  wu : ∀ i, IsReal (wu i)
  wd : ∀ i, IsReal (wd i)
  ct : ∀ i, IsReal (ct i)

variable (h : AllReal nf wu wd ct)
include h
theorem dg_at (b : Fin 4) (s : Fin 2048) (f : Fin 2816) : val_main_v39 (F := Ideal) x nf wg wu wd ct (ix3 b s f) = dg x nf wg wu wd ct (tok b s) f :=
  v39_at x nf wg wu wd ct b s f (da_real _ h.wd h.ct f) (inp_real _ h.nf h.wu f)
theorem dh_at (b : Fin 4) (s : Fin 2048) (k : Fin 1024) : val_main_v42 (F := Ideal) x nf wg wu wd ct (ix3 b s k) = dh x nf wg wu wd ct (tok b s) k :=
  v42_at x nf wg wu wd ct b s k (dg_at h b s)
/-- The residual stream's gradient. -/
theorem dx_at (b : Fin 4) (s : Fin 2048) (d : Fin 1024) : val_main_v63 (F := Ideal) x nf wg wu wd ct (ix3 b s d) = dx x nf wg wu wd ct (tok b s) d := by
  rw [v63_at]
  simp only [dh_at h]
  generalize tok b s = r
  by_cases hx : ∀ d, IsReal (row x r d)
  · obtain ⟨v, hv, ev⟩ := ms_real r hx
    choose xs hxs using hx
    have er : rs (row x r) = Ideal.rsqrt (v : EReal) := congrArg Ideal.rsqrt ev
    unfold dms dx normBack
    simp only [er, ev, hxs, word_len, word_half]
    exact norm_grad _ xs (fun d => nf (ix1 d)) (fun k => dh x nf wg wu wd ct r k) (by norm_num) hv d
  · have e0 : Ideal.div 0 (⊤ : EReal) = 0 := by simp [Ideal.div]
    unfold dms dx normBack
    rw [rs_zero r hx, ms_top r hx, word_len, e0]
    simp [Ideal.div]
/-- The norm weight's gradient. -/
theorem dnf_at (k : Fin 1024) : val_main_v48 (F := Ideal) x nf wg wu wd ct (ix1 k) = dnf x nf wg wu wd ct k := by
  rw [v48_at, v44_at]
  simp only [dh_at h]
  unfold dnf
  refine Fin.sum_mul_add_congr fun b s hl => ?_
  exact mul_comm _ _

end Cert.Reference4Ideal.Ffn
-- ==== Proof.FfnPay.lean ====
/- The backward call's payloads, read elementwise. -/
module
public import proofs.«01_k».proof.Proof.Gen.Kernel3Ideal.Frame
public import proofs.«01_k».proof.Proof.FfnMath

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath

variable (x0 : FVec Ideal S256x1024 .bf16) (w wg wu wu' : FVec Ideal S1x1x704x1024 .bf16) (s s' : FVec Ideal S1x256x704 .bf16)
  (acc : FVec Ideal S256x1024 .f32) (r : Fin 256) (f : Fin 704) (k : Fin 1024) (a : Fin 1)

/-- The activation's gradient of one chip's tile, times a stored factor. -/
def tile (r : Fin 256) (f : Fin 704) : EReal := (∑ d : Fin 1024, x0 (ix2 r d) * w (ix4 0 0 f d)) * s (ix3 0 r f)

theorem pay5 : k1_pay5 (F := Ideal) x0 w s (ix3 a r f) = tile x0 w s r f := by
  obtain rfl : a = 0 := Subsingleton.elim _ _
  pointwise [k1_pay5, k1_pay3, k1_pay2, k1_pay1]
  rfl
theorem pay6 : k1_pay6 (F := Ideal) x0 w s (ix3 a r f) = tile x0 w s r f := by
  obtain rfl : a = 0 := Subsingleton.elim _ _
  pointwise [k1_pay6, k1_pay4, k1_pay2, k1_pay1]
  rfl
theorem pay12 : k1_pay12 (F := Ideal) (k1_pay1 x0) w s (ix3 a r f) = tile x0 w s r f := by
  obtain rfl : a = 0 := Subsingleton.elim _ _
  pointwise [k1_pay12, k1_pay10, k1_pay9, k1_pay1]
  rfl
theorem pay13 : k1_pay13 (F := Ideal) (k1_pay1 x0) w s (ix3 a r f) = tile x0 w s r f := by
  obtain rfl : a = 0 := Subsingleton.elim _ _
  pointwise [k1_pay13, k1_pay11, k1_pay9, k1_pay1]
  rfl
theorem pay18 : k1_pay18 (F := Ideal) (k1_pay1 x0) w s (ix3 a r f) = tile x0 w s r f := by
  obtain rfl : a = 0 := Subsingleton.elim _ _
  pointwise [k1_pay18, k1_pay16, k1_pay15, k1_pay1]
  rfl
theorem pay19 : k1_pay19 (F := Ideal) (k1_pay1 x0) w s (ix3 a r f) = tile x0 w s r f := by
  obtain rfl : a = 0 := Subsingleton.elim _ _
  pointwise [k1_pay19, k1_pay17, k1_pay15, k1_pay1]
  rfl
theorem pay24 : k1_pay24 (F := Ideal) (k1_pay1 x0) w s (ix3 a r f) = tile x0 w s r f := by
  obtain rfl : a = 0 := Subsingleton.elim _ _
  pointwise [k1_pay24, k1_pay22, k1_pay21, k1_pay1]
  rfl
theorem pay25 : k1_pay25 (F := Ideal) (k1_pay1 x0) w s (ix3 a r f) = tile x0 w s r f := by
  obtain rfl : a = 0 := Subsingleton.elim _ _
  pointwise [k1_pay25, k1_pay23, k1_pay21, k1_pay1]
  rfl

/-- One chip's tile against its weight: a partial product over that chip's features. -/
def part (r : Fin 256) (k : Fin 1024) : EReal := ∑ f : Fin 704, tile x0 w s r f * wg (ix4 0 0 f k)

theorem pay7 : k1_pay7 (F := Ideal) x0 w s wg (ix2 r k) = part x0 w wg s r k := by
  pointwise [k1_pay7, k1_pay3, k1_pay2, k1_pay1]
  rfl
theorem pay14 (w' : FVec Ideal S1x1x704x1024 .bf16) (s1 : FVec Ideal S1x256x704 .bf16) :
    k1_pay14 (F := Ideal) (k1_pay1 x0) (k1_pay4 x0 w' s1) acc (k1_pay8 wu') w s s' wg wu (ix2 r k)
      = ((acc (ix2 r k) + part x0 w' wu' s1 r k) + part x0 w wg s r k) + part x0 w wu s' r k := by
  pointwise [k1_pay14, k1_pay8, k1_pay4, k1_pay2, k1_pay10, k1_pay11, k1_pay9, k1_pay1]
  rfl
theorem pay20 : k1_pay20 (F := Ideal) (k1_pay1 x0) acc w s s' wg wu (ix2 r k)
      = (acc (ix2 r k) + part x0 w wg s r k) + part x0 w wu s' r k := by
  pointwise [k1_pay20, k1_pay16, k1_pay17, k1_pay15, k1_pay1]
  rfl
theorem pay26 : k1_pay26 (F := Ideal) (k1_pay1 x0) acc w s s' wg wu (ix2 r k)
      = (acc (ix2 r k) + part x0 w wg s r k) + part x0 w wu s' r k := by
  pointwise [k1_pay26, k1_pay22, k1_pay23, k1_pay21, k1_pay1]
  rfl

variable (x : FVec Ideal S256x1024 .f32) (nf prev : FVec Ideal S1x1024 .f32) (ct : FVec Ideal S256x1024 .f32)
theorem pay29 : k1_pay29 (F := Ideal) x (ix2 r a) = rs fun d : Fin 1024 => x (ix2 r d) := by
  unfold rs
  pointwise [k1_pay29]
theorem pay30 : k1_pay30 (F := Ideal) x (ix2 r k) = x (ix2 r k) * rs fun d : Fin 1024 => x (ix2 r d) := by
  rw [← pay29 r 0 x]
  pointwise [k1_pay30]
theorem pay31 : k1_pay31 (F := Ideal) acc (k1_pay27 x) (k1_pay28 nf) ct (ix2 r k)
    = normBack (ct (ix2 r k)) (fun d : Fin 1024 => x (ix2 r d)) (fun d => nf (ix2 0 d)) (fun d => acc (ix2 r d)) k := by
  unfold normBack
  have e29 := fun a => pay29 r a x
  have e30 := fun k => pay30 r k x
  generalize (rs fun d : Fin 1024 => x (ix2 r d)) = R at e29 e30 ⊢
  pointwise [k1_pay31, k1_pay27, k1_pay28]
  simp only [e29, e30]
theorem pay34 : k1_pay34 (F := Ideal) acc (k1_pay27 x) prev (ix2 a k)
    = prev (ix2 a k) + ∑ r : Fin 256, acc (ix2 r k) * (x (ix2 r k) * rs fun d : Fin 1024 => x (ix2 r d)) := by
  simp only [← pay30]
  pointwise [k1_pay34, k1_pay27]

end Cert.Kernel3Ideal.Ffn
-- ==== Proof.FfnUp.lean ====
/- The forward projection's blocks, elementwise, and the arrays they fill. -/
module
public import proofs.«01_k».proof.Proof.Gen.Kernel3Ideal.Frame
public import proofs.«01_k».proof.Proof.FfnMath
public import Idealize.ShloMosaic.Lib.Pipeline.ValueKit

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath

section payloads
variable (x0 : FVec Ideal S1024x1024 .bf16) (x1 x2 : FVec Ideal S1x1x704x1024 .bf16)
theorem k0g (r : Fin 1024) (f : Fin 704) :
    k0_pay3 (F := Ideal) x0 x1 (ix2 r f) = ∑ d : Fin 1024, x0 (ix2 r d) * x1 (ix4 0 0 f d) := by
  pointwise [k0_pay3, k0_pay2]
theorem k0u (r : Fin 1024) (f : Fin 704) :
    k0_pay4 (F := Ideal) x0 x2 (ix2 r f) = ∑ d : Fin 1024, x0 (ix2 r d) * x2 (ix4 0 0 f d) := by
  pointwise [k0_pay4, k0_pay2]
/-- The activation's block. -/
theorem k0act (a : Fin 1) (r : Fin 1024) (f : Fin 704) (g u : EReal)
    (hg : k0_pay3 (F := Ideal) x0 x1 (ix2 r f) = g) (hu : k0_pay4 (F := Ideal) x0 x2 (ix2 r f) = u):
    k0_pay7 (F := Ideal) x0 x1 x2 (ix3 a r f) = (g * sg g) * u := by
  generalize hz : (g * sg g) * u = z
  pointwise [k0_pay7, k0_pay6, k0_pay5]
  rw [hg, hu, zero_sub, ← hz]; rfl
/-- The stored factor of the gate's gradient. -/
theorem k0fg (a : Fin 1) (r : Fin 1024) (f : Fin 704) (g u : EReal)
    (hg : k0_pay3 (F := Ideal) x0 x1 (ix2 r f) = g) (hu : k0_pay4 (F := Ideal) x0 x2 (ix2 r f) = u):
    k0_pay8 (F := Ideal) x0 x1 x2 (ix3 a r f) = fgate g u := by
  generalize hz : fgate g u = z
  pointwise [k0_pay8, k0_pay5]
  rw [hg, hu, zero_sub, ← hz]; rfl
/-- The stored factor of the other projection's gradient. -/
theorem k0fu (a : Fin 1) (r : Fin 1024) (f : Fin 704) (g : EReal)
    (hg : k0_pay3 (F := Ideal) x0 x1 (ix2 r f) = g) :
    k0_pay1 (F := Ideal) (k0_pay9 x0 x1) (ix3 a r f) = g * sg g := by
  generalize hz : g * sg g = z
  pointwise [k0_pay1, k0_pay9, k0_pay6, k0_pay5]
  rw [hg, zero_sub, ← hz]; rfl
end payloads

/-- Which block every window stages at a grid point. -/
theorem idx0 : ∀ t : Fin cfg0.N, t.val < 32
    ∧ win0_0.index t = ![t.val % 8, 0] ∧ win0_1.index t = ![t.val / 8, 0, 0, 0] ∧ win0_2.index t = ![t.val / 8, 0, 0, 0]
    ∧ win0_3.index t = ![t.val / 8, t.val % 8, 0] ∧ win0_4.index t = ![t.val / 8, t.val % 8, 0] ∧ win0_5.index t = ![t.val / 8, t.val % 8, 0] :=
  (by decide +kernel : ∀ t : Fin grid0.N, _)

/-- An index of a rank-three shape from its coordinates. -/
theorem at3 {A B C : ℕ} {X : Type} (f g : (⟨3, ![A, B, C]⟩ : Shape).Idx → X) (h : ∀ a r l, f (ix3 a r l) = g (ix3 a r l)) (y) : f y = g y := by
  rw [eq_ix3 y]; exact h _ _ _
/-- An index of a rank-two shape from its coordinates. -/
theorem at2 {A B : ℕ} {X : Type} (f g : (⟨2, ![A, B]⟩ : Shape).Idx → X) (h : ∀ r l, f (ix2 r l) = g (ix2 r l)) (y) : f y = g y := by
  rw [eq_ix2 y]; exact h _ _

variable (V : (c : Dev nD) → (b : Ref sig .tc) → Buf (Elt Ideal) ((c : Thread nD τ).loc b)) (c : Dev nD)

/-- A projection of a token's normalised row onto one chip's feature. -/
def proj (h : FVec Ideal S8192x1024 .bf16) (w : FVec Ideal S4x1x704x1024 .bf16) (q : Fin 4) (r : Fin 8192) (f : Fin 704) : EReal :=
  ∑ d : Fin 1024, h (ix2 r d) * w (ix4 q 0 f d)
abbrev gAt : Fin 4 → Fin 8192 → Fin 704 → EReal := proj (V c main_v14) (V c main_v17)
abbrev uAt : Fin 4 → Fin 8192 → Fin 704 → EReal := proj (V c main_v14) (V c main_v18)

abbrev chip (t : Fin cfg0.N) : Fin 4 := ⟨t.val / 8, by have := (idx0 t).1; omega⟩
abbrev row0 (t : Fin cfg0.N) (r : Fin 1024) : Fin 8192 := ⟨t.val % 8 * 1024 + r, by omega⟩

theorem g_blk (t : Fin cfg0.N) (r : Fin 1024) (f : Fin 704) :
    k0_pay3 (F := Ideal) (iblk0 V c 0 t) (iblk0 V c 1 t) (ix2 r f) = gAt V c (chip t) (row0 t r) f := by
  rw [k0g]
  refine Finset.sum_congr rfl fun d _ => congrArg₂ (· * ·) ?_ ?_
  · blk_ext! [iblk0, idx0 t]
  · blk_ext! [iblk0, idx0 t]
theorem u_blk (t : Fin cfg0.N) (r : Fin 1024) (f : Fin 704) :
    k0_pay4 (F := Ideal) (iblk0 V c 0 t) (iblk0 V c 2 t) (ix2 r f) = uAt V c (chip t) (row0 t r) f := by
  rw [k0u]
  refine Finset.sum_congr rfl fun d _ => congrArg₂ (· * ·) ?_ ?_
  · blk_ext! [iblk0, idx0 t]
  · blk_ext! [iblk0, idx0 t]

/-- An array over chips, tokens and a chip's features. -/
def arr3 (g : Fin 4 → Fin 8192 → Fin 704 → EReal) : FVec Ideal S4x8192x704 .bf16 := fun j => g (show Fin 4 from j 0) (show Fin 8192 from j 1) (show Fin 704 from j 2)

/-- The activation. -/
theorem final0_3 : (dat0 V c).arrAt 3 cfg0.N = arr3 fun q r f => (gAt V c q r f * sg (gAt V c q r f)) * uAt V c q r f := by
  refine (dat0 V c).arrAt_eq_of_covers 3 _ (by decide +kernel) fun t _ y => ?_
  blk_simp
  rw [after0_3]
  frame_out
  generalize hG : (arr3 fun q r f => (gAt V c q r f * sg (gAt V c q r f)) * uAt V c q r f) = G
  refine at3 _ (fun y => G (((View.whole main_v20_0).slice (win0_3.rect t)).emb y)) (fun a r l => ?_) y
  have he : (((View.whole main_v20_0).slice (win0_3.rect t)).emb (ix3 a r l : S1x1024x704.Idx)) = (ix3 (chip t) (row0 t r) l : S4x8192x704.Idx) := by
    blk_ext! [idx0 t]
  refine (k0act _ _ _ a r l _ _ (g_blk V c t r l) (u_blk V c t r l)).trans ((?_ : _ = _).trans (congrArg G he).symm)
  rw [← hG]; rfl
/-- The stored factor of the gate's gradient, as an array. -/
theorem final0_4 : (dat0 V c).arrAt 4 cfg0.N = arr3 fun q r f => fgate (gAt V c q r f) (uAt V c q r f) := by
  refine (dat0 V c).arrAt_eq_of_covers 4 _ (by decide +kernel) fun t _ y => ?_
  blk_simp
  rw [after0_4]
  frame_out
  generalize hG : (arr3 fun q r f => fgate (gAt V c q r f) (uAt V c q r f)) = G
  refine at3 _ (fun y => G (((View.whole main_v20_1).slice (win0_4.rect t)).emb y)) (fun a r l => ?_) y
  have he : (((View.whole main_v20_1).slice (win0_4.rect t)).emb (ix3 a r l : S1x1024x704.Idx)) = (ix3 (chip t) (row0 t r) l : S4x8192x704.Idx) := by
    blk_ext! [idx0 t]
  refine (k0fg _ _ _ a r l _ _ (g_blk V c t r l) (u_blk V c t r l)).trans ((?_ : _ = _).trans (congrArg G he).symm)
  rw [← hG]; rfl
/-- The stored factor of the other projection's gradient, as an array. -/
theorem final0_5 : (dat0 V c).arrAt 5 cfg0.N = arr3 fun q r f => gAt V c q r f * sg (gAt V c q r f) := by
  refine (dat0 V c).arrAt_eq_of_covers 5 _ (by decide +kernel) fun t _ y => ?_
  blk_simp
  rw [after0_5]
  frame_out
  generalize hG : (arr3 fun q r f => gAt V c q r f * sg (gAt V c q r f)) = G
  refine at3 _ (fun y => G (((View.whole main_v20_2).slice (win0_5.rect t)).emb y)) (fun a r l => ?_) y
  have he : (((View.whole main_v20_2).slice (win0_5.rect t)).emb (ix3 a r l : S1x1024x704.Idx)) = (ix3 (chip t) (row0 t r) l : S4x8192x704.Idx) := by
    blk_ext! [idx0 t]
  refine (k0fu _ _ a r l _ (g_blk V c t r l)).trans ((?_ : _ = _).trans (congrArg G he).symm)
  rw [← hG]; rfl
end Cert.Kernel3Ideal.Ffn
-- ==== Proof.FfnBwd.lean ====
/- The backward call's blocks in terms of its operand arrays. -/
module
public import proofs.«01_k».proof.Proof.FfnPay
public import proofs.«01_k».proof.Proof.FfnUp

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath

/-- Which block every window stages at a grid point. -/
theorem idx1 : ∀ t : Fin cfg1.N, t.val < 32
    ∧ win1_0.index t = ![t.val, 0] ∧ win1_1.index t = ![0, 0, 0, 0] ∧ win1_2.index t = ![0, 0, 0, 0] ∧ win1_3.index t = ![0, 0, 0, 0]
    ∧ win1_4.index t = ![0, t.val, 0] ∧ win1_5.index t = ![0, t.val, 0] ∧ win1_6.index t = ![t.val, 0] ∧ win1_7.index t = ![0, 0] ∧ win1_8.index t = ![t.val, 0]
    ∧ win1_9.index t = ![0, t.val, 0] ∧ win1_10.index t = ![0, t.val, 0] ∧ win1_11.index t = ![t.val, 0] ∧ win1_12.index t = ![t.val, 0] ∧ win1_13.index t = ![0, 0] :=
  (by decide +kernel : ∀ t : Fin grid1.N, _)

variable (V : (c : Dev nD) → (b : Ref sig .tc) → Buf (Elt Ideal) ((c : Thread nD τ).loc b)) (c : Dev nD)

/-- The token of a block's row. -/
abbrev row1 (t : Fin cfg1.N) (r : Fin 256) : Fin 8192 := ⟨t.val * 256 + r, by have := (idx1 t).1; omega⟩

/-- The activation's gradient. -/
abbrev daAt : Fin 4 → Fin 8192 → Fin 704 → EReal := proj (V c main_v22) (V c main_v19)
/-- The gate's gradient. -/
def dgAt (q : Fin 4) (r : Fin 8192) (f : Fin 704) : EReal := daAt V c q r f * (V c main_v20_1 : FVec Ideal S4x8192x704 .bf16) (ix3 q r f)
/-- The other projection's gradient. -/
def duAt (q : Fin 4) (r : Fin 8192) (f : Fin 704) : EReal := daAt V c q r f * (V c main_v20_2 : FVec Ideal S4x8192x704 .bf16) (ix3 q r f)
/-- The normalised row's gradient. -/
def dhAt (r : Fin 8192) (k : Fin 1024) : EReal :=
  (∑ q : Fin 4, ∑ f : Fin 704, duAt V c q r f * (V c main_v18 : FVec Ideal S4x1x704x1024 .bf16) (ix4 q 0 f k))
    + ∑ q : Fin 4, ∑ f : Fin 704, dgAt V c q r f * (V c main_v17 : FVec Ideal S4x1x704x1024 .bf16) (ix4 q 0 f k)

section loads
variable {X : Type} (t : Fin cfg1.N)
/-- A load of one chip's weight. -/
theorem ld4 (x : FVec Ideal S4x1x704x1024 .bf16) (q : Fin 4) (h) (f : Fin 704) (d : Fin 1024) :
    (View.ld (Val := Elt Ideal) (e' := .bf16) x (Rect.unit (s := S4x1x704x1024) ![q.val, 0, 0, 0] ![1, 1, 704, 1024] h) : FVec Ideal S1x1x704x1024 .bf16) (ix4 0 0 f d) = x (ix4 q 0 f d) :=
  View.ld_unit_apply_of _ _ _ _ _ _ fun a => by
    fin_cases a
    · rfl
    · rfl
    · exact (Nat.zero_add _).symm
    · exact (Nat.zero_add _).symm
/-- A load of one chip's factors. -/
theorem ld3 (x : FVec Ideal S4x256x704 .bf16) (q : Fin 4) (h) (r : Fin 256) (f : Fin 704) :
    (View.ld (Val := Elt Ideal) (e' := .bf16) x (Rect.unit (s := S4x256x704) ![q.val, 0, 0] ![1, 256, 704] h) : FVec Ideal S1x256x704 .bf16) (ix3 0 r f) = x (ix3 q r f) :=
  View.ld_unit_apply_of _ _ _ _ _ _ fun a => by
    fin_cases a
    · rfl
    · exact (Nat.zero_add _).symm
    · exact (Nat.zero_add _).symm
end loads

section blocks
variable (t : Fin cfg1.N) (q : Fin 4) (h4 h3 h4') (r : Fin 256) (f : Fin 704) (k : Fin 1024)

theorem blk_ct (d : Fin 1024) : (iblk1 V c 0 t : FVec Ideal S256x1024 .bf16) (ix2 r d) = (V c main_v22 : FVec Ideal S8192x1024 .bf16) (ix2 (row1 t r) d) := by
  blk_ext! [iblk1, idx1 t]
theorem blk_wd (d : Fin 1024) : (iblk1 V c 1 t : FVec Ideal S4x1x704x1024 .bf16) (ix4 q 0 f d) = (V c main_v19 : FVec Ideal S4x1x704x1024 .bf16) (ix4 q 0 f d) := by
  blk_ext! [iblk1, idx1 t]
theorem blk_wg (d : Fin 1024) : (iblk1 V c 2 t : FVec Ideal S4x1x704x1024 .bf16) (ix4 q 0 f d) = (V c main_v17 : FVec Ideal S4x1x704x1024 .bf16) (ix4 q 0 f d) := by
  blk_ext! [iblk1, idx1 t]
theorem blk_wu (d : Fin 1024) : (iblk1 V c 3 t : FVec Ideal S4x1x704x1024 .bf16) (ix4 q 0 f d) = (V c main_v18 : FVec Ideal S4x1x704x1024 .bf16) (ix4 q 0 f d) := by
  blk_ext! [iblk1, idx1 t]
theorem blk_fg : (iblk1 V c 4 t : FVec Ideal S4x256x704 .bf16) (ix3 q r f) = (V c main_v20_1 : FVec Ideal S4x8192x704 .bf16) (ix3 q (row1 t r) f) := by
  blk_ext! [iblk1, idx1 t]
theorem blk_fu : (iblk1 V c 5 t : FVec Ideal S4x256x704 .bf16) (ix3 q r f) = (V c main_v20_2 : FVec Ideal S4x8192x704 .bf16) (ix3 q (row1 t r) f) := by
  blk_ext! [iblk1, idx1 t]
theorem blk_x : (iblk1 V c 6 t : FVec Ideal S256x1024 .f32) (ix2 r k) = (V c main_v23 : FVec Ideal S8192x1024 .f32) (ix2 (row1 t r) k) := by
  blk_ext! [iblk1, idx1 t]
theorem blk_nf : (iblk1 V c 7 t : FVec Ideal S1x1024 .f32) (ix2 0 k) = (V c main_v24 : FVec Ideal S1x1024 .f32) (ix2 0 k) := by
  blk_ext! [iblk1, idx1 t]
theorem blk_res : (iblk1 V c 8 t : FVec Ideal S256x1024 .f32) (ix2 r k) = (V c main_v21 : FVec Ideal S8192x1024 .f32) (ix2 (row1 t r) k) := by
  blk_ext! [iblk1, idx1 t]

/-- One chip's tile of the gate's gradient. -/
theorem tile_dg : tile (iblk1 V c 0 t) (View.ld (Val := Elt Ideal) (e' := .bf16) (iblk1 V c 1 t) (Rect.unit (s := S4x1x704x1024) ![q.val, 0, 0, 0] ![1, 1, 704, 1024] h4))
    (View.ld (Val := Elt Ideal) (e' := .bf16) (iblk1 V c 4 t) (Rect.unit (s := S4x256x704) ![q.val, 0, 0] ![1, 256, 704] h3)) r f = dgAt V c q (row1 t r) f := by
  unfold tile dgAt daAt proj
  refine congrArg₂ (· * ·) (Finset.sum_congr rfl fun d _ => congrArg₂ (· * ·) (blk_ct V c t r d) ?_) ?_
  · exact (ld4 _ q h4 f d).trans (blk_wd V c t q f d)
  · exact (ld3 _ q h3 r f).trans (blk_fg V c t q r f)
/-- One chip's tile of the other projection's gradient. -/
theorem tile_du : tile (iblk1 V c 0 t) (View.ld (Val := Elt Ideal) (e' := .bf16) (iblk1 V c 1 t) (Rect.unit (s := S4x1x704x1024) ![q.val, 0, 0, 0] ![1, 1, 704, 1024] h4))
    (View.ld (Val := Elt Ideal) (e' := .bf16) (iblk1 V c 5 t) (Rect.unit (s := S4x256x704) ![q.val, 0, 0] ![1, 256, 704] h3)) r f = duAt V c q (row1 t r) f := by
  unfold tile duAt daAt proj
  refine congrArg₂ (· * ·) (Finset.sum_congr rfl fun d _ => congrArg₂ (· * ·) (blk_ct V c t r d) ?_) ?_
  · exact (ld4 _ q h4 f d).trans (blk_wd V c t q f d)
  · exact (ld3 _ q h3 r f).trans (blk_fu V c t q r f)
/-- One chip's share of the row's gradient through the gate. -/
theorem part_dg : part (iblk1 V c 0 t) (View.ld (Val := Elt Ideal) (e' := .bf16) (iblk1 V c 1 t) (Rect.unit (s := S4x1x704x1024) ![q.val, 0, 0, 0] ![1, 1, 704, 1024] h4))
    (View.ld (Val := Elt Ideal) (e' := .bf16) (iblk1 V c 2 t) (Rect.unit (s := S4x1x704x1024) ![q.val, 0, 0, 0] ![1, 1, 704, 1024] h4'))
    (View.ld (Val := Elt Ideal) (e' := .bf16) (iblk1 V c 4 t) (Rect.unit (s := S4x256x704) ![q.val, 0, 0] ![1, 256, 704] h3)) r k
      = ∑ f : Fin 704, dgAt V c q (row1 t r) f * (V c main_v17 : FVec Ideal S4x1x704x1024 .bf16) (ix4 q 0 f k) :=
  Finset.sum_congr rfl fun f _ => congrArg₂ (· * ·) (tile_dg V c t q h4 h3 r f) ((ld4 _ q h4' f k).trans (blk_wg V c t q f k))
/-- One chip's share of the row's gradient through the other projection. -/
theorem part_du : part (iblk1 V c 0 t) (View.ld (Val := Elt Ideal) (e' := .bf16) (iblk1 V c 1 t) (Rect.unit (s := S4x1x704x1024) ![q.val, 0, 0, 0] ![1, 1, 704, 1024] h4))
    (View.ld (Val := Elt Ideal) (e' := .bf16) (iblk1 V c 3 t) (Rect.unit (s := S4x1x704x1024) ![q.val, 0, 0, 0] ![1, 1, 704, 1024] h4'))
    (View.ld (Val := Elt Ideal) (e' := .bf16) (iblk1 V c 5 t) (Rect.unit (s := S4x256x704) ![q.val, 0, 0] ![1, 256, 704] h3)) r k
      = ∑ f : Fin 704, duAt V c q (row1 t r) f * (V c main_v18 : FVec Ideal S4x1x704x1024 .bf16) (ix4 q 0 f k) :=
  Finset.sum_congr rfl fun f _ => congrArg₂ (· * ·) (tile_du V c t q h4 h3 r f) ((ld4 _ q h4' f k).trans (blk_wu V c t q f k))
end blocks

section accumulator
variable (x0 : FVec Ideal S256x1024 .bf16) (x1 x2 x3 : FVec Ideal S4x1x704x1024 .bf16) (x4 x5 : FVec Ideal S4x256x704 .bf16)
/-- One chip's weight, loaded. -/
abbrev w4 (x : FVec Ideal S4x1x704x1024 .bf16) (q : ℕ)
    (h : ∀ a, (![q, 0, 0, 0] : Fin 4 → ℕ) a + (![1, 1, 704, 1024] : Fin 4 → ℕ) a ≤ S4x1x704x1024.size a) : FVec Ideal S1x1x704x1024 .bf16 :=
  View.ld (Val := Elt Ideal) (e' := .bf16) x (Rect.unit (s := S4x1x704x1024) ![q, 0, 0, 0] ![1, 1, 704, 1024] h)
/-- One chip's factors, loaded. -/
abbrev w3 (x : FVec Ideal S4x256x704 .bf16) (q : ℕ)
    (h : ∀ a, (![q, 0, 0] : Fin 3 → ℕ) a + (![1, 256, 704] : Fin 3 → ℕ) a ≤ S4x256x704.size a) : FVec Ideal S1x256x704 .bf16 :=
  View.ld (Val := Elt Ideal) (e' := .bf16) x (Rect.unit (s := S4x256x704) ![q, 0, 0] ![1, 256, 704] h)
/-- The row's gradient as the body accumulates it, chip by chip. -/
def accBlk : FVec Ideal S256x1024 .f32 :=
  k1_pay26 (F := Ideal) (k1_pay1 x0)
    (k1_pay20 (k1_pay1 x0)
      (k1_pay14 (k1_pay1 x0)
        (k1_pay4 x0 (w4 x1 0 inb_S4x1x704x1024_S1x1x704x1024_0_0_0_0) (w3 x5 0 inb_S4x256x704_S1x256x704_0_0_0))
        (k1_pay7 x0 (w4 x1 0 inb_S4x1x704x1024_S1x1x704x1024_0_0_0_0) (w3 x4 0 inb_S4x256x704_S1x256x704_0_0_0) (w4 x2 0 inb_S4x1x704x1024_S1x1x704x1024_0_0_0_0))
        (k1_pay8 (w4 x3 0 inb_S4x1x704x1024_S1x1x704x1024_0_0_0_0))
        (w4 x1 1 inb_S4x1x704x1024_S1x1x704x1024_1_0_0_0) (w3 x4 1 inb_S4x256x704_S1x256x704_1_0_0) (w3 x5 1 inb_S4x256x704_S1x256x704_1_0_0)
        (w4 x2 1 inb_S4x1x704x1024_S1x1x704x1024_1_0_0_0) (w4 x3 1 inb_S4x1x704x1024_S1x1x704x1024_1_0_0_0))
      (w4 x1 2 inb_S4x1x704x1024_S1x1x704x1024_2_0_0_0) (w3 x4 2 inb_S4x256x704_S1x256x704_2_0_0) (w3 x5 2 inb_S4x256x704_S1x256x704_2_0_0)
      (w4 x2 2 inb_S4x1x704x1024_S1x1x704x1024_2_0_0_0) (w4 x3 2 inb_S4x1x704x1024_S1x1x704x1024_2_0_0_0))
    (w4 x1 3 inb_S4x1x704x1024_S1x1x704x1024_3_0_0_0) (w3 x4 3 inb_S4x256x704_S1x256x704_3_0_0) (w3 x5 3 inb_S4x256x704_S1x256x704_3_0_0)
    (w4 x2 3 inb_S4x1x704x1024_S1x1x704x1024_3_0_0_0) (w4 x3 3 inb_S4x1x704x1024_S1x1x704x1024_3_0_0_0)

theorem acc_eq (t : Fin cfg1.N) (r : Fin 256) (k : Fin 1024) :
    accBlk (iblk1 V c 0 t) (iblk1 V c 1 t) (iblk1 V c 2 t) (iblk1 V c 3 t) (iblk1 V c 4 t) (iblk1 V c 5 t) (ix2 r k) = dhAt V c (row1 t r) k := by
  unfold accBlk
  rw [pay26, pay20, pay14, pay7]
  have a0 := part_dg V c t 0 inb_S4x1x704x1024_S1x1x704x1024_0_0_0_0 inb_S4x256x704_S1x256x704_0_0_0 inb_S4x1x704x1024_S1x1x704x1024_0_0_0_0 r k
  have a1 := part_dg V c t 1 inb_S4x1x704x1024_S1x1x704x1024_1_0_0_0 inb_S4x256x704_S1x256x704_1_0_0 inb_S4x1x704x1024_S1x1x704x1024_1_0_0_0 r k
  have a2 := part_dg V c t 2 inb_S4x1x704x1024_S1x1x704x1024_2_0_0_0 inb_S4x256x704_S1x256x704_2_0_0 inb_S4x1x704x1024_S1x1x704x1024_2_0_0_0 r k
  have a3 := part_dg V c t 3 inb_S4x1x704x1024_S1x1x704x1024_3_0_0_0 inb_S4x256x704_S1x256x704_3_0_0 inb_S4x1x704x1024_S1x1x704x1024_3_0_0_0 r k
  have b0 := part_du V c t 0 inb_S4x1x704x1024_S1x1x704x1024_0_0_0_0 inb_S4x256x704_S1x256x704_0_0_0 inb_S4x1x704x1024_S1x1x704x1024_0_0_0_0 r k
  have b1 := part_du V c t 1 inb_S4x1x704x1024_S1x1x704x1024_1_0_0_0 inb_S4x256x704_S1x256x704_1_0_0 inb_S4x1x704x1024_S1x1x704x1024_1_0_0_0 r k
  have b2 := part_du V c t 2 inb_S4x1x704x1024_S1x1x704x1024_2_0_0_0 inb_S4x256x704_S1x256x704_2_0_0 inb_S4x1x704x1024_S1x1x704x1024_2_0_0_0 r k
  have b3 := part_du V c t 3 inb_S4x1x704x1024_S1x1x704x1024_3_0_0_0 inb_S4x256x704_S1x256x704_3_0_0 inb_S4x1x704x1024_S1x1x704x1024_3_0_0_0 r k
  refine (congrArg₂ (· + ·) (congrArg₂ (· + ·) (congrArg₂ (· + ·) (congrArg₂ (· + ·) (congrArg₂ (· + ·) (congrArg₂ (· + ·) (congrArg₂ (· + ·) a0 b0) a1) b1) a2) b2) a3) b3).trans ?_
  exact four_tiles (fun q => ∑ f : Fin 704, dgAt V c q (row1 t r) f * (V c main_v17 : FVec Ideal S4x1x704x1024 .bf16) (ix4 q 0 f k))
    (fun q => ∑ f : Fin 704, duAt V c q (row1 t r) f * (V c main_v18 : FVec Ideal S4x1x704x1024 .bf16) (ix4 q 0 f k))
end accumulator
end Cert.Kernel3Ideal.Ffn
-- ==== Proof.FfnFinal.lean ====
/- The backward call's five result arrays, whole. -/
module
public import proofs.«01_k».proof.Proof.FfnBwd

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath

variable (V : (c : Dev nD) → (b : Ref sig .tc) → Buf (Elt Ideal) ((c : Thread nD τ).loc b)) (c : Dev nD)

/-- A token's row of the residual stream. -/
def xAt (r : Fin 8192) (k : Fin 1024) : EReal := (V c main_v23 : FVec Ideal S8192x1024 .f32) (ix2 r k)
/-- The residual stream's gradient. -/
def dxAt (r : Fin 8192) (k : Fin 1024) : EReal :=
  normBack ((V c main_v21 : FVec Ideal S8192x1024 .f32) (ix2 r k)) (xAt V c r)
    (fun d => (V c main_v24 : FVec Ideal S1x1024 .f32) (ix2 0 d)) (dhAt V c r) k
/-- One token's share of the norm weight's gradient. -/
def dnfTerm (r : Fin 8192) (k : Fin 1024) : EReal := dhAt V c r k * (xAt V c r k * rs (xAt V c r))

/-- Which piece of an output block holds an index. -/
theorem piece (n q : Fin 4) (r : Fin 256) (f : Fin 704) (x : S1x256x704.Idx) (h0 : q.val = n.val + (x 0).val) (h1 : r.val = (x 1).val) (h2 : f.val = (x 2).val) :
    q = n ∧ x = ix3 0 r f := by
  have hz : (x 0).val = 0 := Nat.lt_one_iff.mp (x 0).isLt
  refine ⟨Fin.ext (by omega), funext fun a => ?_⟩
  fin_cases a
  · exact Fin.ext hz
  · exact Fin.ext h1.symm
  · exact Fin.ext h2.symm

section outs
variable (t : Fin cfg1.N)
/-- Every point leaves its tile of the gate's gradient. -/
theorem outs_dg (q : Fin 4) (r : Fin 256) (f : Fin 704) : ((outsAt1 V c t.val t.isLt).1 : FVec Ideal S4x256x704 .bf16) (ix3 q r f) = dgAt V c q (row1 t r) f := by
  by_cases h : t.val % 32 = 0
  · rw [outsAt1_A V c t h]; frame_out
    canon_tiles x h
    · obtain ⟨rfl, rfl⟩ := piece 3 q r f x h0 h1 h2
      exact (pay24 _ _ _ r f 0).trans (tile_dg V c t 3 _ _ r f)
    · obtain ⟨rfl, rfl⟩ := piece 2 q r f x h0 h1 h2
      exact (pay18 _ _ _ r f 0).trans (tile_dg V c t 2 _ _ r f)
    · obtain ⟨rfl, rfl⟩ := piece 1 q r f x h0 h1 h2
      exact (pay12 _ _ _ r f 0).trans (tile_dg V c t 1 _ _ r f)
    · obtain ⟨rfl, rfl⟩ := piece 0 q r f x (h0.trans (Nat.zero_add _).symm) h1 h2
      exact (pay5 _ _ _ r f 0).trans (tile_dg V c t 0 _ _ r f)
  · rw [outsAt1_B V c t h]; frame_out
    canon_tiles x h
    · obtain ⟨rfl, rfl⟩ := piece 3 q r f x h0 h1 h2
      exact (pay24 _ _ _ r f 0).trans (tile_dg V c t 3 _ _ r f)
    · obtain ⟨rfl, rfl⟩ := piece 2 q r f x h0 h1 h2
      exact (pay18 _ _ _ r f 0).trans (tile_dg V c t 2 _ _ r f)
    · obtain ⟨rfl, rfl⟩ := piece 1 q r f x h0 h1 h2
      exact (pay12 _ _ _ r f 0).trans (tile_dg V c t 1 _ _ r f)
    · obtain ⟨rfl, rfl⟩ := piece 0 q r f x (h0.trans (Nat.zero_add _).symm) h1 h2
      exact (pay5 _ _ _ r f 0).trans (tile_dg V c t 0 _ _ r f)
/-- Every point leaves its tile of the other projection's gradient. -/
theorem outs_du (q : Fin 4) (r : Fin 256) (f : Fin 704) : ((outsAt1 V c t.val t.isLt).2.1 : FVec Ideal S4x256x704 .bf16) (ix3 q r f) = duAt V c q (row1 t r) f := by
  by_cases h : t.val % 32 = 0
  · rw [outsAt1_A V c t h]; frame_out
    canon_tiles x h
    · obtain ⟨rfl, rfl⟩ := piece 3 q r f x h0 h1 h2
      exact (pay25 _ _ _ r f 0).trans (tile_du V c t 3 _ _ r f)
    · obtain ⟨rfl, rfl⟩ := piece 2 q r f x h0 h1 h2
      exact (pay19 _ _ _ r f 0).trans (tile_du V c t 2 _ _ r f)
    · obtain ⟨rfl, rfl⟩ := piece 1 q r f x h0 h1 h2
      exact (pay13 _ _ _ r f 0).trans (tile_du V c t 1 _ _ r f)
    · obtain ⟨rfl, rfl⟩ := piece 0 q r f x (h0.trans (Nat.zero_add _).symm) h1 h2
      exact (pay6 _ _ _ r f 0).trans (tile_du V c t 0 _ _ r f)
  · rw [outsAt1_B V c t h]; frame_out
    canon_tiles x h
    · obtain ⟨rfl, rfl⟩ := piece 3 q r f x h0 h1 h2
      exact (pay25 _ _ _ r f 0).trans (tile_du V c t 3 _ _ r f)
    · obtain ⟨rfl, rfl⟩ := piece 2 q r f x h0 h1 h2
      exact (pay19 _ _ _ r f 0).trans (tile_du V c t 2 _ _ r f)
    · obtain ⟨rfl, rfl⟩ := piece 1 q r f x h0 h1 h2
      exact (pay13 _ _ _ r f 0).trans (tile_du V c t 1 _ _ r f)
    · obtain ⟨rfl, rfl⟩ := piece 0 q r f x (h0.trans (Nat.zero_add _).symm) h1 h2
      exact (pay6 _ _ _ r f 0).trans (tile_du V c t 0 _ _ r f)
/-- The row block's gradient. -/
theorem dx_blk (r : Fin 256) (k : Fin 1024) :
    k1_pay31 (F := Ideal) (accBlk (iblk1 V c 0 t) (iblk1 V c 1 t) (iblk1 V c 2 t) (iblk1 V c 3 t) (iblk1 V c 4 t) (iblk1 V c 5 t))
      (k1_pay27 (iblk1 V c 6 t)) (k1_pay28 (iblk1 V c 7 t)) (iblk1 V c 8 t) (ix2 r k) = dxAt V c (row1 t r) k := by
  rw [pay31]
  unfold dxAt
  unfold xAt
  simp only [acc_eq, blk_x, blk_nf, blk_res]
/-- Every point leaves its rows of the residual's gradient. -/
theorem outs_dx (r : Fin 256) (k : Fin 1024) : ((outsAt1 V c t.val t.isLt).2.2.1 : FVec Ideal S256x1024 .f32) (ix2 r k) = dxAt V c (row1 t r) k := by
  by_cases h : t.val % 32 = 0
  · rw [outsAt1_A V c t h]; frame_out
    exact dx_blk V c t r k
  · rw [outsAt1_B V c t h]; frame_out
    exact dx_blk V c t r k
/-- The same rows, as the narrower copy. -/
theorem outs_dxb (r : Fin 256) (k : Fin 1024) : ((outsAt1 V c t.val t.isLt).2.2.2.1 : FVec Ideal S256x1024 .bf16) (ix2 r k) = dxAt V c (row1 t r) k := by
  by_cases h : t.val % 32 = 0
  · rw [outsAt1_A V c t h]; frame_out
    refine Eq.trans ?_ (dx_blk V c t r k)
    pointwise [k1_pay32]
    rfl
  · rw [outsAt1_B V c t h]; frame_out
    refine Eq.trans ?_ (dx_blk V c t r k)
    pointwise [k1_pay32]
    rfl
/-- A row block's share of the norm weight's gradient. -/
theorem dnf_blk (prev : FVec Ideal S1x1024 .f32) (a : Fin 1) (k : Fin 1024) :
    k1_pay34 (F := Ideal) (accBlk (iblk1 V c 0 t) (iblk1 V c 1 t) (iblk1 V c 2 t) (iblk1 V c 3 t) (iblk1 V c 4 t) (iblk1 V c 5 t))
      (k1_pay27 (iblk1 V c 6 t)) prev (ix2 a k) = prev (ix2 a k) + ∑ r : Fin 256, dnfTerm V c (row1 t r) k := by
  rw [pay34]
  unfold dnfTerm xAt
  simp only [acc_eq, blk_x]
theorem zero_blk (a : Fin 1) (k : Fin 1024) : k1_pay33 (F := Ideal) (ix2 a k) = 0 := by
  pointwise [k1_pay33]
end outs

/-- The norm weight's gradient, after the last point. -/
theorem outs_dnf (t : Fin cfg1.N) (ht : t.val + 1 = cfg1.N) (a : Fin 1) (k : Fin 1024) :
    ((outsAt1 V c t.val t.isLt).2.2.2.2 : FVec Ideal S1x1024 .f32) (ix2 a k) = ∑ r : Fin 8192, dnfTerm V c r k := by
  rw [Pipeline.eq_sum_fin_of_reset_step_apply_last (fun n h => (outsAt1 V c n h).2.2.2.2) 32 (fun _ => (0 : EReal))
      (fun t j => ∑ r : Fin 256, dnfTerm V c (row1 t r) (show Fin 1024 from j 1))
      (fun t h j => by
        revert j
        refine at2 _ _ fun a k => ?_
        beta_reduce
        rw [outsAt1_A V c t h]; frame_out
        exact (dnf_blk V c t _ a k).trans (congrArg₂ (· + ·) (zero_blk a k) rfl))
      (fun t h j => by
        revert j
        refine at2 _ _ fun a k => ?_
        beta_reduce
        rw [outsAt1_B V c t h]; frame_out
        exact dnf_blk V c t _ a k)
      (le_of_eq Gen.N_1) t ht (ix2 a k), zero_add]
  exact Fin.sum_mul_add_congr fun t r hl => rfl

/-- An array over tokens and model features. -/
def arr2 {e : FTy} (g : Fin 8192 → Fin 1024 → EReal) : FVec Ideal S8192x1024 e := fun j => g (show Fin 8192 from j 0) (show Fin 1024 from j 1)

/-- An array over model features. -/
def arr1 (g : Fin 1024 → EReal) : FVec Ideal S1x1024 .f32 := fun j => g (show Fin 1024 from j 1)

/-- The gate's gradient. -/
theorem final1_9 : (dat1 V c).arrAt 9 cfg1.N = arr3 (dgAt V c) := by
  refine (dat1 V c).arrAt_eq_of_covers 9 _ (by decide +kernel) fun t _ y => ?_
  blk_simp
  rw [after1_9]
  generalize hG : arr3 (dgAt V c) = G
  refine at3 _ (fun y => G (((View.whole main_v25_0).slice (win1_9.rect t)).emb y)) (fun q r l => ?_) y
  have he : (((View.whole main_v25_0).slice (win1_9.rect t)).emb (ix3 q r l : S4x256x704.Idx)) = (ix3 q (row1 t r) l : S4x8192x704.Idx) := by
    blk_ext! [idx1 t]
  refine (outs_dg V c t q r l).trans ((?_ : _ = _).trans (congrArg G he).symm)
  rw [← hG]; rfl
/-- The other projection's gradient. -/
theorem final1_10 : (dat1 V c).arrAt 10 cfg1.N = arr3 (duAt V c) := by
  refine (dat1 V c).arrAt_eq_of_covers 10 _ (by decide +kernel) fun t _ y => ?_
  blk_simp
  rw [after1_10]
  generalize hG : arr3 (duAt V c) = G
  refine at3 _ (fun y => G (((View.whole main_v25_1).slice (win1_10.rect t)).emb y)) (fun q r l => ?_) y
  have he : (((View.whole main_v25_1).slice (win1_10.rect t)).emb (ix3 q r l : S4x256x704.Idx)) = (ix3 q (row1 t r) l : S4x8192x704.Idx) := by
    blk_ext! [idx1 t]
  refine (outs_du V c t q r l).trans ((?_ : _ = _).trans (congrArg G he).symm)
  rw [← hG]; rfl
/-- The residual's gradient. -/
theorem final1_11 : (dat1 V c).arrAt 11 cfg1.N = arr2 (e := .f32) (dxAt V c) := by
  refine (dat1 V c).arrAt_eq_of_covers 11 _ (by decide +kernel) fun t _ y => ?_
  blk_simp
  rw [after1_11]
  generalize hG : arr2 (e := .f32) (dxAt V c) = G
  refine at2 _ (fun y => G (((View.whole main_v25_2).slice (win1_11.rect t)).emb y)) (fun r l => ?_) y
  have he : (((View.whole main_v25_2).slice (win1_11.rect t)).emb (ix2 r l : S256x1024.Idx)) = (ix2 (row1 t r) l : S8192x1024.Idx) := by
    blk_ext! [idx1 t]
  refine (outs_dx V c t r l).trans ((?_ : _ = _).trans (congrArg G he).symm)
  rw [← hG]; rfl
/-- Its narrower copy. -/
theorem final1_12 : (dat1 V c).arrAt 12 cfg1.N = arr2 (e := .bf16) (dxAt V c) := by
  refine (dat1 V c).arrAt_eq_of_covers 12 _ (by decide +kernel) fun t _ y => ?_
  blk_simp
  rw [after1_12]
  generalize hG : arr2 (e := .bf16) (dxAt V c) = G
  refine at2 _ (fun y => G (((View.whole main_v25_3).slice (win1_12.rect t)).emb y)) (fun r l => ?_) y
  have he : (((View.whole main_v25_3).slice (win1_12.rect t)).emb (ix2 r l : S256x1024.Idx)) = (ix2 (row1 t r) l : S8192x1024.Idx) := by
    blk_ext! [idx1 t]
  refine (outs_dxb V c t r l).trans ((?_ : _ = _).trans (congrArg G he).symm)
  rw [← hG]; rfl
/-- The norm weight's gradient. -/
theorem final1_13 : (dat1 V c).arrAt 13 cfg1.N = arr1 (fun k => ∑ r : Fin 8192, dnfTerm V c r k) := by
  refine (dat1 V c).arrAt_eq_of_covers 13 _ (by decide +kernel) fun t hf y => ?_
  have ht : t.val + 1 = cfg1.N := by
    have h1 := (flush1_13 t).mp hf
    have h2 := (idx1 t).1
    have h3 : cfg1.N = 32 := Gen.N_1
    omega
  blk_simp
  rw [after1_13]
  generalize hG : arr1 (fun k => ∑ r : Fin 8192, dnfTerm V c r k) = G
  refine at2 _ (fun y => G (((View.whole main_v25_4).slice (win1_13.rect t)).emb y)) (fun a l => ?_) y
  have he : (((View.whole main_v25_4).slice (win1_13.rect t)).emb (ix2 a l : S1x1024.Idx)) = (ix2 a l : S1x1024.Idx) := by
    blk_ext! [idx1 t]
  refine (outs_dnf V c t ht a l).trans ((?_ : _ = _).trans (congrArg G he).symm)
  rw [← hG]; rfl
end Cert.Kernel3Ideal.Ffn
-- ==== Proof.FfnHost.lean ====
/- The two calls' operands as the host code prepares them, and their results in the operands' terms. -/
module
public import proofs.«01_k».proof.Proof.FfnFinal
public import proofs.«01_k».proof.Proof.FfnSpec
public import Idealize.ShloMosaic.Lib.Pointwise

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath

variable (m : (ℓ : Loc nD τ sig) → Buf (Elt Ideal) ℓ) (ρ : Dev nD → PrngReg) (c : Dev nD)

/-- The residual stream. -/
abbrev mx : FfnSpec.Stream := m ((c : Thread nD τ).loc main_arg0)
/-- The norm's weight. -/
abbrev mnf : FfnSpec.Norm := m ((c : Thread nD τ).loc main_arg1)
/-- The gate's projection. -/
abbrev mwg : FfnSpec.In := m ((c : Thread nD τ).loc main_arg2)
/-- The other projection. -/
abbrev mwu : FfnSpec.In := m ((c : Thread nD τ).loc main_arg3)
/-- The projection back. -/
abbrev mwd : FfnSpec.Out := m ((c : Thread nD τ).loc main_arg4)
/-- The cotangent. -/
abbrev mct : FfnSpec.Stream := m ((c : Thread nD τ).loc main_arg5)

theorem V1_h (r : Fin 8192) (d : Fin 1024) : (V1 m ρ c main_v14 : FVec Ideal S8192x1024 .bf16) (ix2 r d) = FfnSpec.hid (mx m c) (mnf m c) r d := by
  generalize hz : FfnSpec.hid (mx m c) (mnf m c) r d = z
  simp only [V1, W1, W0, hostOps0]
  entry_read
  pointwise
  rw [← hz]; rfl
theorem V1_wg (q : Fin 4) (a : Fin 1) (f : Fin 704) (d : Fin 1024) : (V1 m ρ c main_v17 : FVec Ideal S4x1x704x1024 .bf16) (ix4 q a f d) = mwg m c (ix2 d (FfnSpec.col q f)) := by
  generalize hz : mwg m c (ix2 d (FfnSpec.col q f)) = z
  simp only [V1, W1, W0, hostOps0]
  entry_read
  pointwise
  rw [← hz]
theorem V1_wu (q : Fin 4) (a : Fin 1) (f : Fin 704) (d : Fin 1024) : (V1 m ρ c main_v18 : FVec Ideal S4x1x704x1024 .bf16) (ix4 q a f d) = mwu m c (ix2 d (FfnSpec.col q f)) := by
  generalize hz : mwu m c (ix2 d (FfnSpec.col q f)) = z
  simp only [V1, W1, W0, hostOps0]
  entry_read
  pointwise
  rw [← hz]
theorem V1_wd (q : Fin 4) (a : Fin 1) (f : Fin 704) (d : Fin 1024) : (V1 m ρ c main_v19 : FVec Ideal S4x1x704x1024 .bf16) (ix4 q a f d) = mwd m c (ix2 (FfnSpec.col q f) d) := by
  generalize hz : mwd m c (ix2 (FfnSpec.col q f) d) = z
  simp only [V1, W1, W0, hostOps0]
  entry_read
  pointwise
  rw [← hz]

theorem g_eq (q : Fin 4) (r : Fin 8192) (f : Fin 704) : gAt (V1 m ρ) c q r f = FfnSpec.inp (mx m c) (mnf m c) (mwg m c) r (FfnSpec.col q f) :=
  Finset.sum_congr rfl fun d _ => congrArg₂ (· * ·) (V1_h m ρ c r d) (V1_wg m ρ c q 0 f d)
theorem u_eq (q : Fin 4) (r : Fin 8192) (f : Fin 704) : uAt (V1 m ρ) c q r f = FfnSpec.inp (mx m c) (mnf m c) (mwu m c) r (FfnSpec.col q f) :=
  Finset.sum_congr rfl fun d _ => congrArg₂ (· * ·) (V1_h m ρ c r d) (V1_wu m ρ c q 0 f d)

/-- An array the second stretch of host code and the first call leave as it was. -/
theorem V3_of (r : Ref sig .tc) (h : r ∉ hostOps1_W) (hw : ∀ w : Fin cfg0.W, Pipeline.arrRef spec0 w = r → (cfg0.win w).isOut = false) :
    V3 m ρ c r = V1 m ρ c r := (W3_of m ρ c r h).trans (W2_of m ρ c r hw)
theorem V3_wg : V3 m ρ c main_v17 = V1 m ρ c main_v17 := V3_of m ρ c _ (by decide +kernel) (by decide +kernel)
theorem V3_wu : V3 m ρ c main_v18 = V1 m ρ c main_v18 := V3_of m ρ c _ (by decide +kernel) (by decide +kernel)
theorem V3_wd : V3 m ρ c main_v19 = V1 m ρ c main_v19 := V3_of m ρ c _ (by decide +kernel) (by decide +kernel)
theorem V3_fg : V3 m ρ c main_v20_1 = arr3 fun q r f => fgate (gAt (V1 m ρ) c q r f) (uAt (V1 m ρ) c q r f) :=
  ((W3_of m ρ c main_v20_1 (by decide +kernel)).trans (W2_arr m ρ c 4)).trans (final0_4 (V1 m ρ) c)
theorem V3_fu : V3 m ρ c main_v20_2 = arr3 fun q r f => gAt (V1 m ρ) c q r f * sg (gAt (V1 m ρ) c q r f) :=
  ((W3_of m ρ c main_v20_2 (by decide +kernel)).trans (W2_arr m ρ c 5)).trans (final0_5 (V1 m ρ) c)
theorem W2_x : W2 m ρ c (Proc.devRef .tc main_arg0) = m ((c : Thread nD τ).loc main_arg0) := W2_args m ρ c _ (by decide +kernel)
theorem W2_nf : W2 m ρ c (Proc.devRef .tc main_arg1) = m ((c : Thread nD τ).loc main_arg1) := W2_args m ρ c _ (by decide +kernel)
theorem W2_ct : W2 m ρ c (Proc.devRef .tc main_arg5) = m ((c : Thread nD τ).loc main_arg5) := W2_args m ρ c _ (by decide +kernel)
theorem V3_ct (r : Fin 8192) (d : Fin 1024) : (V3 m ρ c main_v21 : FVec Ideal S8192x1024 .f32) (ix2 r d) = FfnSpec.row (mct m c) r d := by
  generalize hz : FfnSpec.row (mct m c) r d = z
  simp only [V3, W3, hostOps1]
  entry_read
  pointwise
  rw [W2_ct, ← hz]; rfl
theorem V3_ctb (r : Fin 8192) (d : Fin 1024) : (V3 m ρ c main_v22 : FVec Ideal S8192x1024 .bf16) (ix2 r d) = FfnSpec.row (mct m c) r d := by
  generalize hz : FfnSpec.row (mct m c) r d = z
  simp only [V3, W3, hostOps1]
  entry_read
  pointwise
  rw [W2_ct, ← hz]; rfl
theorem V3_x (r : Fin 8192) (d : Fin 1024) : (V3 m ρ c main_v23 : FVec Ideal S8192x1024 .f32) (ix2 r d) = FfnSpec.row (mx m c) r d := by
  generalize hz : FfnSpec.row (mx m c) r d = z
  simp only [V3, W3, hostOps1]
  entry_read
  pointwise
  rw [W2_x, ← hz]; rfl
theorem V3_nf (d : Fin 1024) : (V3 m ρ c main_v24 : FVec Ideal S1x1024 .f32) (ix2 0 d) = mnf m c (ix1 d) := by
  generalize hz : mnf m c (ix1 d) = z
  simp only [V3, W3, hostOps1]
  entry_read
  pointwise
  rw [W2_nf, ← hz]

theorem da_eq (q : Fin 4) (r : Fin 8192) (f : Fin 704) : daAt (V3 m ρ) c q r f = FfnSpec.da (mwd m c) (mct m c) r (FfnSpec.col q f) :=
  Finset.sum_congr rfl fun d _ => congrArg₂ (· * ·) (V3_ctb m ρ c r d) ((congrFun (V3_wd m ρ c) _).trans (V1_wd m ρ c q 0 f d))
theorem dg_eq (q : Fin 4) (r : Fin 8192) (f : Fin 704) :
    dgAt (V3 m ρ) c q r f = FfnSpec.dg (mx m c) (mnf m c) (mwg m c) (mwu m c) (mwd m c) (mct m c) r (FfnSpec.col q f) :=
  congrArg₂ (· * ·) (da_eq m ρ c q r f) ((congrFun (V3_fg m ρ c) _).trans (congrArg₂ fgate (g_eq m ρ c q r f) (u_eq m ρ c q r f)))
theorem du_eq (q : Fin 4) (r : Fin 8192) (f : Fin 704) :
    duAt (V3 m ρ) c q r f = FfnSpec.du (mx m c) (mnf m c) (mwg m c) (mwd m c) (mct m c) r (FfnSpec.col q f) :=
  congrArg₂ (· * ·) (da_eq m ρ c q r f) ((congrFun (V3_fu m ρ c) _).trans (congrArg (fun g => g * sg g) (g_eq m ρ c q r f)))
theorem dh_eq (r : Fin 8192) (k : Fin 1024) :
    dhAt (V3 m ρ) c r k = FfnSpec.dh (mx m c) (mnf m c) (mwg m c) (mwu m c) (mwd m c) (mct m c) r k := by
  unfold dhAt FfnSpec.dh
  rw [← FfnSpec.sum_chips, ← FfnSpec.sum_chips]
  refine congrArg₂ (· + ·) (Finset.sum_congr rfl fun q _ => Finset.sum_congr rfl fun f _ => congrArg₂ (· * ·) (du_eq m ρ c q r f) ?_)
    (Finset.sum_congr rfl fun q _ => Finset.sum_congr rfl fun f _ => congrArg₂ (· * ·) (dg_eq m ρ c q r f) ?_)
  · exact (congrFun (V3_wu m ρ c) _).trans (V1_wu m ρ c q 0 f k)
  · exact (congrFun (V3_wg m ρ c) _).trans (V1_wg m ρ c q 0 f k)
theorem x_eq (r : Fin 8192) : xAt (V3 m ρ) c r = FfnSpec.row (mx m c) r := funext fun k => V3_x m ρ c r k
theorem dx_eq (r : Fin 8192) (k : Fin 1024) :
    dxAt (V3 m ρ) c r k = FfnSpec.dx (mx m c) (mnf m c) (mwg m c) (mwu m c) (mwd m c) (mct m c) r k := by
  unfold dxAt FfnSpec.dx
  rw [x_eq, V3_ct, show dhAt (V3 m ρ) c r = _ from funext (dh_eq m ρ c r), show (fun d => (V3 m ρ c main_v24 : FVec Ideal S1x1024 .f32) (ix2 0 d)) = _ from funext (V3_nf m ρ c)]
theorem dnf_eq (k : Fin 1024) :
    (∑ r : Fin 8192, dnfTerm (V3 m ρ) c r k) = FfnSpec.dnf (mx m c) (mnf m c) (mwg m c) (mwu m c) (mwd m c) (mct m c) k := by
  unfold dnfTerm FfnSpec.dnf
  simp only [x_eq, dh_eq]
end Cert.Kernel3Ideal.Ffn
-- ==== Proof.FfnRun.lean ====
/- The launch of the two calls: every result array at the end, in the operands' terms. -/
module
public import proofs.«01_k».proof.Proof.FfnHost

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.Kernel3Ideal.Ffn
open Cert.Kernel3Ideal Cert.Kernel3Ideal.Gen Cert.FfnMath

variable (m : (ℓ : Loc nD τ sig) → Buf (Elt Ideal) ℓ) (ρ : Dev nD → PrngReg)

set_option backward.isDefEq.respectTransparency.types false in
/-- At the end every unscoped buffer holds what the last boundary of the run says. -/
theorem run_all : θ_run defs (onTc (τ := τ) (main (F := Ideal))) ⟨m, fun _ => 0, ρ⟩ (fun r => ∀ c : Dev nD, ∀ b ∈ Pipeline.ucRefs τ sig,
      r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

variable (c : Dev nD)

/-- The activation, chip by chip. -/
def Out0 : FVec Ideal S4x8192x704 .bf16 := arr3 fun q r f => FfnSpec.act (mx m c) (mnf m c) (mwg m c) (mwu m c) r (FfnSpec.col q f)
/-- The gate's gradient, chip by chip. -/
def Out1 : FVec Ideal S4x8192x704 .bf16 := arr3 fun q r f => FfnSpec.dg (mx m c) (mnf m c) (mwg m c) (mwu m c) (mwd m c) (mct m c) r (FfnSpec.col q f)
/-- The other projection's gradient, chip by chip. -/
def Out2 : FVec Ideal S4x8192x704 .bf16 := arr3 fun q r f => FfnSpec.du (mx m c) (mnf m c) (mwg m c) (mwd m c) (mct m c) r (FfnSpec.col q f)
/-- The residual stream's gradient. -/
def Out3 : FVec Ideal S8192x1024 .f32 := arr2 (e := .f32) (FfnSpec.dx (mx m c) (mnf m c) (mwg m c) (mwu m c) (mwd m c) (mct m c))
/-- The residual stream's gradient in the narrow format. -/
def Out4 : FVec Ideal S8192x1024 .bf16 := arr2 (e := .bf16) (FfnSpec.dx (mx m c) (mnf m c) (mwg m c) (mwu m c) (mwd m c) (mct m c))
/-- The norm weight's gradient. -/
def Out5 : FVec Ideal S1x1024 .f32 := arr1 (FfnSpec.dnf (mx m c) (mnf m c) (mwg m c) (mwu m c) (mwd m c) (mct m c))

theorem end0 : W4 m ρ c (Proc.devRef .tc main_v20_0) = Out0 m c :=
  ((W4_of m ρ c main_v20_0 (by decide +kernel)).trans ((W3_of m ρ c main_v20_0 (by decide +kernel)).trans (W2_arr m ρ c 3))).trans
    ((final0_3 (V1 m ρ) c).trans (congrArg arr3 (funext fun q => funext fun r => funext fun f =>
      (congrArg₂ (fun g u => (g * sg g) * u) (g_eq m ρ c q r f) (u_eq m ρ c q r f)))))
theorem end1 : W4 m ρ c (Proc.devRef .tc main_v25_0) = Out1 m c :=
  (W4_arr m ρ c 9).trans ((final1_9 (V3 m ρ) c).trans (congrArg arr3 (funext fun q => funext fun r => funext fun f => dg_eq m ρ c q r f)))
theorem end2 : W4 m ρ c (Proc.devRef .tc main_v25_1) = Out2 m c :=
  (W4_arr m ρ c 10).trans ((final1_10 (V3 m ρ) c).trans (congrArg arr3 (funext fun q => funext fun r => funext fun f => du_eq m ρ c q r f)))
theorem end3 : W4 m ρ c (Proc.devRef .tc main_v25_2) = Out3 m c :=
  (W4_arr m ρ c 11).trans ((final1_11 (V3 m ρ) c).trans (congrArg (arr2 (e := .f32)) (funext fun r => funext fun k => dx_eq m ρ c r k)))
theorem end4 : W4 m ρ c (Proc.devRef .tc main_v25_3) = Out4 m c :=
  (W4_arr m ρ c 12).trans ((final1_12 (V3 m ρ) c).trans (congrArg (arr2 (e := .bf16)) (funext fun r => funext fun k => dx_eq m ρ c r k)))
theorem end5 : W4 m ρ c (Proc.devRef .tc main_v25_4) = Out5 m c :=
  (W4_arr m ρ c 13).trans ((final1_13 (V3 m ρ) c).trans (congrArg arr1 (funext fun k => dnf_eq m ρ c k)))

/-- The run ends with the six results and the operands unchanged. -/
theorem run : θ_run defs (onTc (τ := τ) (main (F := Ideal))) ⟨m, fun _ => 0, ρ⟩ (fun r => ∀ c : Dev nD,
      r.2.mem ((c.tc : Thread nD τ).loc main_v20_0) = Out0 m c
      ∧ r.2.mem ((c.tc : Thread nD τ).loc main_v25_0) = Out1 m c
      ∧ r.2.mem ((c.tc : Thread nD τ).loc main_v25_1) = Out2 m c
      ∧ r.2.mem ((c.tc : Thread nD τ).loc main_v25_2) = Out3 m c
      ∧ r.2.mem ((c.tc : Thread nD τ).loc main_v25_3) = Out4 m c
      ∧ r.2.mem ((c.tc : Thread nD τ).loc main_v25_4) = Out5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v20_0 (by decide))).trans (end0 m ρ c),
     (h c _ (mem_uc main_v25_0 (by decide))).trans (end1 m ρ c),
     (h c _ (mem_uc main_v25_1 (by decide))).trans (end2 m ρ c),
     (h c _ (mem_uc main_v25_2 (by decide))).trans (end3 m ρ c),
     (h c _ (mem_uc main_v25_3 (by decide))).trans (end4 m ρ c),
     (h c _ (mem_uc main_v25_4 (by decide))).trans (end5 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel3Ideal.Ffn
-- ==== Proof.FfnJoin.lean ====
/- The reference's results are the arrays the two calls leave. -/
module
public import proofs.«01_k».proof.Proof.FfnReal
public import proofs.«01_k».proof.Proof.FfnRun
public import proofs.«01_k».proof.Defs
public import proofs.«01_k».proof.Proof.Gen.Pre_finite3

@[expose] public section
set_option maxRecDepth 16384
noncomputable section
open Idealize.ShloMosaic Idealize.ShloMosaic.TcCoe Idealize.SL.Sem
namespace Cert.Kernel3Ideal.Ffn
open Cert.Kernel3Ideal Cert.Kernel3Ideal.Gen Cert.FfnMath Cert.FfnSpec Cert.Reference4Ideal.Ffn Cert.Reference4Ideal.Read

/-- The word of infinity. -/
theorem pos_inf : Ideal.ofBits .f32 0x7F800000#32 = (⊤ : EReal) := by
  simp [Ideal.ofBits, Ideal.ieee]
/-- A value whose magnitude is below infinity is a real number. -/
theorem isReal_of_cmp {a : EReal} (e : Ideal.cmp .olt (max a (-a)) (Ideal.ofBits .f32 0x7F800000#32) = 1) : IsReal a := by
  rw [Ideal.cmp_olt_eq_one, pos_inf] at e
  refine ⟨a.toReal, (EReal.coe_toReal ?_ ?_).symm⟩
  · intro hx; rw [hx] at e; exact absurd e (by simp)
  · intro hx; rw [hx] at e; exact absurd e (by simp)

variable (m : (ℓ : Loc nD τ sig) → Buf (Elt Ideal) ℓ) (c : Dev nD)

/-- The precondition says these operands are finite. -/
theorem allReal_of_pre (h : Cert.Pre_Kernel3Ideal_finite3 (hPre_finite3 := Cert.Pre_finite3.Gen.facts) m) : AllReal (mnf m c) (mwu m c) (mwd m c) (mct m c) := by
  obtain ⟨h0, h1, h2, h3⟩ := h c
  exact ⟨fun i => isReal_of_cmp (congrFun h0 i), fun i => isReal_of_cmp (congrFun h1 i), fun i => isReal_of_cmp (congrFun h2 i),
    fun i => isReal_of_cmp (congrFun h3 i)⟩

theorem ref0 : val_main_v67 (F := Ideal) (mx m c) (mnf m c) (mwg m c) (mwu m c) = Out0 m c := funext (at3 _ _ fun q r f => by
  have e := v31_at (mx m c) (mnf m c) (mwg m c) (mwu m c) ⟨r.val / 2048, by omega⟩ ⟨r.val % 2048, by omega⟩ (col q f)
  rw [tok_divmod] at e
  generalize hz : Out0 m c (ix3 q r f) = z
  generalize hy : val_main_v31 (F := Ideal) (mx m c) (mnf m c) (mwg m c) (mwu m c) = y at e
  pointwise [val_main_v67, val_main_v66, val_main_v65]
  rw [hy, ← hz]; exact e)
theorem ref2 : val_main_v73 (F := Ideal) (mx m c) (mnf m c) (mwg m c) (mwd m c) (mct m c) = Out2 m c := funext (at3 _ _ fun q r f => by
  have e := v34_at (mx m c) (mnf m c) (mwg m c) (mwd m c) (mct m c) ⟨r.val / 2048, by omega⟩ ⟨r.val % 2048, by omega⟩ (col q f)
  rw [tok_divmod] at e
  generalize hz : Out2 m c (ix3 q r f) = z
  generalize hy : val_main_v34 (F := Ideal) (mx m c) (mnf m c) (mwg m c) (mwd m c) (mct m c) = y at e
  pointwise [val_main_v73, val_main_v72, val_main_v71]
  rw [hy, ← hz]; exact e)

variable (h : AllReal (mnf m c) (mwu m c) (mwd m c) (mct m c))
include h
theorem ref1 : val_main_v70 (F := Ideal) (mx m c) (mnf m c) (mwg m c) (mwu m c) (mwd m c) (mct m c) = Out1 m c := funext (at3 _ _ fun q r f => by
  have e := dg_at (x := mx m c) (wg := mwg m c) h ⟨r.val / 2048, by omega⟩ ⟨r.val % 2048, by omega⟩ (col q f)
  rw [tok_divmod] at e
  generalize hz : Out1 m c (ix3 q r f) = z
  generalize hy : val_main_v39 (F := Ideal) (mx m c) (mnf m c) (mwg m c) (mwu m c) (mwd m c) (mct m c) = y at e
  pointwise [val_main_v70, val_main_v69, val_main_v68]
  rw [hy, ← hz]; exact e)
theorem ref3 : val_main_v64 (F := Ideal) (mx m c) (mnf m c) (mwg m c) (mwu m c) (mwd m c) (mct m c) = Out3 m c := funext (at2 _ _ fun r k => by
  have e := dx_at (x := mx m c) (wg := mwg m c) h ⟨r.val / 2048, by omega⟩ ⟨r.val % 2048, by omega⟩ k
  rw [tok_divmod] at e
  generalize hz : Out3 m c (ix2 r k) = z
  generalize hy : val_main_v63 (F := Ideal) (mx m c) (mnf m c) (mwg m c) (mwu m c) (mwd m c) (mct m c) = y at e
  pointwise [val_main_v64]
  rw [hy, ← hz]; exact e)
theorem ref4 : val_main_v74 (F := Ideal) (mx m c) (mnf m c) (mwg m c) (mwu m c) (mwd m c) (mct m c) = Out4 m c :=
  show val_main_v64 (F := Ideal) (mx m c) (mnf m c) (mwg m c) (mwu m c) (mwd m c) (mct m c) = Out3 m c from ref3 m c h
theorem ref5 : val_main_v75 (F := Ideal) (mx m c) (mnf m c) (mwg m c) (mwu m c) (mwd m c) (mct m c) = Out5 m c := funext (at2 _ _ fun a k => by
  have e := dnf_at (x := mx m c) (wg := mwg m c) h k
  generalize hz : Out5 m c (ix2 a k) = z
  generalize hy : val_main_v48 (F := Ideal) (mx m c) (mnf m c) (mwg m c) (mwu m c) (mwd m c) (mct m c) = y at e
  pointwise [val_main_v75]
  rw [hy, ← hz]; exact e)

end Cert.Kernel3Ideal.Ffn
-- ==== Proof.Idx2.lean ====
/- Arrays of two axes, read at their coordinates. -/
module
public import Idealize.ShloMosaic.Lib.Pointwise

@[expose] public section
noncomputable section
open Idealize.ShloMosaic
namespace Cert.Idx2

/-- Two zero offsets. -/
theorem off2 : (![0, 0] : Fin 2 → Nat) = fun _ => 0 := funext fun a => by fin_cases a <;> rfl
/-- Two arrays that agree at every index of their two axes agree. -/
theorem at2 {A : Type} {x y : ℕ} (f g : (⟨2, ![x, y]⟩ : Shape).Idx → A) (h : ∀ (a : Fin x) (b : Fin y), f (ix2 a b) = g (ix2 a b))
    (j : (⟨2, ![x, y]⟩ : Shape).Idx) : f j = g j :=
  (congrArg f (eq_ix2 j)).trans ((h (j 0) (j 1)).trans (congrArg g (eq_ix2 j)).symm)
/-- Two arrays that agree at every index of their three axes agree. -/
theorem at3 {A : Type} {x y z : ℕ} (f g : (⟨3, ![x, y, z]⟩ : Shape).Idx → A) (h : ∀ (a : Fin x) (b : Fin y) (e : Fin z), f (ix3 a b e) = g (ix3 a b e))
    (j : (⟨3, ![x, y, z]⟩ : Shape).Idx) : f j = g j :=
  (congrArg f (eq_ix3 j)).trans ((h (j 0) (j 1) (j 2)).trans (congrArg g (eq_ix3 j)).symm)
/-- Two arrays that agree at every index of their four axes agree. -/
theorem at4 {A : Type} {x y z w : ℕ} (f g : (⟨4, ![x, y, z, w]⟩ : Shape).Idx → A)
    (h : ∀ (a : Fin x) (b : Fin y) (e : Fin z) (d : Fin w), f (ix4 a b e d) = g (ix4 a b e d)) (j : (⟨4, ![x, y, z, w]⟩ : Shape).Idx) : f j = g j :=
  (congrArg f (eq_ix4 j)).trans ((h (j 0) (j 1) (j 2) (j 3)).trans (congrArg g (eq_ix4 j)).symm)
end Cert.Idx2
end
-- ==== Proof.Groups.lean ====
/- The products of the head groups' gradients with their columns of the input projection: the blocks, the run and the reference. -/
module
public import proofs.«01_k».proof.Proof.Idx2
public import Idealize.ShloMosaic.Lib.Pipeline.ValueKit
public import Idealize.ShloMosaic.Lib.Tactic
public import proofs.«01_k».proof.Proof.Gen.Kernel4Ideal.Frame
public import proofs.«01_k».proof.Proof.Gen.Reference5Ideal.Read

@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
namespace Cert.Kernel4Ideal.Groups
open Cert.Kernel4Ideal Cert.Kernel4Ideal.Gen Cert.Idx2

/-- A head group's gradient, token by token. -/
abbrev Grp := FVec Ideal S8192x1536 .bf16
/-- The projection's weight, the three groups side by side. -/
abbrev Wts := FVec Ideal S1024x4608 .bf16
/-- A column of a group. -/
abbrev col (g : Fin 3) (n : Fin 1536) : Fin 4608 := ⟨g.val * 1536 + n.val, by omega⟩
/-- A group's gradient against its columns. -/
def back (g : Fin 3) (A : Grp) (B : Wts) : FVec Ideal S8192x1024 .bf16 :=
  fun j => ∑ n : Fin 1536, A (ix2 (show Fin 8192 from j 0) n) * B (ix2 (show Fin 1024 from j 1) (col g n))

theorem pay0 (x w : FVec Ideal S1024x1536 .bf16) (r k : Fin 1024) :
    k0_pay1 (F := Ideal) x w (ix2 r k) = ∑ n : Fin 1536, x (ix2 r n) * w (ix2 k n) := by
  pointwise [k0_pay1]
theorem pay1 (x w : FVec Ideal S1024x1536 .bf16) (r k : Fin 1024) :
    k1_pay1 (F := Ideal) x w (ix2 r k) = ∑ n : Fin 1536, x (ix2 r n) * w (ix2 k n) := by
  pointwise [k1_pay1]
theorem pay2 (x w : FVec Ideal S1024x1536 .bf16) (r k : Fin 1024) :
    k2_pay1 (F := Ideal) x w (ix2 r k) = ∑ n : Fin 1536, x (ix2 r n) * w (ix2 k n) := by
  pointwise [k2_pay1]
theorem idx0 : ∀ t : Fin cfg0.N, t.val < 8 ∧ win0_0.index t = ![t.val, 0] ∧ win0_1.index t = ![0, 0] ∧ win0_2.index t = ![t.val, 0] :=
  (by decide +kernel : ∀ t : Fin grid0.N, _)
theorem idx1 : ∀ t : Fin cfg1.N, t.val < 8 ∧ win1_0.index t = ![t.val, 0] ∧ win1_1.index t = ![0, 1] ∧ win1_2.index t = ![t.val, 0] :=
  (by decide +kernel : ∀ t : Fin grid1.N, _)
theorem idx2 : ∀ t : Fin cfg2.N, t.val < 8 ∧ win2_0.index t = ![t.val, 0] ∧ win2_1.index t = ![0, 2] ∧ win2_2.index t = ![t.val, 0] :=
  (by decide +kernel : ∀ t : Fin grid2.N, _)

section arrays
variable (V : (c : Dev nD) → (b : Ref sig .tc) → Buf (Elt Ideal) ((c : Thread nD τ).loc b)) (c : Dev nD)
/-- Group 0: the array its call leaves. -/
theorem final0 : (dat0 V c).arrAt 2 cfg0.N = back 0 (V c main_arg0) (V c main_arg3) := by
  refine (dat0 V c).arrAt_eq_of_covers 2 _ (by decide +kernel) fun t _ y => ?_
  blk_simp
  rw [after0_2]
  frame_out
  refine at2 _ (fun y => back 0 (V c main_arg0) (V c main_arg3) (((View.whole main_v0).slice (win0_2.rect t)).emb y)) (fun r k => ?_) y
  have he : (((View.whole main_v0).slice (win0_2.rect t)).emb (ix2 r k : S1024x1024.Idx)) = (ix2 (⟨t.val * 1024 + r, by have := (idx0 t).1; omega⟩ : Fin 8192) k : S8192x1024.Idx) := by
    blk_ext! [idx0 t]
  refine ((pay0 _ _ r k).trans (Finset.sum_congr rfl fun n _ => congrArg₂ (· * ·) ?_ ?_)).trans (congrArg (back 0 (V c main_arg0) (V c main_arg3)) he).symm
  · blk_ext! [iblk0, idx0 t]
  · blk_ext! [iblk0, idx0 t]
/-- Group 1: the array its call leaves. -/
theorem final1 : (dat1 V c).arrAt 2 cfg1.N = back 1 (V c main_arg1) (V c main_arg3) := by
  refine (dat1 V c).arrAt_eq_of_covers 2 _ (by decide +kernel) fun t _ y => ?_
  blk_simp
  rw [after1_2]
  frame_out
  refine at2 _ (fun y => back 1 (V c main_arg1) (V c main_arg3) (((View.whole main_v1).slice (win1_2.rect t)).emb y)) (fun r k => ?_) y
  have he : (((View.whole main_v1).slice (win1_2.rect t)).emb (ix2 r k : S1024x1024.Idx)) = (ix2 (⟨t.val * 1024 + r, by have := (idx1 t).1; omega⟩ : Fin 8192) k : S8192x1024.Idx) := by
    blk_ext! [idx1 t]
  refine ((pay1 _ _ r k).trans (Finset.sum_congr rfl fun n _ => congrArg₂ (· * ·) ?_ ?_)).trans (congrArg (back 1 (V c main_arg1) (V c main_arg3)) he).symm
  · blk_ext! [iblk1, idx1 t]
  · blk_ext! [iblk1, idx1 t]
/-- Group 2: the array its call leaves. -/
theorem final2 : (dat2 V c).arrAt 2 cfg2.N = back 2 (V c main_arg2) (V c main_arg3) := by
  refine (dat2 V c).arrAt_eq_of_covers 2 _ (by decide +kernel) fun t _ y => ?_
  blk_simp
  rw [after2_2]
  frame_out
  refine at2 _ (fun y => back 2 (V c main_arg2) (V c main_arg3) (((View.whole main_v2).slice (win2_2.rect t)).emb y)) (fun r k => ?_) y
  have he : (((View.whole main_v2).slice (win2_2.rect t)).emb (ix2 r k : S1024x1024.Idx)) = (ix2 (⟨t.val * 1024 + r, by have := (idx2 t).1; omega⟩ : Fin 8192) k : S8192x1024.Idx) := by
    blk_ext! [idx2 t]
  refine ((pay2 _ _ r k).trans (Finset.sum_congr rfl fun n _ => congrArg₂ (· * ·) ?_ ?_)).trans (congrArg (back 2 (V c main_arg2) (V c main_arg3)) he).symm
  · blk_ext! [iblk2, idx2 t]
  · blk_ext! [iblk2, idx2 t]
end arrays
variable (m : (ℓ : Loc nD τ sig) → Buf (Elt Ideal) ℓ) (ρ : Dev nD → PrngReg)

set_option backward.isDefEq.respectTransparency.types false in
/-- At the end every unscoped buffer holds what the last boundary of the run says. -/
theorem run_all : θ_run defs (onTc (τ := τ) (main (F := Ideal))) ⟨m, fun _ => 0, ρ⟩ (fun r => ∀ c : Dev nD, ∀ b ∈ Pipeline.ucRefs τ sig,
      r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

variable (c : Dev nD)
/-- The three groups' gradients and the weight. -/
abbrev mD0 : Grp := m ((c : Thread nD τ).loc main_arg0)
abbrev mD1 : Grp := m ((c : Thread nD τ).loc main_arg1)
abbrev mD2 : Grp := m ((c : Thread nD τ).loc main_arg2)
abbrev mW : Wts := m ((c : Thread nD τ).loc main_arg3)
/-- The three results. -/
def Out0 : FVec Ideal S8192x1024 .bf16 := back 0 (mD0 m c) (mW m c)
def Out1 : FVec Ideal S8192x1024 .bf16 := back 1 (mD1 m c) (mW m c)
def Out2 : FVec Ideal S8192x1024 .bf16 := back 2 (mD2 m c) (mW m c)

theorem end0 : W3 m ρ c (Proc.devRef .tc main_v0) = Out0 m c :=
  ((W3_of m ρ c main_v0 (by decide +kernel)).trans ((W2_of m ρ c main_v0 (by decide +kernel)).trans (W1_arr m ρ c 2))).trans (final0 (V0 m ρ) c)
theorem end1 : W3 m ρ c (Proc.devRef .tc main_v1) = Out1 m c :=
  ((W3_of m ρ c main_v1 (by decide +kernel)).trans (W2_arr m ρ c 2)).trans ((final1 (V1 m ρ) c).trans
    (congrArg₂ (back 1) (W1_args m ρ c main_arg1 (by decide)) (W1_args m ρ c main_arg3 (by decide))))
theorem end2 : W3 m ρ c (Proc.devRef .tc main_v2) = Out2 m c :=
  (W3_arr m ρ c 2).trans ((final2 (V2 m ρ) c).trans
    (congrArg₂ (back 2) (W2_args m ρ c main_arg2 (by decide)) (W2_args m ρ c main_arg3 (by decide))))

/-- The run ends with the three results and the operands unchanged. -/
theorem run : θ_run defs (onTc (τ := τ) (main (F := Ideal))) ⟨m, fun _ => 0, ρ⟩ (fun r => ∀ c : Dev nD,
      r.2.mem ((c.tc : Thread nD τ).loc main_v0) = Out0 m c
      ∧ r.2.mem ((c.tc : Thread nD τ).loc main_v1) = Out1 m c
      ∧ r.2.mem ((c.tc : Thread nD τ).loc main_v2) = Out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v0 (by decide))).trans (end0 m ρ c),
     (h c _ (mem_uc main_v1 (by decide))).trans (end1 m ρ c),
     (h c _ (mem_uc main_v2 (by decide))).trans (end2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_all m ρ)

/-- The reference's product of group 0. -/
theorem ref0 (A : Grp) (B : Wts) : Cert.Reference5Ideal.Read.val_main_v6 (F := Ideal) A B = back 0 A B := by
  funext j
  refine at2 (x := 8192) (y := 1024) _ (back 0 A B) (fun r k => ?_) j
  show _ = ∑ n : Fin 1536, A (ix2 r n) * B (ix2 k (col 0 n))
  generalize hz : (∑ n : Fin 1536, A (ix2 r n) * B (ix2 k (col 0 n))) = z
  pointwise [Cert.Reference5Ideal.Read.val_main_v6, Cert.Reference5Ideal.Read.val_main_v5, Cert.Reference5Ideal.Read.val_main_v4, Cert.Reference5Ideal.Read.val_main_v2, Cert.Reference5Ideal.Read.val_main_v1]
  rw [← hz]
  exact Finset.sum_congr rfl fun n _ => congrArg (fun x : Fin 4608 => A (ix2 r n) * B (ix2 k x)) (Fin.ext (by simp))
/-- The reference's product of group 1. -/
theorem ref1 (A : Grp) (B : Wts) : Cert.Reference5Ideal.Read.val_main_v13 (F := Ideal) A B = back 1 A B := by
  funext j
  refine at2 (x := 8192) (y := 1024) _ (back 1 A B) (fun r k => ?_) j
  show _ = ∑ n : Fin 1536, A (ix2 r n) * B (ix2 k (col 1 n))
  generalize hz : (∑ n : Fin 1536, A (ix2 r n) * B (ix2 k (col 1 n))) = z
  pointwise [Cert.Reference5Ideal.Read.val_main_v13, Cert.Reference5Ideal.Read.val_main_v12, Cert.Reference5Ideal.Read.val_main_v11, Cert.Reference5Ideal.Read.val_main_v9, Cert.Reference5Ideal.Read.val_main_v8]
  rw [← hz]
  exact Finset.sum_congr rfl fun n _ => rfl
/-- The reference's product of group 2. -/
theorem ref2 (A : Grp) (B : Wts) : Cert.Reference5Ideal.Read.val_main_v20 (F := Ideal) A B = back 2 A B := by
  funext j
  refine at2 (x := 8192) (y := 1024) _ (back 2 A B) (fun r k => ?_) j
  show _ = ∑ n : Fin 1536, A (ix2 r n) * B (ix2 k (col 2 n))
  generalize hz : (∑ n : Fin 1536, A (ix2 r n) * B (ix2 k (col 2 n))) = z
  pointwise [Cert.Reference5Ideal.Read.val_main_v20, Cert.Reference5Ideal.Read.val_main_v19, Cert.Reference5Ideal.Read.val_main_v18, Cert.Reference5Ideal.Read.val_main_v16, Cert.Reference5Ideal.Read.val_main_v15]
  rw [← hz]
  exact Finset.sum_congr rfl fun n _ => rfl

end Cert.Kernel4Ideal.Groups
-- ==== Proof.OutGrad.lean ====
/- The gradient of the mixing's output weight: four grid steps, one per sequence, add products to a running sum. -/
module
public import proofs.«01_k».proof.Proof.Idx2
public import Idealize.ShloMosaic.Lib.Pipeline.ValueKit
public import Idealize.ShloMosaic.Lib.Tactic
public import proofs.«01_k».proof.Proof.Gen.Kernel5Ideal.Value
public import proofs.«01_k».proof.Proof.Gen.Reference6Ideal.Read

@[expose] public section
set_option maxRecDepth 16384
noncomputable section
open Idealize.ShloMosaic Idealize.ShloMosaic.TcCoe Idealize.SL.Sem
namespace Cert.Kernel5Ideal.Out
open Cert.Kernel5Ideal Cert.Kernel5Ideal.Gen Cert.Idx2

section steps
variable (c : Dev nD) (i : grid0.Coords) (a3 : Memref sig .tc .vmem S2048x1024 .bf16) (h3 : a3.IsWhole)
  (a4 : Memref sig .tc .vmem S2048x1024 .bf16) (h4 : a4.IsWhole) (a5 : Memref sig .tc .vmem S1024x1024 .bf16) (h5 : a5.IsWhole)
  (a6 : Memref sig .tc .vmem S1024x1024 .f32) (h6 : a6.IsWhole)
  (x0 x1 : Vec Ideal S2048x1024 .bf16) (xs : Vec Ideal S1024x1024 .f32)

/-- The first step starts from zero. -/
theorem step_first (hc0 : cond0_0 i) (hc1 : ¬cond0_1 i) :
    sout0_A_0 c i a3 h3 a4 h4 a5 h5 a6 h6 hc0 hc1 x0 x1 = k0_pay2 x0 (k0_pay1 (F := Ideal)) x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) off2, View.readCov_unit_zero (S := S1024x1024) _ off2]
  simp only [View.readAt_eq_ld, h3.read_unread, h4.read_unread, View.ld_unit_zero (S := S2048x1024) off2]

/-- A middle step adds to what the step before left. -/
theorem step_mid (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x1024) off2]
  simp only [View.readAt_eq_ld, h3.read_unread, h4.read_unread, h6.read_unread, View.ld_unit_zero (S := S2048x1024) off2, View.ld_unit_zero (S := S1024x1024) off2]

/-- The last step adds its product and writes the sum out. -/
theorem step_last (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x1024) off2, View.readCov_unit_zero (S := S1024x1024) _ off2]
  simp only [View.readAt_eq_ld, h3.read_unread, h4.read_unread, h6.read_unread, View.ld_unit_zero (S := S2048x1024) off2, View.ld_unit_zero (S := S1024x1024) off2]
end steps

/-- A step's product, added to the running sum. -/
theorem step_apply (x0 x1 : FVec Ideal S2048x1024 .bf16) (xs : FVec Ideal S1024x1024 .f32) (f d : Fin 1024) :
    k0_pay2 (F := Ideal) x0 xs x1 (ix2 f d) = xs (ix2 f d) + ∑ k : Fin 2048, x0 (ix2 k f) * x1 (ix2 k d) := by
  generalize hz : xs (ix2 f d) + ∑ k : Fin 2048, x0 (ix2 k f) * x1 (ix2 k d) = z
  pointwise [k0_pay2]
  rw [← hz]
/-- The reset's block is zero. -/
theorem zero_apply (f d : Fin 1024) : (k0_pay1 : FVec Ideal S1024x1024 .f32) (ix2 f d) = 0 := by
  pointwise [k0_pay1]
/-- The block written out is the running sum. -/
theorem cast_apply (xs : FVec Ideal S1024x1024 .f32) (f d : Fin 1024) : k0_pay3 (F := Ideal) xs (ix2 f d) = xs (ix2 f d) := by
  pointwise [k0_pay3]

/-- A sequence-by-token-by-feature array. -/
abbrev Rows := FVec Ideal S4x2048x1024 .bf16
/-- One sequence's part of the gradient. -/
def part (A B : Rows) (s : Fin 4) (f d : Fin 1024) : EReal := ∑ k : Fin 2048, A (ix3 s k f) * B (ix3 s k d)
/-- The weight's gradient. -/
def grad (A B : Rows) : FVec Ideal S1024x1024 .bf16 := fun j => ∑ s : Fin 4, part A B s (show Fin 1024 from j 0) (show Fin 1024 from j 1)

variable (m : (ℓ : Loc nD τ sig) → Buf (Elt Ideal) ℓ) (c : Dev nD)
abbrev mA : Rows := m ((c : Thread nD τ).loc main_arg0)
abbrev mB : Rows := m ((c : Thread nD τ).loc main_arg1)

/-- Which block every window stages at a grid point. -/
theorem idx : ∀ t : Fin cfg0.N, t.val < 4 ∧ win0_0.index t = ![t.val, 0] ∧ win0_1.index t = ![t.val, 0] ∧ win0_2.index t = ![0, 0] :=
  (by decide +kernel : ∀ t : Fin grid0.N, _)

theorem V_rows (r : Fin 8192) (f : Fin 1024) :
    (V m c main_v0 : FVec Ideal S8192x1024 .bf16) (ix2 r f) = mA m c (ix3 (⟨r / 2048, by omega⟩ : Fin 4) (⟨r % 2048, by omega⟩ : Fin 2048) f) := by
  entry_read
  pointwise
theorem V_cols (r : Fin 8192) (f : Fin 1024) :
    (V m c main_v1 : FVec Ideal S8192x1024 .bf16) (ix2 r f) = mB m c (ix3 (⟨r / 2048, by omega⟩ : Fin 4) (⟨r % 2048, by omega⟩ : Fin 2048) f) := by
  entry_read
  pointwise

/-- A step at sequence `s` adds that sequence's part. -/
theorem step_blk (t : Fin cfg0.N) (s : Fin 4) (ht : t.val = s.val) (xs : FVec Ideal S1024x1024 .f32) (f d : Fin 1024) :
    k0_pay2 (F := Ideal) (iblk m c 0 t) xs (iblk m c 1 t) (ix2 f d) = xs (ix2 f d) + part (mA m c) (mB m c) s f d := by
  rw [step_apply]
  refine congrArg₂ (· + ·) rfl (Finset.sum_congr rfl fun k _ => congrArg₂ (· * ·) ?_ ?_)
  · have h : (iblk m c 0 t : FVec Ideal S2048x1024 .bf16) (ix2 k f) = (V m c main_v0 : FVec Ideal S8192x1024 .bf16) (ix2 (⟨t.val * 2048 + k, by have := (idx t).1; omega⟩ : Fin 8192) f) := by
      blk_ext! [iblk, idx t]
    rw [h, V_rows]
    congr 1
    congr 1 <;> apply Fin.ext <;> dsimp only <;> omega
  · have h : (iblk m c 1 t : FVec Ideal S2048x1024 .bf16) (ix2 k d) = (V m c main_v1 : FVec Ideal S8192x1024 .bf16) (ix2 (⟨t.val * 2048 + k, by have := (idx t).1; omega⟩ : Fin 8192) d) := by
      blk_ext! [iblk, idx t]
    rw [h, V_cols]
    congr 1
    congr 1 <;> apply Fin.ext <;> dsimp only <;> omega

/-- The running sum after the first step. -/
theorem sum0 (t : Fin cfg0.N) (ht : t.val = 0) (f d : Fin 1024) :
    ((outsAt0 m c t.val t.isLt).2 : FVec Ideal S1024x1024 .f32) (ix2 f d) = part (mA m c) (mB m c) 0 f d := by
  rw [outsAt0_A m c t (by omega) (by omega)]
  dsimp only
  rw [step_first, step_blk m c t 0 (by simpa using ht), zero_apply, zero_add]
/-- The running sum after a middle step. -/
theorem sum_next (t : Fin cfg0.N) (s : Fin 4) (ht : t.val = s.val) (h0 : s.val ≠ 0) (h3 : s.val ≠ 3) (f d : Fin 1024) :
    ((outsAt0 m c t.val t.isLt).2 : FVec Ideal S1024x1024 .f32) (ix2 f d)
      = ((outsAt0 m c (t.val - 1) (Nat.lt_of_le_of_lt (Nat.sub_le _ _) t.isLt)).2 : FVec Ideal S1024x1024 .f32) (ix2 f d) + part (mA m c) (mB m c) s f d := by
  rw [outsAt0_B m c t (by omega) (by omega)]
  dsimp only
  rw [step_mid, step_blk m c t s ht]
/-- What the last step writes: the four sequences' parts. -/
theorem sum_last (t : Fin cfg0.N) (ht : t.val = 3) (f d : Fin 1024) :
    ((outsAt0 m c t.val t.isLt).1 : FVec Ideal S1024x1024 .bf16) (ix2 f d) = grad (mA m c) (mB m c) (ix2 f d) := by
  have lt1 : t.val - 1 < cfg0.N := Nat.lt_of_le_of_lt (Nat.sub_le _ _) t.isLt
  have lt2 : t.val - 1 - 1 < cfg0.N := Nat.lt_of_le_of_lt (Nat.sub_le _ _) lt1
  have lt3 : t.val - 1 - 1 - 1 < cfg0.N := Nat.lt_of_le_of_lt (Nat.sub_le _ _) lt2
  rw [outsAt0_C m c t (by omega) (by omega)]
  dsimp only
  rw [step_last, cast_apply, step_blk m c t 3 (by simpa using ht), sum_next m c ⟨t.val - 1, lt1⟩ 2 (by simp; omega) (by decide) (by decide) f d]
  dsimp only
  rw [sum_next m c ⟨t.val - 1 - 1, lt2⟩ 1 (by simp; omega) (by decide) (by decide) f d]
  dsimp only
  rw [sum0 m c ⟨t.val - 1 - 1 - 1, lt3⟩ (by dsimp only; omega) f d]
  exact (Fin.sum_univ_four fun s => part (mA m c) (mB m c) s f d).symm

/-- The last step writes the whole array. -/
theorem final : (dats m 0 c).arrAt 2 cfg0.N = grad (mA m c) (mB m c) := by
  refine ((dats m 0 c).arrAt_eq_of_cover 2 _ (fun t hf => ?_) (fun i => (Value.covered_iff2 i).2 (by
    have h0 : (i 0).val < 1024 := (i 0).isLt; have h1 : (i 1).val < 1024 := (i 1).isLt; omega)))
  have hm : t.val % 4 = 3 := (flush0_2 t).mp hf
  have hN : t.val < 4 := (idx t).1
  funext y
  blk_simp
  rw [after0_2]
  refine at2 _ (fun y => grad (mA m c) (mB m c) (((View.whole main_v2).slice (win0_2.rect t)).emb y)) (fun f d => ?_) y
  have he : (((View.whole main_v2).slice (win0_2.rect t)).emb (ix2 f d : S1024x1024.Idx)) = (ix2 f d : S1024x1024.Idx) := by
    blk_ext! [idx t]
  exact (sum_last m c t (by omega) f d).trans (congrArg (grad (mA m c) (mB m c)) he).symm

/-- The kernel's result in closed form. -/
theorem result : Value.G2 m c = grad (mA m c) (mB m c) := (Value.final2 m c).symm.trans (final m c)

/-- The reference sums the same products over sequences and tokens. -/
theorem ref (A B : Rows) : Cert.Reference6Ideal.Read.val_main_v6 (F := Ideal) A B = grad A B := by
  funext j
  refine at2 (x := 1024) (y := 1024) _ (grad A B) (fun f d => ?_) j
  show _ = ∑ s : Fin 4, ∑ k : Fin 2048, A (ix3 s k f) * B (ix3 s k d)
  generalize hz : (∑ s : Fin 4, ∑ k : Fin 2048, A (ix3 s k f) * B (ix3 s k d)) = z
  pointwise [Cert.Reference6Ideal.Read.val_main_v6, Cert.Reference6Ideal.Read.val_main_v5, Cert.Reference6Ideal.Read.val_main_v4, Cert.Reference6Ideal.Read.val_main_v3, Cert.Reference6Ideal.Read.val_main_v1]
  rw [← hz]
  simp only [mul_comm]

end Cert.Kernel5Ideal.Out
end
-- ==== Proof.InGrad.lean ====
/- The gradient of the first head group's columns of the input weight: per block of columns, four grid steps add products to a running sum. -/
module
public import proofs.«01_k».proof.Proof.Idx2
public import Idealize.ShloMosaic.Lib.Pipeline.ValueKit
public import Idealize.ShloMosaic.Lib.Tactic
public import proofs.«01_k».proof.Proof.Gen.Kernel6Ideal.Value
public import proofs.«01_k».proof.Proof.Gen.Reference7Ideal.Read

@[expose] public section
set_option maxRecDepth 16384
noncomputable section
open Idealize.ShloMosaic Idealize.ShloMosaic.TcCoe Idealize.SL.Sem
namespace Cert.Kernel6Ideal.In
open Cert.Kernel6Ideal Cert.Kernel6Ideal.Gen Cert.Idx2

section steps
variable (c : Dev nD) (i : grid0.Coords) (a3 : Memref sig .tc .vmem S2048x1024 .bf16) (h3 : a3.IsWhole)
  (a4 : Memref sig .tc .vmem S2048x768 .bf16) (h4 : a4.IsWhole) (a5 : Memref sig .tc .vmem S1024x768 .bf16) (h5 : a5.IsWhole)
  (a6 : Memref sig .tc .vmem S1024x768 .f32) (h6 : a6.IsWhole)
  (x0 : Vec Ideal S2048x1024 .bf16) (x1 : Vec Ideal S2048x768 .bf16) (xs : Vec Ideal S1024x768 .f32)

/-- The first step starts from zero. -/
theorem step_first (hc0 : cond0_0 i) (hc1 : ¬cond0_1 i) :
    sout0_A_0 c i a3 h3 a4 h4 a5 h5 a6 h6 hc0 hc1 x0 x1 = k0_pay2 x0 (k0_pay1 (F := Ideal)) x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x768) off2, View.readCov_unit_zero (S := S1024x768) _ off2]
  simp only [View.readAt_eq_ld, h3.read_unread, h4.read_unread, View.ld_unit_zero (S := S2048x1024) off2, View.ld_unit_zero (S := S2048x768) off2]

/-- A middle step adds to what the step before left. -/
theorem step_mid (hc0 : ¬cond0_0 i) (hc1 : ¬cond0_1 i) :
    sout0_B_0 c i a3 h3 a4 h4 a5 h5 a6 h6 hc0 hc1 x0 x1 xs = k0_pay2 x0 xs x1 := by
  unfold sout0_B_0
  rw [View.read_writes_eq_canon _ _ _ (scover0_B_0 c i a3 h3 a4 h4 a5 h5 a6 h6 hc0 hc1 x0 x1 xs)]
  unfold kernelRun0_B
  dsimp only
  rw [View.canon_unit_zero (S := S1024x768) off2]
  simp only [View.readAt_eq_ld, h3.read_unread, h4.read_unread, h6.read_unread, View.ld_unit_zero (S := S2048x1024) off2, View.ld_unit_zero (S := S2048x768) off2, View.ld_unit_zero (S := S1024x768) off2]

/-- The last step adds its product and writes the sum out. -/
theorem step_last (hc0 : ¬cond0_0 i) (hc1 : cond0_1 i) :
    out0_C_2 c i a3 h3 a4 h4 a5 h5 a6 h6 hc0 hc1 x0 x1 xs = k0_pay3 (k0_pay2 x0 xs x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1024x768) off2, View.readCov_unit_zero (S := S1024x768) _ off2]
  simp only [View.readAt_eq_ld, h3.read_unread, h4.read_unread, h6.read_unread, View.ld_unit_zero (S := S2048x1024) off2, View.ld_unit_zero (S := S2048x768) off2, View.ld_unit_zero (S := S1024x768) off2]
end steps

/-- A step's product, added to the running sum. -/
theorem step_apply (x0 : FVec Ideal S2048x1024 .bf16) (x1 : FVec Ideal S2048x768 .bf16) (xs : FVec Ideal S1024x768 .f32) (f : Fin 1024) (d : Fin 768) :
    k0_pay2 (F := Ideal) x0 xs x1 (ix2 f d) = xs (ix2 f d) + ∑ k : Fin 2048, x0 (ix2 k f) * x1 (ix2 k d) := by
  generalize hz : xs (ix2 f d) + ∑ k : Fin 2048, x0 (ix2 k f) * x1 (ix2 k d) = z
  pointwise [k0_pay2]
  rw [← hz]
/-- The reset's block is zero. -/
theorem zero_apply (f : Fin 1024) (d : Fin 768) : (k0_pay1 : FVec Ideal S1024x768 .f32) (ix2 f d) = 0 := by
  pointwise [k0_pay1]
/-- The block written out is the running sum. -/
theorem cast_apply (xs : FVec Ideal S1024x768 .f32) (f : Fin 1024) (d : Fin 768) : k0_pay3 (F := Ideal) xs (ix2 f d) = xs (ix2 f d) := by
  pointwise [k0_pay3]

/-- A sequence-by-token-by-feature array. -/
abbrev Rows := FVec Ideal S4x2048x1024 .bf16
/-- The columns' side. -/
abbrev Cols := FVec Ideal S4x2048x1536 .bf16
/-- One sequence's part of the gradient. -/
def part (A : Rows) (B : Cols) (s : Fin 4) (f : Fin 1024) (d : Fin 1536) : EReal := ∑ k : Fin 2048, A (ix3 s k f) * B (ix3 s k d)
/-- The weight's gradient. -/
def grad (A : Rows) (B : Cols) : FVec Ideal S1024x1536 .bf16 := fun j => ∑ s : Fin 4, part A B s (show Fin 1024 from j 0) (show Fin 1536 from j 1)

variable (m : (ℓ : Loc nD τ sig) → Buf (Elt Ideal) ℓ) (c : Dev nD)
abbrev mA : Rows := m ((c : Thread nD τ).loc main_arg0)
abbrev mB : Cols := m ((c : Thread nD τ).loc main_arg1)

/-- Which block every window stages at a grid point. -/
theorem idx : ∀ t : Fin cfg0.N, t.val < 8 ∧ win0_0.index t = ![t.val % 4, 0] ∧ win0_1.index t = ![t.val % 4, t.val / 4] ∧ win0_2.index t = ![0, t.val / 4] :=
  (by decide +kernel : ∀ t : Fin grid0.N, _)

theorem V_rows (r : Fin 8192) (f : Fin 1024) :
    (V m c main_v0 : FVec Ideal S8192x1024 .bf16) (ix2 r f) = mA m c (ix3 (⟨r / 2048, by omega⟩ : Fin 4) (⟨r % 2048, by omega⟩ : Fin 2048) f) := by
  entry_read
  pointwise
theorem V_cols (r : Fin 8192) (f : Fin 1536) :
    (V m c main_v1 : FVec Ideal S8192x1536 .bf16) (ix2 r f) = mB m c (ix3 (⟨r / 2048, by omega⟩ : Fin 4) (⟨r % 2048, by omega⟩ : Fin 2048) f) := by
  entry_read
  pointwise

/-- A block's column. -/
abbrev col (q : Fin 2) (d : Fin 768) : Fin 1536 := ⟨q * 768 + d, by omega⟩

/-- A step at sequence `s` adds that sequence's part. -/
theorem step_blk (t : Fin cfg0.N) (q : Fin 2) (s : Fin 4) (ht : t.val = 4 * q.val + s.val) (xs : FVec Ideal S1024x768 .f32) (f : Fin 1024) (d : Fin 768) :
    k0_pay2 (F := Ideal) (iblk m c 0 t) xs (iblk m c 1 t) (ix2 f d) = xs (ix2 f d) + part (mA m c) (mB m c) s f (col q d) := by
  rw [step_apply]
  refine congrArg₂ (· + ·) rfl (Finset.sum_congr rfl fun k _ => congrArg₂ (· * ·) ?_ ?_)
  · have h : (iblk m c 0 t : FVec Ideal S2048x1024 .bf16) (ix2 k f) = (V m c main_v0 : FVec Ideal S8192x1024 .bf16) (ix2 (⟨t.val % 4 * 2048 + k, by omega⟩ : Fin 8192) f) := by
      blk_ext! [iblk, idx t]
    rw [h, V_rows]
    congr 1
    congr 1 <;> apply Fin.ext <;> dsimp only <;> omega
  · have h : (iblk m c 1 t : FVec Ideal S2048x768 .bf16) (ix2 k d)
        = (V m c main_v1 : FVec Ideal S8192x1536 .bf16) (ix2 (⟨t.val % 4 * 2048 + k, by omega⟩ : Fin 8192) (⟨t.val / 4 * 768 + d, by have := (idx t).1; omega⟩ : Fin 1536)) := by
      blk_ext! [iblk, idx t]
    rw [h, V_cols]
    congr 1
    congr 1 <;> apply Fin.ext <;> dsimp only <;> omega

/-- The running sum after a column block's first step. -/
theorem sum0 (t : Fin cfg0.N) (q : Fin 2) (ht : t.val = 4 * q.val) (f : Fin 1024) (d : Fin 768) :
    ((outsAt0 m c t.val t.isLt).2 : FVec Ideal S1024x768 .f32) (ix2 f d) = part (mA m c) (mB m c) 0 f (col q d) := by
  rw [outsAt0_A m c t (by omega) (by omega)]
  dsimp only
  rw [step_first, step_blk m c t q 0 (by simpa using ht), zero_apply, zero_add]
/-- The running sum after a middle step. -/
theorem sum_next (t : Fin cfg0.N) (q : Fin 2) (s : Fin 4) (ht : t.val = 4 * q.val + s.val) (h0 : s.val ≠ 0) (h3 : s.val ≠ 3) (f : Fin 1024) (d : Fin 768) :
    ((outsAt0 m c t.val t.isLt).2 : FVec Ideal S1024x768 .f32) (ix2 f d)
      = ((outsAt0 m c (t.val - 1) (Nat.lt_of_le_of_lt (Nat.sub_le _ _) t.isLt)).2 : FVec Ideal S1024x768 .f32) (ix2 f d) + part (mA m c) (mB m c) s f (col q d) := by
  rw [outsAt0_B m c t (by omega) (by omega)]
  dsimp only
  rw [step_mid, step_blk m c t q s ht]
/-- What a column block's last step writes: the four sequences' parts. -/
theorem sum_last (t : Fin cfg0.N) (q : Fin 2) (ht : t.val = 4 * q.val + 3) (f : Fin 1024) (d : Fin 768) :
    ((outsAt0 m c t.val t.isLt).1 : FVec Ideal S1024x768 .bf16) (ix2 f d) = grad (mA m c) (mB m c) (ix2 f (col q d)) := by
  have lt1 : t.val - 1 < cfg0.N := Nat.lt_of_le_of_lt (Nat.sub_le _ _) t.isLt
  have lt2 : t.val - 1 - 1 < cfg0.N := Nat.lt_of_le_of_lt (Nat.sub_le _ _) lt1
  have lt3 : t.val - 1 - 1 - 1 < cfg0.N := Nat.lt_of_le_of_lt (Nat.sub_le _ _) lt2
  rw [outsAt0_C m c t (by omega) (by omega)]
  dsimp only
  rw [step_last, cast_apply, step_blk m c t q 3 (by simpa using ht), sum_next m c ⟨t.val - 1, lt1⟩ q 2 (by simp; omega) (by decide) (by decide) f d]
  dsimp only
  rw [sum_next m c ⟨t.val - 1 - 1, lt2⟩ q 1 (by simp; omega) (by decide) (by decide) f d]
  dsimp only
  rw [sum0 m c ⟨t.val - 1 - 1 - 1, lt3⟩ q (by dsimp only; omega) f d]
  exact (Fin.sum_univ_four fun s => part (mA m c) (mB m c) s f (col q d)).symm

/-- Every column block's last step writes its part of the array. -/
theorem final : (dats m 0 c).arrAt 2 cfg0.N = grad (mA m c) (mB m c) := by
  refine ((dats m 0 c).arrAt_eq_of_cover 2 _ (fun t hf => ?_) (fun i => (Value.covered_iff2 i).2 (by
    have h0 : (i 0).val < 1024 := (i 0).isLt; have h1 : (i 1).val < 1536 := (i 1).isLt; omega)))
  have hm : t.val % 4 = 3 := (flush0_2 t).mp hf
  have hN : t.val < 8 := (idx t).1
  funext y
  blk_simp
  rw [after0_2]
  refine at2 _ (fun y => grad (mA m c) (mB m c) (((View.whole main_v2).slice (win0_2.rect t)).emb y)) (fun f d => ?_) y
  have he : (((View.whole main_v2).slice (win0_2.rect t)).emb (ix2 f d : S1024x768.Idx)) = (ix2 f (col ⟨t.val / 4, by omega⟩ d) : S1024x1536.Idx) := by
    blk_ext! [idx t]
  exact (sum_last m c t ⟨t.val / 4, by omega⟩ (by dsimp only; omega) f d).trans (congrArg (grad (mA m c) (mB m c)) he).symm

/-- The kernel's result in closed form. -/
theorem result : Value.G2 m c = grad (mA m c) (mB m c) := (Value.final2 m c).symm.trans (final m c)

/-- The reference sums the same products over sequences and tokens. -/
theorem ref (A : Rows) (B : Cols) : Cert.Reference7Ideal.Read.val_main_v6 (F := Ideal) A B = grad A B := by
  funext j
  refine at2 (x := 1024) (y := 1536) _ (grad A B) (fun f d => ?_) j
  show _ = ∑ s : Fin 4, ∑ k : Fin 2048, A (ix3 s k f) * B (ix3 s k d)
  generalize hz : (∑ s : Fin 4, ∑ k : Fin 2048, A (ix3 s k f) * B (ix3 s k d)) = z
  pointwise [Cert.Reference7Ideal.Read.val_main_v6, Cert.Reference7Ideal.Read.val_main_v5, Cert.Reference7Ideal.Read.val_main_v4, Cert.Reference7Ideal.Read.val_main_v3, Cert.Reference7Ideal.Read.val_main_v1]
  rw [← hz]
  simp only [mul_comm]

end Cert.Kernel6Ideal.In
end
-- ==== Proof.NormRow.lean ====
/- A row's normalisation and its gradient, for any row; a token's rows of the operands around the attention. -/
module
public import proofs.«01_k».proof.Proof.FfnReal
public import proofs.«01_k».proof.Proof.Idx2

@[expose] public section
set_option maxRecDepth 16384
noncomputable section
open Idealize.ShloMosaic
namespace Cert.NormRow
open Cert.FfnMath Cert.FfnSpec
open Cert.Reference4Ideal.Ffn (word_len word_half word_eps)

/-- A row. -/
abbrev Row := Fin 1024 → EReal
variable (x w h : Row)
/-- The mean square with the small constant. -/
def msq : EReal := Ideal.div (∑ d, x d * x d) (Ideal.ofBits .f32 0x44800000#32) + Ideal.ofBits .f32 0x358637BD#32
/-- What the gradient of the mean square contributes, before its factor. -/
def dmsq : EReal := Ideal.div ((∑ e, x e * (h e * w e)) * (Ideal.ofBits .f32 0xBF000000#32 * Ideal.div (rs x) (msq x))) (Ideal.ofBits .f32 0x44800000#32)

/-- The mean square of a real row with the small constant is a positive real number. -/
theorem msq_real {x : Row} (hx : ∀ d, IsReal (x d)) : ∃ v : ℝ, 0 < v ∧ msq x = (v : EReal) := by
  choose xs hxs using hx
  obtain ⟨e, he, hw⟩ := word_eps
  refine ⟨_, var_pos xs (k := 1024) (by norm_num) he, ?_⟩
  unfold msq
  simp only [hxs]
  rw [word_len, hw]
  exact var_coe xs (by norm_num)
/-- The mean square of a row with an infinite element is infinite. -/
theorem msq_top {x : Row} (hx : ¬ ∀ d, IsReal (x d)) : msq x = ⊤ := by
  obtain ⟨d, hd⟩ := not_forall.mp hx
  obtain ⟨e, he, hw⟩ := word_eps
  unfold msq
  rw [sum_sq_top _ d hd, word_len, hw, Ideal.div_coe (by norm_num), EReal.top_mul_coe_of_pos (by norm_num), EReal.top_add_coe]

/-- The gradient of a normalised row by the chain rule is the projection form, whatever the row holds. -/
theorem norm_back (ct : EReal) (d : Fin 1024) :
    ct + (((h d * w d) * rs x + x d * dmsq x w h) + dmsq x w h * x d) = normBack ct x w h d := by
  by_cases hx : ∀ d, IsReal (x d)
  · obtain ⟨v, hv, ev⟩ := msq_real hx
    choose xs hxs using hx
    have er : rs x = Ideal.rsqrt (v : EReal) := congrArg Ideal.rsqrt ev
    unfold dmsq normBack
    simp only [er, ev, hxs, word_len, word_half]
    exact norm_grad _ xs w h (by norm_num) hv d
  · have e0 : Ideal.div 0 (⊤ : EReal) = 0 := by simp [Ideal.div]
    have er : rs x = 0 := congrArg Ideal.rsqrt (msq_top hx)
    unfold dmsq normBack
    rw [er, msq_top hx, word_len, e0]
    simp [Ideal.div]

end Cert.NormRow
-- ==== Proof.QkvBack.lean ====
/- The input projection's gradient back through the first norm: the blocks, the arrays and the reference. -/
module
public import proofs.«01_k».proof.Proof.NormRow
public import Idealize.ShloMosaic.Lib.Pipeline.ValueKit
public import Idealize.ShloMosaic.Lib.Tactic
public import proofs.«01_k».proof.Proof.Gen.Kernel7Ideal.Value
public import proofs.«01_k».proof.Proof.Gen.Reference8Ideal.Read

@[expose] public section
set_option maxRecDepth 16384
noncomputable section
open Idealize.ShloMosaic Idealize.ShloMosaic.TcCoe Idealize.SL.Sem
open Cert.FfnMath Cert.NormRow Cert.Idx2
open Cert.FfnSpec (Stream Norm row)

namespace Cert.QkvSpec
/-- The projection's gradient. -/
abbrev Grad := FVec Ideal ⟨3, ![4, 2048, 1536]⟩ .bf16
/-- The projection's weight. -/
abbrev Wts := FVec Ideal ⟨2, ![1024, 1536]⟩ .bf16
variable (D : Grad) (W : Wts) (X : Stream) (N : Norm) (R : Stream)
/-- The normalised row's gradient. -/
def dh (r : Fin 8192) (k : Fin 1024) : EReal :=
  ∑ n : Fin 1536, D (ix3 ⟨r.val / 2048, by omega⟩ ⟨r.val % 2048, by omega⟩ n) * W (ix2 k n)
/-- The gradient of the step's input. -/
def dx (r : Fin 8192) (k : Fin 1024) : EReal := normBack (row R r k) (row X r) (fun d => N (ix1 d)) (dh D W r) k
/-- A token's share of the norm weight's gradient. -/
def term (r : Fin 8192) (k : Fin 1024) : EReal := dh D W r k * (row X r k * rs (row X r))
/-- The input's gradient, as an array. -/
def Dx : FVec Ideal ⟨2, ![8192, 1024]⟩ .f32 := fun j => dx D W X N R (show Fin 8192 from j 0) (show Fin 1024 from j 1)
/-- The norm weight's gradient, as an array. -/
def Dn : FVec Ideal ⟨2, ![1, 1024]⟩ .f32 := fun j => ∑ r : Fin 8192, term D W X r (show Fin 1024 from j 1)
end Cert.QkvSpec

namespace Cert.Kernel7Ideal.Back
open Cert.Kernel7Ideal Cert.Kernel7Ideal.Gen

section payloads
variable (v0 : FVec Ideal S512x1536 .bf16) (v2 : FVec Ideal S1024x1536 .bf16) (v4 v8 : FVec Ideal S512x1024 .f32) (v6 prev : FVec Ideal S1x1024 .f32)
  (r : Fin 512) (k : Fin 1024) (a : Fin 1)
theorem pay3 : k0_pay3 (F := Ideal) v0 v2 (ix2 r k) = ∑ n : Fin 1536, v0 (ix2 r n) * v2 (ix2 k n) := by
  pointwise [k0_pay3]
theorem pay5 : k0_pay5 (F := Ideal) v4 (ix2 r a) = rs fun d : Fin 1024 => v4 (ix2 r d) := by
  unfold rs
  pointwise [k0_pay5, k0_pay4]
theorem pay6 : k0_pay6 (F := Ideal) v4 (ix2 r k) = v4 (ix2 r k) * rs fun d : Fin 1024 => v4 (ix2 r d) := by
  rw [← pay5 v4 r 0]
  pointwise [k0_pay6, k0_pay4]
theorem pay7 : k0_pay7 (F := Ideal) v0 v2 v4 v6 v8 (ix2 r k)
    = normBack (v8 (ix2 r k)) (fun d : Fin 1024 => v4 (ix2 r d)) (fun d => v6 (ix2 0 d)) (fun d => k0_pay3 (F := Ideal) v0 v2 (ix2 r d)) k := by
  unfold normBack
  have e5 := fun a => pay5 v4 r a
  have e6 := fun k => pay6 v4 r k
  generalize (rs fun d : Fin 1024 => v4 (ix2 r d)) = Q at e5 e6 ⊢
  pointwise [k0_pay7]
  simp only [e5, e6]
theorem pay8 : k0_pay2 (F := Ideal) (k0_pay8 v0 v2 v4) prev (ix2 a k)
    = prev (ix2 a k) + ∑ r : Fin 512, k0_pay3 (F := Ideal) v0 v2 (ix2 r k) * (v4 (ix2 r k) * rs fun d : Fin 1024 => v4 (ix2 r d)) := by
  simp only [← pay6]
  pointwise [k0_pay2, k0_pay8]
theorem pay1 : k0_pay1 (F := Ideal) (ix2 a k) = 0 := by
  pointwise [k0_pay1]
end payloads

variable (m : (ℓ : Loc nD τ sig) → Buf (Elt Ideal) ℓ) (c : Dev nD)
/-- The five operands. -/
abbrev mD : QkvSpec.Grad := m ((c : Thread nD τ).loc main_arg0)
abbrev mW : QkvSpec.Wts := m ((c : Thread nD τ).loc main_arg1)
abbrev mX : Stream := m ((c : Thread nD τ).loc main_arg2)
abbrev mN : Norm := m ((c : Thread nD τ).loc main_arg3)
abbrev mR : Stream := m ((c : Thread nD τ).loc main_arg4)

/-- Which block every window stages at a grid point. -/
theorem idx : ∀ t : Fin cfg0.N, t.val < 16 ∧ win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)
/-- The token of a block's row. -/
abbrev tk (t : Fin cfg0.N) (r : Fin 512) : Fin 8192 := ⟨t.val * 512 + r, by have := (idx t).1; omega⟩

theorem V_d (r : Fin 8192) (n : Fin 1536) :
    (V m c main_v0 : FVec Ideal S8192x1536 .bf16) (ix2 r n) = mD m c (ix3 (⟨r / 2048, by omega⟩ : Fin 4) (⟨r % 2048, by omega⟩ : Fin 2048) n) := by
  entry_read
  pointwise
theorem V_x (r : Fin 8192) (k : Fin 1024) :
    (V m c main_v1 : FVec Ideal S8192x1024 .f32) (ix2 r k) = mX m c (ix3 (⟨r / 2048, by omega⟩ : Fin 4) (⟨r % 2048, by omega⟩ : Fin 2048) k) := by
  entry_read
  pointwise
theorem V_n (a : Fin 1) (k : Fin 1024) : (V m c main_v2 : FVec Ideal S1x1024 .f32) (ix2 a k) = mN m c (ix1 k) := by
  entry_read
  pointwise
theorem V_r (r : Fin 8192) (k : Fin 1024) :
    (V m c main_v3 : FVec Ideal S8192x1024 .f32) (ix2 r k) = mR m c (ix3 (⟨r / 2048, by omega⟩ : Fin 4) (⟨r % 2048, by omega⟩ : Fin 2048) k) := by
  entry_read
  pointwise
theorem V_w (k : Fin 1024) (n : Fin 1536) : (V m c main_arg1 : FVec Ideal S1024x1536 .bf16) (ix2 k n) = mW m c (ix2 k n) := by
  entry_read
  rfl

section blocks
variable (t : Fin cfg0.N) (r : Fin 512) (k : Fin 1024)
theorem b_d (n : Fin 1536) : (iblk m c 0 t : FVec Ideal S512x1536 .bf16) (ix2 r n) = (V m c main_v0 : FVec Ideal S8192x1536 .bf16) (ix2 (tk t r) n) := by
  blk_ext! [iblk, idx t]
theorem b_w (n : Fin 1536) : (iblk m c 1 t : FVec Ideal S1024x1536 .bf16) (ix2 k n) = (V m c main_arg1 : FVec Ideal S1024x1536 .bf16) (ix2 k n) := by
  blk_ext! [iblk, idx t]
theorem b_x : (iblk m c 2 t : FVec Ideal S512x1024 .f32) (ix2 r k) = row (mX m c) (tk t r) k := by
  have h : (iblk m c 2 t : FVec Ideal S512x1024 .f32) (ix2 r k) = (V m c main_v1 : FVec Ideal S8192x1024 .f32) (ix2 (tk t r) k) := by
    blk_ext! [iblk, idx t]
  rw [h, V_x]; rfl
theorem b_n : (iblk m c 3 t : FVec Ideal S1x1024 .f32) (ix2 0 k) = mN m c (ix1 k) := by
  have h : (iblk m c 3 t : FVec Ideal S1x1024 .f32) (ix2 0 k) = (V m c main_v2 : FVec Ideal S1x1024 .f32) (ix2 0 k) := by
    blk_ext! [iblk, idx t]
  rw [h, V_n]
theorem b_r : (iblk m c 4 t : FVec Ideal S512x1024 .f32) (ix2 r k) = row (mR m c) (tk t r) k := by
  have h : (iblk m c 4 t : FVec Ideal S512x1024 .f32) (ix2 r k) = (V m c main_v3 : FVec Ideal S8192x1024 .f32) (ix2 (tk t r) k) := by
    blk_ext! [iblk, idx t]
  rw [h, V_r]; rfl
/-- A row block's gradient behind the norm. -/
theorem dh_blk : k0_pay3 (F := Ideal) (iblk m c 0 t) (iblk m c 1 t) (ix2 r k) = QkvSpec.dh (mD m c) (mW m c) (tk t r) k :=
  (pay3 _ _ r k).trans (Finset.sum_congr rfl fun n _ => congrArg₂ (· * ·) ((b_d m c t r n).trans (V_d m c _ n)) ((b_w m c t k n).trans (V_w m c k n)))
/-- A row block's gradient. -/
theorem dx_blk : k0_pay7 (F := Ideal) (iblk m c 0 t) (iblk m c 1 t) (iblk m c 2 t) (iblk m c 3 t) (iblk m c 4 t) (ix2 r k)
    = QkvSpec.dx (mD m c) (mW m c) (mX m c) (mN m c) (mR m c) (tk t r) k := by
  rw [pay7]
  simp only [dh_blk, b_x, b_n, b_r]
  rfl
/-- A row block's share of the norm weight's gradient. -/
theorem dn_blk (prev : FVec Ideal S1x1024 .f32) (a : Fin 1) :
    k0_pay2 (F := Ideal) (k0_pay8 (iblk m c 0 t) (iblk m c 1 t) (iblk m c 2 t)) prev (ix2 a k)
      = prev (ix2 a k) + ∑ r : Fin 512, QkvSpec.term (mD m c) (mW m c) (mX m c) (tk t r) k := by
  rw [pay8]
  simp only [dh_blk, b_x]
  rfl
/-- Every point leaves its rows of the gradient. -/
theorem outs_dx : ((outsAt0 m c t.val t.isLt).1 : FVec Ideal S512x1024 .f32) (ix2 r k) = QkvSpec.dx (mD m c) (mW m c) (mX m c) (mN m c) (mR m c) (tk t r) k := by
  by_cases h : t.val % 16 = 0
  · rw [outsAt0_A m c t h]; frame_out
    exact dx_blk m c t r k
  · rw [outsAt0_B m c t h]; frame_out
    exact dx_blk m c t r k
end blocks

/-- The norm weight's gradient, after the last point. -/
theorem outs_dn (t : Fin cfg0.N) (ht : t.val + 1 = cfg0.N) (a : Fin 1) (k : Fin 1024) :
    ((outsAt0 m c t.val t.isLt).2 : FVec Ideal S1x1024 .f32) (ix2 a k) = ∑ r : Fin 8192, QkvSpec.term (mD m c) (mW m c) (mX m c) r k := by
  rw [Pipeline.eq_sum_fin_of_reset_step_apply_last (fun n h => (outsAt0 m c n h).2) 16 (fun _ => (0 : EReal))
      (fun t j => ∑ r : Fin 512, QkvSpec.term (mD m c) (mW m c) (mX m c) (tk t r) (show Fin 1024 from j 1))
      (fun t h j => by
        revert j
        refine at2 _ _ fun a k => ?_
        beta_reduce
        rw [outsAt0_A m c t h]; frame_out
        exact (dn_blk m c t k _ a).trans (congrArg₂ (· + ·) (pay1 k a) rfl))
      (fun t h j => by
        revert j
        refine at2 _ _ fun a k => ?_
        beta_reduce
        rw [outsAt0_B m c t h]; frame_out
        exact dn_blk m c t k _ a)
      (le_of_eq Gen.N_0) t ht (ix2 a k), zero_add]
  exact Fin.sum_mul_add_congr fun t r hl => rfl

/-- The input's gradient. -/
theorem final5 : (dats m 0 c).arrAt 5 cfg0.N = QkvSpec.Dx (mD m c) (mW m c) (mX m c) (mN m c) (mR m c) := by
  refine (dats m 0 c).arrAt_eq_of_covers 5 _ (by decide +kernel) fun t _ y => ?_
  blk_simp
  rw [after0_5]
  generalize hG : QkvSpec.Dx (mD m c) (mW m c) (mX m c) (mN m c) (mR m c) = G
  refine at2 _ (fun y => G (((View.whole main_v4_0).slice (win0_5.rect t)).emb y)) (fun r l => ?_) y
  have he : (((View.whole main_v4_0).slice (win0_5.rect t)).emb (ix2 r l : S512x1024.Idx)) = (ix2 (tk t r) l : S8192x1024.Idx) := by
    blk_ext! [idx t]
  refine (outs_dx m c t r l).trans ((?_ : _ = _).trans (congrArg G he).symm)
  rw [← hG]; rfl
/-- The norm weight's gradient. -/
theorem final6 : (dats m 0 c).arrAt 6 cfg0.N = QkvSpec.Dn (mD m c) (mW m c) (mX m c) := by
  refine (dats m 0 c).arrAt_eq_of_covers 6 _ (by decide +kernel) fun t hf y => ?_
  have ht : t.val + 1 = cfg0.N := by
    have h1 := (flush0_6 t).mp hf
    have h2 := (idx t).1
    have h3 : cfg0.N = 16 := Gen.N_0
    omega
  blk_simp
  rw [after0_6]
  generalize hG : QkvSpec.Dn (mD m c) (mW m c) (mX m c) = G
  refine at2 _ (fun y => G (((View.whole main_v4_1).slice (win0_6.rect t)).emb y)) (fun a l => ?_) y
  have he : (((View.whole main_v4_1).slice (win0_6.rect t)).emb (ix2 a l : S1x1024.Idx)) = (ix2 a l : S1x1024.Idx) := by
    blk_ext! [idx t]
  refine (outs_dn m c t ht a l).trans ((?_ : _ = _).trans (congrArg G he).symm)
  rw [← hG]; rfl

end Cert.Kernel7Ideal.Back

namespace Cert.Reference8Ideal.Back
open Cert.Reference8Ideal Cert.Reference8Ideal.Read Cert.QkvSpec
open Cert.Reference4Ideal.Ffn (tok row_tok tok_divmod sum_two)

variable (D : Grad) (W : Wts) (X : Stream) (N : Norm) (R : Stream) (b : Fin 4) (s : Fin 2048)
/-- A token's row. -/
abbrev rw' (X : Stream) (b : Fin 4) (s : Fin 2048) : Row := fun d => X (ix3 b s d)
theorem row_eq : row X (tok b s) = rw' X b s := funext fun d => row_tok X b s d

theorem v6_at (a : Fin 1) : val_main_v6 (F := Ideal) X (ix3 b s a) = msq (rw' X b s) := by
  generalize hz : msq (rw' X b s) = z
  pointwise [val_main_v6, val_main_v5, val_main_v4, val_main_v3, val_main_v2, val_main_v1, val_main_v0, val_main_cst, val_main_cst_0, val_main_cst_1]
  rw [← hz]; rfl
theorem v7_at (a : Fin 1) : val_main_v7 (F := Ideal) X (ix3 b s a) = rs (rw' X b s) := congrArg Ideal.rsqrt (v6_at X b s a)
theorem v10_at (a : Fin 1) : val_main_v10 (F := Ideal) X (ix3 b s a) = Ideal.ofBits .f32 0xBF000000#32 * Ideal.div (rs (rw' X b s)) (msq (rw' X b s)) := by
  rw [← v7_at X b s a, ← v6_at X b s a]
  rfl
theorem v12_at (d : Fin 1024) : val_main_v12 (F := Ideal) X (ix3 b s d) = X (ix3 b s d) * rs (rw' X b s) := by
  rw [← v7_at X b s 0]
  generalize hz : val_main_v7 (F := Ideal) X (ix3 b s 0) = z
  pointwise [val_main_v12, val_main_v11]
  rw [hz]
theorem v19_at (k : Fin 1024) : val_main_v19 (F := Ideal) D W (ix3 b s k) = dh D W (tok b s) k := by
  have e : dh D W (tok b s) k = ∑ n : Fin 1536, D (ix3 b s n) * W (ix2 k n) :=
    Finset.sum_congr rfl fun n _ => congrArg (· * W (ix2 k n)) (by
      congr 1
      congr 1 <;> apply Fin.ext <;> dsimp only [tok] <;> omega)
  rw [e]
  generalize hz : (∑ n : Fin 1536, D (ix3 b s n) * W (ix2 k n)) = z
  pointwise [val_main_v19, val_main_v18, val_main_v16]
  rw [← hz]
theorem v24_at (d : Fin 1024) : val_main_v24 (F := Ideal) D W N (ix3 b s d) = dh D W (tok b s) d * N (ix1 d) := by
  rw [← v19_at]
  generalize hz : val_main_v19 (F := Ideal) D W (ix3 b s d) * N (ix1 d) = z
  pointwise [val_main_v24, val_main_v23, val_main_v13]
  rw [← hz]
theorem v34_at : val_main_v34 (F := Ideal) D W X N (ix2 b s) = dmsq (rw' X b s) (fun d => N (ix1 d)) (dh D W (tok b s)) := by
  unfold dmsq
  rw [← v10_at X b s 0]
  simp only [← v24_at]
  generalize hz : Ideal.div ((∑ e, X (ix3 b s e) * val_main_v24 (F := Ideal) D W N (ix3 b s e)) * val_main_v10 (F := Ideal) X (ix3 b s 0)) (Ideal.ofBits .f32 0x44800000#32) = z
  pointwise [val_main_v34, val_main_v33, val_main_v32, val_main_v31, val_main_v28, val_main_v27, val_main_v26, val_main_cst_5, val_main_cst_6, val_main_cst_7]
  rw [Fin.sum_univ_one, ← hz]
/-- The input's gradient. -/
theorem v40_at (d : Fin 1024) : val_main_v40 (F := Ideal) D W X N R (ix3 b s d) = dx D W X N R (tok b s) d := by
  unfold dx
  rw [row_eq X, ← norm_back, row_tok, ← v34_at, ← v24_at, ← v7_at X b s 0]
  generalize hz : val_main_v34 (F := Ideal) D W X N (ix2 b s) = z
  generalize hy : val_main_v24 (F := Ideal) D W N (ix3 b s d) = y
  generalize hw : val_main_v7 (F := Ideal) X (ix3 b s 0) = w
  pointwise [val_main_v40, val_main_v39, val_main_v38, val_main_v37, val_main_v36, val_main_v35, val_main_v30, val_main_v29]
  rw [hz, hy, hw]
/-- The norm weight's gradient. -/
theorem v21_at (k : Fin 1024) : val_main_v21 (F := Ideal) D W X (ix1 k) = ∑ r : Fin 8192, term D W X r k := by
  refine (sum_two Gen.reducesTo_S4x2048x1024_S1024_d0_1 (val_main_v20 (F := Ideal) D W X) _ k).trans ?_
  rw [show val_main_cst_3 (F := Ideal) _ = 0 from Ideal.ofBits_zero .f32, zero_add]
  refine Fin.sum_mul_add_congr fun b s hl => ?_
  refine (congrArg₂ (· * ·) (v12_at X b s k) (v19_at D W b s k)).trans ?_
  unfold term
  rw [show (⟨b.val * 2048 + s.val, hl⟩ : Fin 8192) = tok b s from rfl, row_eq]
  exact mul_comm _ _
theorem v25_at (k : Fin 1024) : val_main_v25 (F := Ideal) D W X (ix1 k) = val_main_v21 (F := Ideal) D W X (ix1 k) := by
  refine (sum_two Gen.reducesTo_S1x1x1024_S1024_d0_1 (val_main_v22 (F := Ideal) D W X) _ k).trans ?_
  rw [show val_main_cst_4 (F := Ideal) _ = 0 from Ideal.ofBits_zero .f32, zero_add, Fin.sum_univ_one, Fin.sum_univ_one]
  generalize hz : val_main_v21 (F := Ideal) D W X (ix1 k) = z
  pointwise [val_main_v22]
  rw [hz]

/-- The reference's first result. -/
theorem ref5 : val_main_v41 (F := Ideal) D W X N R = Dx D W X N R := funext (at2 _ _ fun r k => by
  have e := v40_at D W X N R ⟨r.val / 2048, by omega⟩ ⟨r.val % 2048, by omega⟩ k
  rw [tok_divmod] at e
  generalize hz : Dx D W X N R (ix2 r k) = z
  generalize hy : val_main_v40 (F := Ideal) D W X N R = y at e
  pointwise [val_main_v41]
  rw [hy, ← hz]; exact e)
/-- The reference's second result. -/
theorem ref6 : val_main_v42 (F := Ideal) D W X = Dn D W X := funext (at2 _ _ fun a k => by
  have e := (v25_at D W X k).trans (v21_at D W X k)
  generalize hz : Dn D W X (ix2 a k) = z
  generalize hy : val_main_v25 (F := Ideal) D W X = y at e
  pointwise [val_main_v42]
  rw [hy, ← hz]; exact e)

end Cert.Reference8Ideal.Back
-- ==== Proof.DownSpec.lean ====
/- The projection back to the residual stream, its rows split over four chips, and the loss behind it, as functions of the operands. -/
module
public import proofs.«01_k».proof.Proof.NormRow

@[expose] public section
set_option maxRecDepth 16384
noncomputable section
open Idealize.ShloMosaic
open Cert.FfnMath Cert.NormRow
open Cert.FfnSpec (Stream Norm Out row col sum_chips)
open Cert.Reference4Ideal.Ffn (tok row_tok word_len)
namespace Cert.DownSpec

/-- The gated activation. -/
abbrev Act := FVec Ideal ⟨3, ![4, 2048, 2816]⟩ .bf16
/-- A row block of the activation, chip by chip. -/
abbrev Abk := FVec Ideal ⟨3, ![4, 512, 704]⟩ .bf16
/-- The weight, chip by chip. -/
abbrev Wbk := FVec Ideal ⟨4, ![4, 1, 704, 1024]⟩ .bf16
variable (A : Act) (W : Out) (R : Stream) (N : Norm) (T : Stream)

/-- A token's activation. -/
def arow (r : Fin 8192) (f : Fin 2816) : EReal := A (ix3 ⟨r.val / 2048, by omega⟩ ⟨r.val % 2048, by omega⟩ f)
/-- The next residual stream. -/
def out (r : Fin 8192) (k : Fin 1024) : EReal := row R r k + ∑ f : Fin 2816, arow A r f * W (ix2 f k)
/-- Its normalised row. -/
def hid (r : Fin 8192) (k : Fin 1024) : EReal := out A W R r k * rs (out A W R r) * N (ix1 k)
/-- The prediction's error. -/
def err (r : Fin 8192) (k : Fin 1024) : EReal := hid A W R N r k - row T r k
/-- The loss's gradient in the prediction. -/
def dy (r : Fin 8192) (k : Fin 1024) : EReal := err A W R N T r k * Ideal.ofBits .f32 0x3A800000#32
/-- The loss's gradient in the stream. -/
def dx (r : Fin 8192) (k : Fin 1024) : EReal := normBack 0 (out A W R r) (fun d => N (ix1 d)) (dy A W R N T r) k
/-- A token's share of the gradient of the last norm's weight. -/
def term (r : Fin 8192) (k : Fin 1024) : EReal := dy A W R N T r k * (out A W R r k * rs (out A W R r))

/-- The next residual stream, as an array. -/
def Out' : FVec Ideal ⟨2, ![8192, 1024]⟩ .f32 := fun j => out A W R (show Fin 8192 from j 0) (show Fin 1024 from j 1)
/-- The normalised stream, as an array. -/
def Hid : FVec Ideal ⟨2, ![8192, 1024]⟩ .bf16 := fun j => hid A W R N (show Fin 8192 from j 0) (show Fin 1024 from j 1)
/-- The normalised stream, its tokens in groups of four. -/
def Fold : FVec Ideal ⟨4, ![4, 512, 4, 1024]⟩ .bf16 := fun j =>
  hid A W R N (tok (show Fin 4 from j 0) ⟨(show Fin 512 from j 1).val * 4 + (show Fin 4 from j 2).val, by omega⟩) (show Fin 1024 from j 3)
/-- The stream's gradient, as an array. -/
def Dx {e : FTy} : FVec Ideal ⟨2, ![8192, 1024]⟩ e := fun j => dx A W R N T (show Fin 8192 from j 0) (show Fin 1024 from j 1)
/-- The squared errors, summed over the tokens. -/
def Sq : FVec Ideal ⟨2, ![1, 1024]⟩ .f32 := fun j => ∑ r : Fin 8192, err A W R N T r (show Fin 1024 from j 1) * err A W R N T r (show Fin 1024 from j 1)
/-- The gradient of the last norm's weight. -/
def Dg : FVec Ideal ⟨2, ![1, 1024]⟩ .f32 := fun j => ∑ r : Fin 8192, term A W R N T r (show Fin 1024 from j 1)

/-- One chip's part of a row block. -/
abbrev la (x : Abk) (q : Fin 4) : FVec Ideal ⟨3, ![1, 512, 704]⟩ .bf16 :=
  View.ld (Val := Elt Ideal) (e' := .bf16) x (Rect.unit (s := ⟨3, ![4, 512, 704]⟩) ![q.val, 0, 0] ![1, 512, 704]
    (fun a => by fin_cases a <;> simp <;> omega))
/-- One chip's part of the weight. -/
abbrev lw (x : Wbk) (q : Fin 4) : FVec Ideal ⟨4, ![1, 1, 704, 1024]⟩ .bf16 :=
  View.ld (Val := Elt Ideal) (e' := .bf16) x (Rect.unit (s := ⟨4, ![4, 1, 704, 1024]⟩) ![q.val, 0, 0, 0] ![1, 1, 704, 1024]
    (fun a => by fin_cases a <;> simp <;> omega))
theorem la_at (x : Abk) (q : Fin 4) (r : Fin 512) (f : Fin 704) : la x q (ix3 0 r f) = x (ix3 q r f) :=
  View.ld_unit_apply_of _ _ _ _ _ _ fun a => by
    fin_cases a
    · rfl
    · exact (Nat.zero_add _).symm
    · exact (Nat.zero_add _).symm
theorem lw_at (x : Wbk) (q : Fin 4) (f : Fin 704) (d : Fin 1024) : lw x q (ix4 0 0 f d) = x (ix4 q 0 f d) :=
  View.ld_unit_apply_of _ _ _ _ _ _ fun a => by
    fin_cases a
    · rfl
    · rfl
    · exact (Nat.zero_add _).symm
    · exact (Nat.zero_add _).symm

/-- The residual and the four chips' products. -/
def four (x0 : Abk) (x1 : Wbk) (x2 : FVec Ideal ⟨2, ![512, 1024]⟩ .f32) (r : Fin 512) (k : Fin 1024) : EReal :=
  ((x2 (ix2 r k) + (∑ f : Fin 704, la x0 0 (ix3 0 r f) * lw x1 0 (ix4 0 0 f k)) + ∑ f : Fin 704, la x0 1 (ix3 0 r f) * lw x1 1 (ix4 0 0 f k))
    + ∑ f : Fin 704, la x0 2 (ix3 0 r f) * lw x1 2 (ix4 0 0 f k)) + ∑ f : Fin 704, la x0 3 (ix3 0 r f) * lw x1 3 (ix4 0 0 f k)
/-- They are the whole product, whatever block the row lies in. -/
theorem four_eq (x0 : Abk) (x1 : Wbk) (x2 : FVec Ideal ⟨2, ![512, 1024]⟩ .f32) (r : Fin 512) (k : Fin 1024) (n : Fin 8192)
    (h0 : ∀ q f, x0 (ix3 q r f) = arow A n (col q f)) (h1 : ∀ q f k, x1 (ix4 q 0 f k) = W (ix2 (col q f) k)) (h2 : x2 (ix2 r k) = row R n k) :
    four x0 x1 x2 r k = out A W R n k := by
  unfold four out
  have hp : ∀ q : Fin 4, (∑ f : Fin 704, la x0 q (ix3 0 r f) * lw x1 q (ix4 0 0 f k)) = ∑ f : Fin 704, arow A n (col q f) * W (ix2 (col q f) k) :=
    fun q => Finset.sum_congr rfl fun f _ => congrArg₂ (· * ·) ((la_at x0 q r f).trans (h0 q f)) ((lw_at x1 q f k).trans (h1 q f k))
  rw [h2, hp 0, hp 1, hp 2, hp 3, ← sum_chips (fun f => arow A n f * W (ix2 f k)), Fin.sum_univ_four]
  simp only [add_assoc]

/-- The reference's gradient in the prediction: half the mean's share of twice the error. -/
theorem half_mean (e : EReal) :
    Ideal.div (Ideal.ofBits .f32 0x3F000000#32) (Ideal.ofBits .f32 0x44800000#32) * (Ideal.ofBits .f32 0x40000000#32 * e)
      = e * Ideal.ofBits .f32 0x3A800000#32 := by
  have h1 : Ideal.ofBits .f32 0x3F000000#32 = ((1 / 2 : ℝ) : EReal) := by
    simp [Ideal.ofBits, Ideal.ieee]; rw [← EReal.coe_mul]; norm_num
  have h3 : Ideal.ofBits .f32 0x40000000#32 = ((2 : ℝ) : EReal) := by
    simp [Ideal.ofBits, Ideal.ieee]; rw [← EReal.coe_mul]; norm_num
  have h4 : Ideal.ofBits .f32 0x3A800000#32 = ((1 / 1024 : ℝ) : EReal) := by
    simp [Ideal.ofBits, Ideal.ieee]; rw [← EReal.coe_mul]; norm_num
  rw [h1, h3, h4, word_len, show Ideal.div ((1 / 2 : ℝ) : EReal) ((1024 : ℝ) : EReal) = ((1 / 2048 : ℝ) : EReal) from by
    simp only [Ideal.div]
    norm_num
    rw [← EReal.coe_inv, ← EReal.coe_mul]
    norm_num, ← mul_assoc, ← EReal.coe_mul, mul_comm e]
  norm_num

end Cert.DownSpec
-- ==== Proof.Down0.lean ====
/- The first layer's projection back and the norm behind it: the blocks, the run and the reference. -/
module
public import proofs.«01_k».proof.Proof.DownSpec
public import Idealize.ShloMosaic.Lib.Pipeline.ValueKit
public import Idealize.ShloMosaic.Lib.Tactic
public import proofs.«01_k».proof.Proof.Gen.Kernel8Ideal.Frame
public import proofs.«01_k».proof.Proof.Gen.Reference9Ideal.Read

@[expose] public section
set_option maxRecDepth 16384
noncomputable section
open Idealize.ShloMosaic Idealize.ShloMosaic.TcCoe Idealize.SL.Sem
open Cert.FfnMath Cert.NormRow Cert.Idx2 Cert.DownSpec
open Cert.FfnSpec (Stream Norm Out row col)

namespace Cert.Kernel8Ideal.Down
open Cert.Kernel8Ideal Cert.Kernel8Ideal.Gen

section payloads
variable (v0 : FVec Ideal S512x1024 .f32) (a0 a1 a2 : FVec Ideal S1x512x704 .bf16) (w0 w1 w2 : FVec Ideal S1x1x704x1024 .bf16)
  (v19 v24 : FVec Ideal S512x1024 .f32) (v27 : FVec Ideal S1x1024 .f32) (r : Fin 512) (k : Fin 1024) (a : Fin 1)
theorem pay4 : k0_pay4 (F := Ideal) v0 a0 w0 a1 w1 a2 w2 (ix2 r k)
    = (v0 (ix2 r k) + (∑ f : Fin 704, a0 (ix3 0 r f) * w0 (ix4 0 0 f k)) + ∑ f : Fin 704, a1 (ix3 0 r f) * w1 (ix4 0 0 f k))
      + ∑ f : Fin 704, a2 (ix3 0 r f) * w2 (ix4 0 0 f k) := by
  pointwise [k0_pay4]
theorem pay5 : k0_pay5 (F := Ideal) a0 w0 (ix2 r k) = ∑ f : Fin 704, a0 (ix3 0 r f) * w0 (ix4 0 0 f k) := by
  pointwise [k0_pay5]
theorem pay2 : k0_pay2 (F := Ideal) v19 v24 v27 (ix2 r k)
    = k0_pay1 (F := Ideal) v19 v24 (ix2 r k) * (rs fun d : Fin 1024 => k0_pay1 (F := Ideal) v19 v24 (ix2 r d)) * v27 (ix2 0 k) := by
  unfold rs
  generalize hX : k0_pay1 (F := Ideal) v19 v24 = X
  pointwise [k0_pay2]
  simp only [hX]
theorem pay3 (j : Fin 128) (q : Fin 4) : k0_pay3 (F := Ideal) v19 v24 v27 (ix4 a j q k)
    = k0_pay2 (F := Ideal) v19 v24 v27 (ix2 (⟨j.val * 4 + q.val, by omega⟩ : Fin 512) k) := by
  obtain rfl : a = 0 := Subsingleton.elim _ _
  pointwise [k0_pay3]
end payloads

variable (m : (ℓ : Loc nD τ sig) → Buf (Elt Ideal) ℓ) (c : Dev nD)
/-- The four operands. -/
abbrev mA : Act := m ((c : Thread nD τ).loc main_arg0)
abbrev mW : Out := m ((c : Thread nD τ).loc main_arg1)
abbrev mR : Stream := m ((c : Thread nD τ).loc main_arg2)
abbrev mN : Norm := m ((c : Thread nD τ).loc main_arg3)

/-- Which block every window stages at a grid point. -/
theorem idx : ∀ t : Fin cfg0.N, t.val < 16 ∧ win0_0.index t = ![0, t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val / 4, t.val % 4, 0, 0] :=
  (by decide +kernel : ∀ t : Fin grid0.N, _)
/-- The token of a block's row. -/
abbrev tk (t : Fin cfg0.N) (r : Fin 512) : Fin 8192 := ⟨t.val * 512 + r, by have := (idx t).1; omega⟩

theorem V_a (q : Fin 4) (r : Fin 8192) (f : Fin 704) : (V m c main_v2 : FVec Ideal S4x8192x704 .bf16) (ix3 q r f) = arow (mA m c) r (col q f) := by
  unfold arow
  entry_read
  pointwise
theorem V_w (q : Fin 4) (f : Fin 704) (k : Fin 1024) : (V m c main_v0 : FVec Ideal S4x1x704x1024 .bf16) (ix4 q 0 f k) = mW m c (ix2 (col q f) k) := by
  entry_read
  pointwise
theorem V_r (r : Fin 8192) (k : Fin 1024) : (V m c main_v3 : FVec Ideal S8192x1024 .f32) (ix2 r k) = row (mR m c) r k := by
  unfold row
  entry_read
  pointwise
theorem V_n (a : Fin 1) (k : Fin 1024) : (V m c main_v4 : FVec Ideal S1x1024 .f32) (ix2 a k) = mN m c (ix1 k) := by
  entry_read
  pointwise

section blocks
variable (t : Fin cfg0.N) (r : Fin 512) (k : Fin 1024)
theorem b_a (q : Fin 4) (f : Fin 704) : (iblk m c 0 t : FVec Ideal S4x512x704 .bf16) (ix3 q r f) = arow (mA m c) (tk t r) (col q f) := by
  have h : (iblk m c 0 t : FVec Ideal S4x512x704 .bf16) (ix3 q r f) = (V m c main_v2 : FVec Ideal S4x8192x704 .bf16) (ix3 q (tk t r) f) := by
    blk_ext! [iblk, idx t]
  rw [h, V_a]
theorem b_w (q : Fin 4) (f : Fin 704) : (iblk m c 1 t : FVec Ideal S4x1x704x1024 .bf16) (ix4 q 0 f k) = mW m c (ix2 (col q f) k) := by
  have h : (iblk m c 1 t : FVec Ideal S4x1x704x1024 .bf16) (ix4 q 0 f k) = (V m c main_v0 : FVec Ideal S4x1x704x1024 .bf16) (ix4 q 0 f k) := by
    blk_ext! [iblk, idx t]
  rw [h, V_w]
theorem b_r : (iblk m c 2 t : FVec Ideal S512x1024 .f32) (ix2 r k) = row (mR m c) (tk t r) k := by
  have h : (iblk m c 2 t : FVec Ideal S512x1024 .f32) (ix2 r k) = (V m c main_v3 : FVec Ideal S8192x1024 .f32) (ix2 (tk t r) k) := by
    blk_ext! [iblk, idx t]
  rw [h, V_r]
theorem b_n : (iblk m c 3 t : FVec Ideal S1x1024 .f32) (ix2 0 k) = mN m c (ix1 k) := by
  have h : (iblk m c 3 t : FVec Ideal S1x1024 .f32) (ix2 0 k) = (V m c main_v4 : FVec Ideal S1x1024 .f32) (ix2 0 k) := by
    blk_ext! [iblk, idx t]
  rw [h, V_n]
/-- The residual and the first three chips' products. -/
abbrev p19 (x0 : Abk) (x1 : Wbk) (x2 : FVec Ideal S512x1024 .f32) : FVec Ideal S512x1024 .f32 :=
  k0_pay4 (F := Ideal) x2 (la x0 0) (lw x1 0) (la x0 1) (lw x1 1) (la x0 2) (lw x1 2)
/-- The last chip's product. -/
abbrev p24 (x0 : Abk) (x1 : Wbk) : FVec Ideal S512x1024 .f32 := k0_pay5 (F := Ideal) (la x0 3) (lw x1 3)
/-- A row block of the next stream. -/
theorem x_blk : k0_pay1 (F := Ideal) (p19 (iblk m c 0 t) (iblk m c 1 t) (iblk m c 2 t)) (p24 (iblk m c 0 t) (iblk m c 1 t)) (ix2 r k)
    = out (mA m c) (mW m c) (mR m c) (tk t r) k :=
  (congrArg₂ (· + ·) (pay4 _ _ _ _ _ _ _ r k) (pay5 _ _ r k)).trans
    (four_eq (mA m c) (mW m c) (mR m c) (iblk m c 0 t) (iblk m c 1 t) (iblk m c 2 t) r k (tk t r) (b_a m c t r) (fun q f k => b_w m c t k q f) (b_r m c t r k))
/-- A row block of the normalised stream. -/
theorem h_blk : k0_pay2 (F := Ideal) (p19 (iblk m c 0 t) (iblk m c 1 t) (iblk m c 2 t)) (p24 (iblk m c 0 t) (iblk m c 1 t)) (iblk m c 3 t) (ix2 r k)
    = hid (mA m c) (mW m c) (mR m c) (mN m c) (tk t r) k := by
  rw [pay2]
  simp only [x_blk, b_n]
  rfl
end blocks

section outs
variable (x0 : Abk) (x1 : Wbk) (x2 : FVec Ideal S512x1024 .f32) (x3 : FVec Ideal S1x1024 .f32)
/-- The two stored values are those products. -/
theorem e19 : k0_pay6 (F := Ideal) x0 x1 x2 x3 = p19 x0 x1 x2 := by
  unfold k0_pay6
  simp (disch := decide) only [View.ld_unit_lit']
  rfl
theorem e24 : k0_pay7 (F := Ideal) x0 x1 x2 x3 = p24 x0 x1 := rfl
/-- The three blocks a point leaves. -/
theorem outs4 : out0_4 (F := Ideal) x0 x1 x2 x3 = k0_pay1 (F := Ideal) (p19 x0 x1 x2) (p24 x0 x1) := by
  frame_out
  rw [e19, e24]
theorem outs5 : out0_5 (F := Ideal) x0 x1 x2 x3 = k0_pay2 (F := Ideal) (p19 x0 x1 x2) (p24 x0 x1) x3 := by
  frame_out
  rw [e19, e24]
theorem outs6 : out0_6 (F := Ideal) x0 x1 x2 x3 = k0_pay3 (F := Ideal) (p19 x0 x1 x2) (p24 x0 x1) x3 := by
  frame_out
  rw [e19, e24]
end outs
/-- The next stream. -/
theorem final4 : (dats m 0 c).arrAt 4 cfg0.N = Out' (mA m c) (mW m c) (mR m c) := by
  refine (dats m 0 c).arrAt_eq_of_covers 4 _ (by decide +kernel) fun t _ y => ?_
  blk_simp
  rw [after0_4, outs4]
  generalize hG : Out' (mA m c) (mW m c) (mR m c) = G
  refine at2 _ (fun y => G (((View.whole main_v5_0).slice (win0_4.rect t)).emb y)) (fun r l => ?_) y
  have he : (((View.whole main_v5_0).slice (win0_4.rect t)).emb (ix2 r l : S512x1024.Idx)) = (ix2 (tk t r) l : S8192x1024.Idx) := by
    blk_ext! [idx t]
  refine (x_blk m c t r l).trans ((?_ : _ = _).trans (congrArg G he).symm)
  rw [← hG]; rfl
/-- The normalised stream. -/
theorem final5 : (dats m 0 c).arrAt 5 cfg0.N = Hid (mA m c) (mW m c) (mR m c) (mN m c) := by
  refine (dats m 0 c).arrAt_eq_of_covers 5 _ (by decide +kernel) fun t _ y => ?_
  blk_simp
  rw [after0_5, outs5]
  generalize hG : Hid (mA m c) (mW m c) (mR m c) (mN m c) = G
  refine at2 _ (fun y => G (((View.whole main_v5_1).slice (win0_5.rect t)).emb y)) (fun r l => ?_) y
  have he : (((View.whole main_v5_1).slice (win0_5.rect t)).emb (ix2 r l : S512x1024.Idx)) = (ix2 (tk t r) l : S8192x1024.Idx) := by
    blk_ext! [idx t]
  refine (h_blk m c t r l).trans ((?_ : _ = _).trans (congrArg G he).symm)
  rw [← hG]; rfl
/-- The normalised stream, its tokens in groups of four. -/
theorem final6 : (dats m 0 c).arrAt 6 cfg0.N = Fold (mA m c) (mW m c) (mR m c) (mN m c) := by
  refine (dats m 0 c).arrAt_eq_of_covers 6 _ (by decide +kernel) fun t _ y => ?_
  blk_simp
  rw [after0_6, outs6]
  generalize hG : Fold (mA m c) (mW m c) (mR m c) (mN m c) = G
  refine at4 _ (fun y => G (((View.whole main_v5_2).slice (win0_6.rect t)).emb y)) (fun a j q l => ?_) y
  have h16 := (idx t).1
  have he : (((View.whole main_v5_2).slice (win0_6.rect t)).emb (ix4 a j q l : S1x128x4x1024.Idx))
      = (ix4 (⟨t.val / 4, by omega⟩ : Fin 4) (⟨t.val % 4 * 128 + j.val, by omega⟩ : Fin 512) q l : S4x512x4x1024.Idx) := by
    obtain rfl : a = 0 := Subsingleton.elim _ _
    blk_ext! [idx t]
  refine ((pay3 _ _ _ l a j q).trans (h_blk m c t _ l)).trans ((?_ : _ = _).trans (congrArg G he).symm)
  rw [← hG]
  refine congrArg (fun r => hid (mA m c) (mW m c) (mR m c) (mN m c) r l) (Fin.ext ?_)
  show t.val * 512 + (j.val * 4 + q.val) = t.val / 4 * 2048 + ((t.val % 4 * 128 + j.val) * 4 + q.val)
  omega

/-- The run: each output array named, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v5_0) = Out' (mA m c) (mW m c) (mR m c)
      ∧ r.2.mem ((c : Thread nD τ).loc main_v5_1) = Hid (mA m c) (mW m c) (mR m c) (mN m c)
      ∧ r.2.mem ((c : Thread nD τ).loc main_v5_2) = Fold (mA m c) (mW m c) (mR m c) (mN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)
end Cert.Kernel8Ideal.Down

namespace Cert.Reference9Ideal.Down
open Cert.Reference9Ideal Cert.Reference9Ideal.Read
open Cert.Reference4Ideal.Ffn (tok row_tok tok_divmod)

variable (A : Act) (W : Out) (R : Stream) (N : Norm) (b : Fin 4) (s : Fin 2048)
theorem arow_tok (f : Fin 2816) : arow A (tok b s) f = A (ix3 b s f) := by
  unfold arow
  congr 1
  congr 1 <;> apply Fin.ext <;> dsimp only [tok] <;> omega
theorem v3_at (k : Fin 1024) : val_main_v3 (F := Ideal) A W R (ix3 b s k) = out A W R (tok b s) k := by
  unfold out
  simp only [arow_tok, row_tok]
  generalize hz : R (ix3 b s k) + ∑ f : Fin 2816, A (ix3 b s f) * W (ix2 f k) = z
  pointwise [val_main_v3, val_main_v2, val_main_v1, val_main_v0]
  rw [← hz]
theorem v3_row : (fun k : Fin 1024 => val_main_v3 (F := Ideal) A W R (ix3 b s k)) = out A W R (tok b s) := funext fun k => v3_at A W R b s k
theorem v10_at (a : Fin 1) : val_main_v10 (F := Ideal) A W R (ix3 b s a) = msq (out A W R (tok b s)) := by
  rw [← v3_row]
  generalize hX : val_main_v3 (F := Ideal) A W R = X
  generalize hz : msq (fun k : Fin 1024 => X (ix3 b s k)) = z
  pointwise [val_main_v10, val_main_v9, val_main_v8, val_main_v7, val_main_v6, val_main_v5, val_main_v4, val_main_cst, val_main_cst_0, val_main_cst_1]
  rw [hX, ← hz]; rfl
theorem v11_at (a : Fin 1) : val_main_v11 (F := Ideal) A W R (ix3 b s a) = rs (out A W R (tok b s)) := congrArg Ideal.rsqrt (v10_at A W R b s a)
theorem v17_at (k : Fin 1024) : val_main_v17 (F := Ideal) A W R N (ix3 b s k) = hid A W R N (tok b s) k := by
  unfold hid
  rw [← v11_at A W R b s 0, ← v3_at]
  generalize hz : val_main_v3 (F := Ideal) A W R (ix3 b s k) * val_main_v11 (F := Ideal) A W R (ix3 b s 0) * N (ix1 k) = z
  pointwise [val_main_v17, val_main_v16, val_main_v15, val_main_v14, val_main_v13, val_main_v12]
  rw [← hz]

/-- The reference's three results. -/
theorem ref4 : val_main_v18 (F := Ideal) A W R = Out' A W R := funext (at2 _ _ fun r k => by
  have e := v3_at A W R ⟨r.val / 2048, by omega⟩ ⟨r.val % 2048, by omega⟩ k
  rw [tok_divmod] at e
  generalize hz : Out' A W R (ix2 r k) = z
  generalize hy : val_main_v3 (F := Ideal) A W R = y at e
  pointwise [val_main_v18]
  rw [hy, ← hz]; exact e)
theorem ref5 : val_main_v19 (F := Ideal) A W R N = Hid A W R N := funext (at2 _ _ fun r k => by
  have e := v17_at A W R N ⟨r.val / 2048, by omega⟩ ⟨r.val % 2048, by omega⟩ k
  rw [tok_divmod] at e
  generalize hz : Hid A W R N (ix2 r k) = z
  generalize hy : val_main_v17 (F := Ideal) A W R N = y at e
  pointwise [val_main_v19]
  rw [hy, ← hz]; exact e)
theorem ref6 : val_main_v20 (F := Ideal) A W R N = Fold A W R N := funext (at4 _ _ fun b j q k => by
  have e := v17_at A W R N b ⟨j.val * 4 + q.val, by omega⟩ k
  generalize hz : Fold A W R N (ix4 b j q k) = z
  generalize hy : val_main_v17 (F := Ideal) A W R N = y at e
  pointwise [val_main_v20]
  rw [hy, ← hz]; exact e)
end Cert.Reference9Ideal.Down
-- ==== Proof.Down1.lean ====
/- The last layer's projection back, the loss behind it and their gradients: the blocks and the arrays. -/
module
public import proofs.«01_k».proof.Proof.DownSpec
public import Idealize.ShloMosaic.Lib.Pipeline.ValueKit
public import Idealize.ShloMosaic.Lib.Tactic
public import proofs.«01_k».proof.Proof.Gen.Kernel9Ideal.Value

@[expose] public section
set_option maxRecDepth 16384
noncomputable section
open Idealize.ShloMosaic Idealize.ShloMosaic.TcCoe Idealize.SL.Sem
open Cert.FfnMath Cert.NormRow Cert.Idx2 Cert.DownSpec
open Cert.FfnSpec (Stream Norm Out row col)

namespace Cert.Kernel9Ideal.Loss
open Cert.Kernel9Ideal Cert.Kernel9Ideal.Gen

section payloads
variable (v0 : FVec Ideal S512x1024 .f32) (a0 a1 a2 : FVec Ideal S1x512x704 .bf16) (w0 w1 w2 : FVec Ideal S1x1x704x1024 .bf16)
  (v19 v24 : FVec Ideal S512x1024 .f32) (v26 prev : FVec Ideal S1x1024 .f32) (v28 : FVec Ideal S512x1024 .f32) (r : Fin 512) (k : Fin 1024) (a : Fin 1)
theorem pay5 : k0_pay5 (F := Ideal) v0 a0 w0 a1 w1 a2 w2 (ix2 r k)
    = (v0 (ix2 r k) + (∑ f : Fin 704, a0 (ix3 0 r f) * w0 (ix4 0 0 f k)) + ∑ f : Fin 704, a1 (ix3 0 r f) * w1 (ix4 0 0 f k))
      + ∑ f : Fin 704, a2 (ix3 0 r f) * w2 (ix4 0 0 f k) := by
  pointwise [k0_pay5]
theorem pay6 : k0_pay6 (F := Ideal) a0 w0 (ix2 r k) = ∑ f : Fin 704, a0 (ix3 0 r f) * w0 (ix4 0 0 f k) := by
  pointwise [k0_pay6]
/-- The stream's row, and the error in it. -/
abbrev xr (v19 v24 : FVec Ideal S512x1024 .f32) (r : Fin 512) : Row := fun d => k0_pay7 (F := Ideal) v19 v24 (ix2 r d)
theorem pay9 : k0_pay9 (F := Ideal) v19 v24 (ix2 r a) = rs (xr v19 v24 r) := by
  unfold xr rs
  generalize hX : k0_pay7 (F := Ideal) v19 v24 = X
  pointwise [k0_pay9]
  simp only [hX]
theorem pay10 : k0_pay10 (F := Ideal) v19 v24 (ix2 r k) = xr v19 v24 r k * rs (xr v19 v24 r) := by
  rw [← pay9 v19 v24 r 0]
  generalize hX : k0_pay9 (F := Ideal) v19 v24 = X
  pointwise [k0_pay10]
  rw [hX]
theorem pay11 : k0_pay11 (F := Ideal) v19 v24 v26 v28 (ix2 r k) = xr v19 v24 r k * rs (xr v19 v24 r) * v26 (ix2 0 k) - v28 (ix2 r k) := by
  rw [← pay10]
  generalize hX : k0_pay10 (F := Ideal) v19 v24 = X
  pointwise [k0_pay11, k0_pay8]
  rw [hX]
theorem pay12 : k0_pay12 (F := Ideal) v19 v24 v26 v28 (ix2 r k) = k0_pay11 (F := Ideal) v19 v24 v26 v28 (ix2 r k) * Ideal.ofBits .f32 0x3A800000#32 := by
  generalize hX : k0_pay11 (F := Ideal) v19 v24 v26 v28 = X
  pointwise [k0_pay12]
  rw [hX]
theorem pay13 : k0_pay13 (F := Ideal) v19 v24 v26 v28 (ix2 r k)
    = normBack 0 (xr v19 v24 r) (fun d => v26 (ix2 0 d)) (fun d => k0_pay12 (F := Ideal) v19 v24 v26 v28 (ix2 r d)) k := by
  unfold normBack
  rw [zero_add]
  have e9 := fun a => pay9 v19 v24 r a
  have e10 := fun k => pay10 v19 v24 r k
  generalize rs (xr v19 v24 r) = Q at e9 e10 ⊢
  generalize xr v19 v24 r = Y at e10 ⊢
  generalize hX : k0_pay12 (F := Ideal) v19 v24 v26 v28 = X
  pointwise [k0_pay13, k0_pay8]
  simp only [hX, e9, e10]
theorem pay14 : k0_pay2 (F := Ideal) (k0_pay14 v19 v24 v26 v28) prev (ix2 a k)
    = prev (ix2 a k) + ∑ r : Fin 512, k0_pay11 (F := Ideal) v19 v24 v26 v28 (ix2 r k) * k0_pay11 (F := Ideal) v19 v24 v26 v28 (ix2 r k) := by
  generalize hX : k0_pay11 (F := Ideal) v19 v24 v26 v28 = X
  pointwise [k0_pay2, k0_pay14]
  simp only [hX]
theorem pay15 : k0_pay4 (F := Ideal) (k0_pay15 v19 v24 v26 v28) prev (ix2 a k)
    = prev (ix2 a k) + ∑ r : Fin 512, k0_pay12 (F := Ideal) v19 v24 v26 v28 (ix2 r k) * (xr v19 v24 r k * rs (xr v19 v24 r)) := by
  simp only [← pay10]
  generalize hX : k0_pay12 (F := Ideal) v19 v24 v26 v28 = X
  generalize hY : k0_pay10 (F := Ideal) v19 v24 = Y
  pointwise [k0_pay4, k0_pay15]
  simp only [hX, hY]
theorem pay16 : k0_pay16 (F := Ideal) v19 v24 v26 v28 (ix2 r k) = k0_pay13 (F := Ideal) v19 v24 v26 v28 (ix2 r k) := by
  generalize hX : k0_pay13 (F := Ideal) v19 v24 v26 v28 = X
  pointwise [k0_pay16]
  rw [hX]
theorem pay1 : k0_pay1 (F := Ideal) (ix2 a k) = 0 := by
  pointwise [k0_pay1]
theorem pay3 : k0_pay3 (F := Ideal) (ix2 a k) = 0 := by
  pointwise [k0_pay3]
end payloads

variable (m : (ℓ : Loc nD τ sig) → Buf (Elt Ideal) ℓ) (c : Dev nD)
/-- The five operands. -/
abbrev mA : Act := m ((c : Thread nD τ).loc main_arg0)
abbrev mW : Out := m ((c : Thread nD τ).loc main_arg1)
abbrev mR : Stream := m ((c : Thread nD τ).loc main_arg2)
abbrev mN : Norm := m ((c : Thread nD τ).loc main_arg3)
abbrev mT : Stream := m ((c : Thread nD τ).loc main_arg4)

/-- Which block every window stages at a grid point. -/
theorem idx : ∀ t : Fin cfg0.N, t.val < 16 ∧ win0_0.index t = ![0, t.val, 0] ∧ win0_1.index t = ![0, 0, 0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] ∧ win0_8.index t = ![0, 0] :=
  (by decide +kernel : ∀ t : Fin grid0.N, _)
/-- The token of a block's row. -/
abbrev tk (t : Fin cfg0.N) (r : Fin 512) : Fin 8192 := ⟨t.val * 512 + r, by have := (idx t).1; omega⟩

theorem V_a (q : Fin 4) (r : Fin 8192) (f : Fin 704) : (V m c main_v2 : FVec Ideal S4x8192x704 .bf16) (ix3 q r f) = arow (mA m c) r (col q f) := by
  unfold arow
  entry_read
  pointwise
theorem V_w (q : Fin 4) (f : Fin 704) (k : Fin 1024) : (V m c main_v0 : FVec Ideal S4x1x704x1024 .bf16) (ix4 q 0 f k) = mW m c (ix2 (col q f) k) := by
  entry_read
  pointwise
theorem V_r (r : Fin 8192) (k : Fin 1024) : (V m c main_v3 : FVec Ideal S8192x1024 .f32) (ix2 r k) = row (mR m c) r k := by
  unfold row
  entry_read
  pointwise
theorem V_n (a : Fin 1) (k : Fin 1024) : (V m c main_v4 : FVec Ideal S1x1024 .f32) (ix2 a k) = mN m c (ix1 k) := by
  entry_read
  pointwise

theorem V_t (r : Fin 8192) (k : Fin 1024) : (V m c main_v5 : FVec Ideal S8192x1024 .f32) (ix2 r k) = row (mT m c) r k := by
  unfold row
  entry_read
  pointwise

section blocks
variable (t : Fin cfg0.N) (r : Fin 512) (k : Fin 1024)
theorem b_a (q : Fin 4) (f : Fin 704) : (iblk m c 0 t : FVec Ideal S4x512x704 .bf16) (ix3 q r f) = arow (mA m c) (tk t r) (col q f) := by
  have h : (iblk m c 0 t : FVec Ideal S4x512x704 .bf16) (ix3 q r f) = (V m c main_v2 : FVec Ideal S4x8192x704 .bf16) (ix3 q (tk t r) f) := by
    blk_ext! [iblk, idx t]
  rw [h, V_a]
theorem b_w (q : Fin 4) (f : Fin 704) : (iblk m c 1 t : FVec Ideal S4x1x704x1024 .bf16) (ix4 q 0 f k) = mW m c (ix2 (col q f) k) := by
  have h : (iblk m c 1 t : FVec Ideal S4x1x704x1024 .bf16) (ix4 q 0 f k) = (V m c main_v0 : FVec Ideal S4x1x704x1024 .bf16) (ix4 q 0 f k) := by
    blk_ext! [iblk, idx t]
  rw [h, V_w]
theorem b_r : (iblk m c 2 t : FVec Ideal S512x1024 .f32) (ix2 r k) = row (mR m c) (tk t r) k := by
  have h : (iblk m c 2 t : FVec Ideal S512x1024 .f32) (ix2 r k) = (V m c main_v3 : FVec Ideal S8192x1024 .f32) (ix2 (tk t r) k) := by
    blk_ext! [iblk, idx t]
  rw [h, V_r]
theorem b_n : (iblk m c 3 t : FVec Ideal S1x1024 .f32) (ix2 0 k) = mN m c (ix1 k) := by
  have h : (iblk m c 3 t : FVec Ideal S1x1024 .f32) (ix2 0 k) = (V m c main_v4 : FVec Ideal S1x1024 .f32) (ix2 0 k) := by
    blk_ext! [iblk, idx t]
  rw [h, V_n]
theorem b_t : (iblk m c 4 t : FVec Ideal S512x1024 .f32) (ix2 r k) = row (mT m c) (tk t r) k := by
  have h : (iblk m c 4 t : FVec Ideal S512x1024 .f32) (ix2 r k) = (V m c main_v5 : FVec Ideal S8192x1024 .f32) (ix2 (tk t r) k) := by
    blk_ext! [iblk, idx t]
  rw [h, V_t]
/-- The residual and the first three chips' products. -/
abbrev p19 (x0 : Abk) (x1 : Wbk) (x2 : FVec Ideal S512x1024 .f32) : FVec Ideal S512x1024 .f32 :=
  k0_pay5 (F := Ideal) x2 (la x0 0) (lw x1 0) (la x0 1) (lw x1 1) (la x0 2) (lw x1 2)
/-- The last chip's product. -/
abbrev p24 (x0 : Abk) (x1 : Wbk) : FVec Ideal S512x1024 .f32 := k0_pay6 (F := Ideal) (la x0 3) (lw x1 3)
/-- Both at a grid point. -/
abbrev q19 : FVec Ideal S512x1024 .f32 := p19 (iblk m c 0 t) (iblk m c 1 t) (iblk m c 2 t)
abbrev q24 : FVec Ideal S512x1024 .f32 := p24 (iblk m c 0 t) (iblk m c 1 t)
/-- A row block of the stream. -/
theorem x_blk : k0_pay7 (F := Ideal) (q19 m c t) (q24 m c t) (ix2 r k) = out (mA m c) (mW m c) (mR m c) (tk t r) k :=
  (congrArg₂ (· + ·) (pay5 _ _ _ _ _ _ _ r k) (pay6 _ _ r k)).trans
    (four_eq (mA m c) (mW m c) (mR m c) (iblk m c 0 t) (iblk m c 1 t) (iblk m c 2 t) r k (tk t r) (b_a m c t r) (fun q f k => b_w m c t k q f) (b_r m c t r k))
theorem x_row : xr (q19 m c t) (q24 m c t) r = out (mA m c) (mW m c) (mR m c) (tk t r) := funext fun d => x_blk m c t r d
/-- A row block of the error. -/
theorem err_blk : k0_pay11 (F := Ideal) (q19 m c t) (q24 m c t) (iblk m c 3 t) (iblk m c 4 t) (ix2 r k)
    = err (mA m c) (mW m c) (mR m c) (mN m c) (mT m c) (tk t r) k := by
  rw [pay11, x_row, b_n, b_t]
  rfl
/-- A row block of the loss's gradient in the prediction. -/
theorem dy_blk : k0_pay12 (F := Ideal) (q19 m c t) (q24 m c t) (iblk m c 3 t) (iblk m c 4 t) (ix2 r k)
    = dy (mA m c) (mW m c) (mR m c) (mN m c) (mT m c) (tk t r) k := by
  rw [pay12, err_blk]
  rfl
/-- A row block of the stream's gradient. -/
theorem dx_blk : k0_pay13 (F := Ideal) (q19 m c t) (q24 m c t) (iblk m c 3 t) (iblk m c 4 t) (ix2 r k)
    = dx (mA m c) (mW m c) (mR m c) (mN m c) (mT m c) (tk t r) k := by
  rw [pay13, x_row]
  simp only [dy_blk, b_n]
  rfl
/-- A row block's squared errors. -/
theorem sq_blk (prev : FVec Ideal S1x1024 .f32) (a : Fin 1) :
    k0_pay2 (F := Ideal) (k0_pay14 (q19 m c t) (q24 m c t) (iblk m c 3 t) (iblk m c 4 t)) prev (ix2 a k)
      = prev (ix2 a k) + ∑ r : Fin 512, err (mA m c) (mW m c) (mR m c) (mN m c) (mT m c) (tk t r) k * err (mA m c) (mW m c) (mR m c) (mN m c) (mT m c) (tk t r) k := by
  rw [pay14]
  simp only [err_blk]
/-- A row block's share of the gradient of the norm's weight. -/
theorem dg_blk (prev : FVec Ideal S1x1024 .f32) (a : Fin 1) :
    k0_pay4 (F := Ideal) (k0_pay15 (q19 m c t) (q24 m c t) (iblk m c 3 t) (iblk m c 4 t)) prev (ix2 a k)
      = prev (ix2 a k) + ∑ r : Fin 512, term (mA m c) (mW m c) (mR m c) (mN m c) (mT m c) (tk t r) k := by
  rw [pay15]
  refine congrArg₂ (· + ·) rfl (Finset.sum_congr rfl fun r _ => ?_)
  rw [dy_blk, x_row]
  rfl

/-- Every point leaves its rows of the gradient, in both precisions. -/
theorem outs_dx : ((outsAt0 m c t.val t.isLt).1 : FVec Ideal S512x1024 .f32) (ix2 r k) = dx (mA m c) (mW m c) (mR m c) (mN m c) (mT m c) (tk t r) k := by
  by_cases h : t.val % 16 = 0
  · rw [outsAt0_A m c t h h]; frame_out
    exact dx_blk m c t r k
  · rw [outsAt0_B m c t h h]; frame_out
    exact dx_blk m c t r k
theorem outs_db : ((outsAt0 m c t.val t.isLt).2.1 : FVec Ideal S512x1024 .bf16) (ix2 r k) = dx (mA m c) (mW m c) (mR m c) (mN m c) (mT m c) (tk t r) k := by
  by_cases h : t.val % 16 = 0
  · rw [outsAt0_A m c t h h]; frame_out
    exact (pay16 _ _ _ _ r k).trans (dx_blk m c t r k)
  · rw [outsAt0_B m c t h h]; frame_out
    exact (pay16 _ _ _ _ r k).trans (dx_blk m c t r k)
end blocks

/-- The squared errors, after the last point. -/
theorem outs_sq (t : Fin cfg0.N) (ht : t.val + 1 = cfg0.N) (a : Fin 1) (k : Fin 1024) :
    ((outsAt0 m c t.val t.isLt).2.2.1 : FVec Ideal S1x1024 .f32) (ix2 a k)
      = ∑ r : Fin 8192, err (mA m c) (mW m c) (mR m c) (mN m c) (mT m c) r k * err (mA m c) (mW m c) (mR m c) (mN m c) (mT m c) r k := by
  rw [Pipeline.eq_sum_fin_of_reset_step_apply_last (fun n h => (outsAt0 m c n h).2.2.1) 16 (fun _ => (0 : EReal))
      (fun t j => ∑ r : Fin 512, err (mA m c) (mW m c) (mR m c) (mN m c) (mT m c) (tk t r) (show Fin 1024 from j 1) * err (mA m c) (mW m c) (mR m c) (mN m c) (mT m c) (tk t r) (show Fin 1024 from j 1))
      (fun t h j => by
        revert j
        refine at2 _ _ fun a k => ?_
        beta_reduce
        rw [outsAt0_A m c t h h]; frame_out
        exact (sq_blk m c t k _ a).trans (congrArg₂ (· + ·) (pay1 k a) rfl))
      (fun t h j => by
        revert j
        refine at2 _ _ fun a k => ?_
        beta_reduce
        rw [outsAt0_B m c t h h]; frame_out
        exact sq_blk m c t k _ a)
      (le_of_eq Gen.N_0) t ht (ix2 a k), zero_add]
  exact Fin.sum_mul_add_congr fun t r hl => rfl
/-- The gradient of the norm's weight, after the last point. -/
theorem outs_dg (t : Fin cfg0.N) (ht : t.val + 1 = cfg0.N) (a : Fin 1) (k : Fin 1024) :
    ((outsAt0 m c t.val t.isLt).2.2.2 : FVec Ideal S1x1024 .f32) (ix2 a k) = ∑ r : Fin 8192, term (mA m c) (mW m c) (mR m c) (mN m c) (mT m c) r k := by
  rw [Pipeline.eq_sum_fin_of_reset_step_apply_last (fun n h => (outsAt0 m c n h).2.2.2) 16 (fun _ => (0 : EReal))
      (fun t j => ∑ r : Fin 512, term (mA m c) (mW m c) (mR m c) (mN m c) (mT m c) (tk t r) (show Fin 1024 from j 1))
      (fun t h j => by
        revert j
        refine at2 _ _ fun a k => ?_
        beta_reduce
        rw [outsAt0_A m c t h h]; frame_out
        exact (dg_blk m c t k _ a).trans (congrArg₂ (· + ·) (pay3 k a) rfl))
      (fun t h j => by
        revert j
        refine at2 _ _ fun a k => ?_
        beta_reduce
        rw [outsAt0_B m c t h h]; frame_out
        exact dg_blk m c t k _ a)
      (le_of_eq Gen.N_0) t ht (ix2 a k), zero_add]
  exact Fin.sum_mul_add_congr fun t r hl => rfl

/-- The stream's gradient. -/
theorem final5 : (dats m 0 c).arrAt 5 cfg0.N = Dx (e := .f32) (mA m c) (mW m c) (mR m c) (mN m c) (mT m c) := by
  refine (dats m 0 c).arrAt_eq_of_covers 5 _ (by decide +kernel) fun t _ y => ?_
  blk_simp
  rw [after0_5]
  generalize hG : Dx (e := .f32) (mA m c) (mW m c) (mR m c) (mN m c) (mT m c) = G
  refine at2 _ (fun y => G (((View.whole main_v6_0).slice (win0_5.rect t)).emb y)) (fun r l => ?_) y
  have he : (((View.whole main_v6_0).slice (win0_5.rect t)).emb (ix2 r l : S512x1024.Idx)) = (ix2 (tk t r) l : S8192x1024.Idx) := by
    blk_ext! [idx t]
  refine (outs_dx m c t r l).trans ((?_ : _ = _).trans (congrArg G he).symm)
  rw [← hG]; rfl
/-- The stream's gradient, in the narrower precision. -/
theorem final6 : (dats m 0 c).arrAt 6 cfg0.N = Dx (e := .bf16) (mA m c) (mW m c) (mR m c) (mN m c) (mT m c) := by
  refine (dats m 0 c).arrAt_eq_of_covers 6 _ (by decide +kernel) fun t _ y => ?_
  blk_simp
  rw [after0_6]
  generalize hG : Dx (e := .bf16) (mA m c) (mW m c) (mR m c) (mN m c) (mT m c) = G
  refine at2 _ (fun y => G (((View.whole main_v6_1).slice (win0_6.rect t)).emb y)) (fun r l => ?_) y
  have he : (((View.whole main_v6_1).slice (win0_6.rect t)).emb (ix2 r l : S512x1024.Idx)) = (ix2 (tk t r) l : S8192x1024.Idx) := by
    blk_ext! [idx t]
  refine (outs_db m c t r l).trans ((?_ : _ = _).trans (congrArg G he).symm)
  rw [← hG]; rfl
/-- The squared errors. -/
theorem final7 : (dats m 0 c).arrAt 7 cfg0.N = Sq (mA m c) (mW m c) (mR m c) (mN m c) (mT m c) := by
  refine (dats m 0 c).arrAt_eq_of_covers 7 _ (by decide +kernel) fun t hf y => ?_
  have ht : t.val + 1 = cfg0.N := by
    have h1 := (flush0_7 t).mp hf
    have h2 := (idx t).1
    have h3 : cfg0.N = 16 := Gen.N_0
    omega
  blk_simp
  rw [after0_7]
  generalize hG : Sq (mA m c) (mW m c) (mR m c) (mN m c) (mT m c) = G
  refine at2 _ (fun y => G (((View.whole main_v6_2).slice (win0_7.rect t)).emb y)) (fun a l => ?_) y
  have he : (((View.whole main_v6_2).slice (win0_7.rect t)).emb (ix2 a l : S1x1024.Idx)) = (ix2 a l : S1x1024.Idx) := by
    blk_ext! [idx t]
  refine (outs_sq m c t ht a l).trans ((?_ : _ = _).trans (congrArg G he).symm)
  rw [← hG]; rfl
/-- The gradient of the norm's weight. -/
theorem final8 : (dats m 0 c).arrAt 8 cfg0.N = Dg (mA m c) (mW m c) (mR m c) (mN m c) (mT m c) := by
  refine (dats m 0 c).arrAt_eq_of_covers 8 _ (by decide +kernel) fun t hf y => ?_
  have ht : t.val + 1 = cfg0.N := by
    have h1 := (flush0_8 t).mp hf
    have h2 := (idx t).1
    have h3 : cfg0.N = 16 := Gen.N_0
    omega
  blk_simp
  rw [after0_8]
  generalize hG : Dg (mA m c) (mW m c) (mR m c) (mN m c) (mT m c) = G
  refine at2 _ (fun y => G (((View.whole main_v6_3).slice (win0_8.rect t)).emb y)) (fun a l => ?_) y
  have he : (((View.whole main_v6_3).slice (win0_8.rect t)).emb (ix2 a l : S1x1024.Idx)) = (ix2 a l : S1x1024.Idx) := by
    blk_ext! [idx t]
  refine (outs_dg m c t ht a l).trans ((?_ : _ = _).trans (congrArg G he).symm)
  rw [← hG]; rfl

end Cert.Kernel9Ideal.Loss
-- ==== Proof.LossRef.lean ====
/- The last layer's reference: the loss's gradients, read at a token and a feature. -/
module
public import proofs.«01_k».proof.Proof.DownSpec
public import Idealize.ShloMosaic.Lib.Pipeline.ValueKit
public import Idealize.ShloMosaic.Lib.Tactic
public import proofs.«01_k».proof.Proof.Gen.Reference10Ideal.Read

@[expose] public section
set_option maxRecDepth 16384
noncomputable section
open Idealize.ShloMosaic Idealize.ShloMosaic.TcCoe Idealize.SL.Sem
open Cert.FfnMath Cert.NormRow Cert.Idx2 Cert.DownSpec
open Cert.FfnSpec (Stream Norm Out row col)
namespace Cert.Reference10Ideal.Loss
open Cert.Reference10Ideal Cert.Reference10Ideal.Read
open Cert.Reference4Ideal.Ffn (tok row_tok tok_divmod sum_two)

variable (A : Act) (W : Out) (R : Stream) (N : Norm) (T : Stream) (b : Fin 4) (s : Fin 2048)
theorem arow_tok (f : Fin 2816) : arow A (tok b s) f = A (ix3 b s f) := by
  unfold arow
  congr 1
  congr 1 <;> apply Fin.ext <;> dsimp only [tok] <;> omega
theorem v3_at (k : Fin 1024) : val_main_v3 (F := Ideal) A W R (ix3 b s k) = out A W R (tok b s) k := by
  unfold out
  simp only [arow_tok, row_tok]
  generalize hz : R (ix3 b s k) + ∑ f : Fin 2816, A (ix3 b s f) * W (ix2 f k) = z
  pointwise [val_main_v3, val_main_v2, val_main_v1, val_main_v0]
  rw [← hz]
theorem v3_row : (fun k : Fin 1024 => val_main_v3 (F := Ideal) A W R (ix3 b s k)) = out A W R (tok b s) := funext fun k => v3_at A W R b s k
theorem v10_at (a : Fin 1) : val_main_v10 (F := Ideal) A W R (ix3 b s a) = msq (out A W R (tok b s)) := by
  rw [← v3_row]
  generalize hX : val_main_v3 (F := Ideal) A W R = X
  generalize hz : msq (fun k : Fin 1024 => X (ix3 b s k)) = z
  pointwise [val_main_v10, val_main_v9, val_main_v8, val_main_v7, val_main_v6, val_main_v5, val_main_v4, val_main_cst, val_main_cst_0, val_main_cst_1]
  rw [hX, ← hz]; rfl
theorem v11_at (a : Fin 1) : val_main_v11 (F := Ideal) A W R (ix3 b s a) = rs (out A W R (tok b s)) := congrArg Ideal.rsqrt (v10_at A W R b s a)
theorem v14_at (a : Fin 1) : val_main_v14 (F := Ideal) A W R (ix3 b s a)
    = Ideal.ofBits .f32 0xBF000000#32 * Ideal.div (rs (out A W R (tok b s))) (msq (out A W R (tok b s))) := by
  rw [← v11_at A W R b s a, ← v10_at A W R b s a]
  rfl
theorem v16_at (k : Fin 1024) : val_main_v16 (F := Ideal) A W R (ix3 b s k) = out A W R (tok b s) k * rs (out A W R (tok b s)) := by
  rw [← v11_at A W R b s 0, ← v3_at]
  generalize hz : val_main_v3 (F := Ideal) A W R (ix3 b s k) * val_main_v11 (F := Ideal) A W R (ix3 b s 0) = z
  pointwise [val_main_v16, val_main_v15]
  rw [← hz]
theorem v20_at (k : Fin 1024) : val_main_v20 (F := Ideal) A W R N T (ix3 b s k) = err A W R N T (tok b s) k := by
  unfold err hid
  rw [← v16_at, row_tok]
  generalize hz : val_main_v16 (F := Ideal) A W R (ix3 b s k) * N (ix1 k) - T (ix3 b s k) = z
  pointwise [val_main_v20, val_main_v19, val_main_v18, val_main_v17]
  rw [← hz]
theorem v34_at (k : Fin 1024) : val_main_v34 (F := Ideal) A W R N T (ix3 b s k) = dy A W R N T (tok b s) k := by
  unfold dy
  rw [← half_mean, ← v20_at]
  generalize hX : val_main_v20 (F := Ideal) A W R N T (ix3 b s k) = X
  generalize hz : Ideal.div (Ideal.ofBits .f32 0x3F000000#32) (Ideal.ofBits .f32 0x44800000#32) * (Ideal.ofBits .f32 0x40000000#32 * X) = z
  pointwise [val_main_v34, val_main_v33, val_main_v32, val_main_v31, val_main_v30, val_main_v29, val_main_v23, val_main_v22, val_main_cst_3, val_main_cst_8, val_main_cst_9, val_main_cst_10]
  rw [hX, ← hz]
theorem v39_at (k : Fin 1024) : val_main_v39 (F := Ideal) A W R N T (ix3 b s k) = dy A W R N T (tok b s) k * N (ix1 k) := by
  rw [← v34_at]
  generalize hz : val_main_v34 (F := Ideal) A W R N T (ix3 b s k) * N (ix1 k) = z
  pointwise [val_main_v39, val_main_v38, val_main_v17]
  rw [← hz]
theorem v49_at : val_main_v49 (F := Ideal) A W R N T (ix2 b s) = dmsq (out A W R (tok b s)) (fun d => N (ix1 d)) (dy A W R N T (tok b s)) := by
  unfold dmsq
  rw [← v14_at A W R b s 0]
  simp only [← v39_at, ← v3_at]
  generalize hz : Ideal.div ((∑ e, val_main_v3 (F := Ideal) A W R (ix3 b s e) * val_main_v39 (F := Ideal) A W R N T (ix3 b s e)) * val_main_v14 (F := Ideal) A W R (ix3 b s 0)) (Ideal.ofBits .f32 0x44800000#32) = z
  pointwise [val_main_v49, val_main_v48, val_main_v47, val_main_v46, val_main_v43, val_main_v42, val_main_v41, val_main_cst_13, val_main_cst_14, val_main_cst_15]
  rw [Fin.sum_univ_one, ← hz]
/-- The stream's gradient. -/
theorem v54_at (d : Fin 1024) : val_main_v54 (F := Ideal) A W R N T (ix3 b s d) = dx A W R N T (tok b s) d := by
  unfold dx
  rw [← norm_back, zero_add, ← v49_at, ← v39_at, ← v11_at A W R b s 0, ← v3_at]
  generalize hz : val_main_v49 (F := Ideal) A W R N T (ix2 b s) = z
  generalize hy : val_main_v39 (F := Ideal) A W R N T (ix3 b s d) = y
  generalize hw : val_main_v11 (F := Ideal) A W R (ix3 b s 0) = w
  generalize hx : val_main_v3 (F := Ideal) A W R (ix3 b s d) = x
  pointwise [val_main_v54, val_main_v53, val_main_v52, val_main_v51, val_main_v50, val_main_v45, val_main_v44]
  rw [hz, hy, hw, hx]
/-- The gradient of the norm's weight. -/
theorem v36_at (k : Fin 1024) : val_main_v36 (F := Ideal) A W R N T (ix1 k) = ∑ r : Fin 8192, term A W R N T r k := by
  refine (sum_two Gen.reducesTo_S4x2048x1024_S1024_d0_1 (val_main_v35 (F := Ideal) A W R N T) _ k).trans ?_
  rw [show val_main_cst_11 (F := Ideal) _ = 0 from Ideal.ofBits_zero .f32, zero_add]
  refine Fin.sum_mul_add_congr fun b s hl => ?_
  refine (congrArg₂ (· * ·) (v16_at A W R b s k) (v34_at A W R N T b s k)).trans ?_
  unfold term
  rw [show (⟨b.val * 2048 + s.val, hl⟩ : Fin 8192) = tok b s from rfl]
  exact mul_comm _ _
theorem v40_at (k : Fin 1024) : val_main_v40 (F := Ideal) A W R N T (ix1 k) = val_main_v36 (F := Ideal) A W R N T (ix1 k) := by
  refine (sum_two Gen.reducesTo_S1x1x1024_S1024_d0_1 (val_main_v37 (F := Ideal) A W R N T) _ k).trans ?_
  rw [show val_main_cst_12 (F := Ideal) _ = 0 from Ideal.ofBits_zero .f32, zero_add, Fin.sum_univ_one, Fin.sum_univ_one]
  generalize hz : val_main_v36 (F := Ideal) A W R N T (ix1 k) = z
  pointwise [val_main_v37]
  rw [hz]
/-- The error once more, as the loss itself reads it. -/
theorem v70_eq : val_main_v70 (F := Ideal) A W R N T = val_main_v20 (F := Ideal) A W R N T := rfl
/-- The squared errors. -/
theorem v72_at (k : Fin 1024) : val_main_v72 (F := Ideal) A W R N T (ix1 k) = ∑ r : Fin 8192, err A W R N T r k * err A W R N T r k := by
  refine (sum_two Gen.reducesTo_S4x2048x1024_S1024_d0_1 (val_main_v71 (F := Ideal) A W R N T) _ k).trans ?_
  rw [show val_main_cst_19 (F := Ideal) _ = 0 from Ideal.ofBits_zero .f32, zero_add]
  refine Fin.sum_mul_add_congr fun b s hl => ?_
  have e : val_main_v70 (F := Ideal) A W R N T (ix3 b s k) = err A W R N T (tok b s) k := by rw [v70_eq]; exact v20_at A W R N T b s k
  exact congrArg₂ (· * ·) e e

/-- The reference's four results. -/
theorem ref5 : val_main_v55 (F := Ideal) A W R N T = Dx (e := .f32) A W R N T := funext (at2 _ _ fun r k => by
  have e := v54_at A W R N T ⟨r.val / 2048, by omega⟩ ⟨r.val % 2048, by omega⟩ k
  rw [tok_divmod] at e
  generalize hz : Dx (e := .f32) A W R N T (ix2 r k) = z
  generalize hy : val_main_v54 (F := Ideal) A W R N T = y at e
  pointwise [val_main_v55]
  rw [hy, ← hz]; exact e)
theorem ref6 : val_main_v56 (F := Ideal) A W R N T = Dx (e := .bf16) A W R N T := funext (at2 _ _ fun r k => by
  have e := v54_at A W R N T ⟨r.val / 2048, by omega⟩ ⟨r.val % 2048, by omega⟩ k
  rw [tok_divmod] at e
  generalize hz : Dx (e := .bf16) A W R N T (ix2 r k) = z
  generalize hy : val_main_v54 (F := Ideal) A W R N T = y at e
  pointwise [val_main_v56, val_main_v55]
  rw [hy, ← hz]; exact e)
theorem ref7 : val_main_v73 (F := Ideal) A W R N T = Sq A W R N T := funext (at2 _ _ fun a k => by
  have e := v72_at A W R N T k
  generalize hz : Sq A W R N T (ix2 a k) = z
  generalize hy : val_main_v72 (F := Ideal) A W R N T = y at e
  pointwise [val_main_v73]
  rw [hy, ← hz]; exact e)
theorem ref8 : val_main_v74 (F := Ideal) A W R N T = Dg A W R N T := funext (at2 _ _ fun a k => by
  have e := (v40_at A W R N T k).trans (v36_at A W R N T k)
  generalize hz : Dg A W R N T (ix2 a k) = z
  generalize hy : val_main_v40 (F := Ideal) A W R N T = y at e
  pointwise [val_main_v74]
  rw [hy, ← hz]; exact e)
end Cert.Reference10Ideal.Loss
-- ==== Proof.lean ====
/- Assembly of the claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.MixJoin
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.GradRef
public import proofs.«01_k».proof.Proof.Gen.Kernel3.Frame
public import proofs.«01_k».proof.Proof.FfnJoin
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel9Ideal.Value
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Reference10Ideal.Run
public import proofs.«01_k».proof.Proof.Gen.Reference10Ideal.Read
public import proofs.«01_k».proof.Proof.Groups
public import proofs.«01_k».proof.Proof.OutGrad
public import proofs.«01_k».proof.Proof.InGrad
public import proofs.«01_k».proof.Proof.QkvBack
public import proofs.«01_k».proof.Proof.Down0
public import proofs.«01_k».proof.Proof.Down1
public import proofs.«01_k».proof.Proof.LossRef
public import Idealize.ShloMosaic.Adequacy
public import Idealize.ShloMosaic.Init

@[expose] public section

noncomputable section

namespace Cert.Proof

open Idealize.ShloMosaic Idealize.SL.Sem Cert.Kernel

/-- The six results of the kernel are the six results of the reference. -/
theorem mix_algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have h5 := fun c => Cert.KernelIdeal.Mix.allFin_of_pre _ (hpre c).1
  have h6 := fun c => Cert.KernelIdeal.Mix.allFin_of_pre _ (hpre c).2.1
  have h7 := fun c => Cert.KernelIdeal.Mix.allFin_of_pre _ (hpre c).2.2
  refine ⟨fun c => Cert.KernelIdeal.Mix.G10 m c, fun c => Cert.KernelIdeal.Mix.G11 m c, fun c => Cert.KernelIdeal.Mix.G12 m c,
    fun c => Cert.KernelIdeal.Mix.G13 m c, fun c => Cert.KernelIdeal.Mix.G14 m c, fun c => Cert.KernelIdeal.Mix.G15 m c, ?_, ?_⟩
  · exact (θ_run Cert.KernelIdeal.defs _ _).mono (fun r h c => ⟨((h.1 c).1 10).trans (Cert.KernelIdeal.Mix.final10 m c),
      ((h.1 c).1 11).trans (Cert.KernelIdeal.Mix.final11 m c),
      ((h.1 c).1 12).trans (Cert.KernelIdeal.Mix.final12 m c),
      ((h.1 c).1 13).trans (Cert.KernelIdeal.Mix.final13 m c),
      ((h.1 c).1 14).trans (Cert.KernelIdeal.Mix.final14 m c),
      ((h.1 c).1 15).trans (Cert.KernelIdeal.Mix.final15 m c),
      h.2 c⟩)
      (θ_run_and (Cert.KernelIdeal.Gen.run_main m g) (Cert.KernelIdeal.Gen.unchanged m g))
  · refine (θ_run Cert.ReferenceIdeal.defs _ _).mono (fun r h c => ?_) (Cert.ReferenceIdeal.Value.run m' g')
    obtain ⟨g0, g1, g2, g3, g4, g5, g6, g7⟩ := hagree c
    obtain ⟨e0, e1, e2, e3, e4, e5, rest⟩ := h c
    exact ⟨e0.trans ((Cert.ReferenceIdeal.Read.val_main_v105_eq m' c).trans (by rw [g0, g1, g5, g6, g7]; exact Cert.KernelIdeal.Mix.ref10 m c)),
      e1.trans ((Cert.ReferenceIdeal.Read.val_main_v106_eq m' c).trans (by rw [g0, g1, g5, g6, g7]; exact Cert.KernelIdeal.Mix.ref11 m c)),
      e2.trans ((Cert.ReferenceIdeal.Read.val_main_v107_eq m' c).trans (by rw [g0, g1, g5, g6, g7]; exact Cert.KernelIdeal.Mix.ref12 m c)),
      e3.trans ((Cert.ReferenceIdeal.Read.val_main_v114_eq m' c).trans (by rw [g0, g1, g2, g3, g4, g5, g6, g7]; exact Cert.KernelIdeal.Mix.ref13 m c (h5 c) (h6 c) (h7 c))),
      e4.trans ((Cert.ReferenceIdeal.Read.val_main_v121_eq m' c).trans (by rw [g0, g1, g2, g3, g4, g5, g6, g7]; exact Cert.KernelIdeal.Mix.ref14 m c (h5 c) (h6 c) (h7 c))),
      e5.trans ((Cert.ReferenceIdeal.Read.val_main_v128_eq m' c).trans (by rw [g0, g1, g2, g3, g4, g5, g6, g7]; exact Cert.KernelIdeal.Mix.ref15 m c (h5 c) (h6 c) (h7 c))),
      rest⟩

/-- The reference runs and leaves its arguments. -/
theorem mix_reference : Cert.quiescent_ReferenceIdeal (hReferenceIdeal := Cert.ReferenceIdeal.Gen.facts) := by
  intro m g hpre
  exact (θ_run Cert.ReferenceIdeal.defs _ _).mono
    (fun r h => ⟨fun c => (h c).2.2.2.2.2.2, sem_eq_zero_of_no_sems (by decide) r.2⟩) (Cert.ReferenceIdeal.Value.run m g)

/-- The down-projection's reference runs and leaves its arguments. -/
theorem down_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The gate's and up-projection's reference runs and leaves its arguments. -/
theorem up_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call computes the down-projection's gradient. -/
theorem down_algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1, (hagree c).1, (hagree c).2, Cert.Reference2Ideal.Read.val_main_v8_eq, Cert.Kernel2Ideal.Grad.ref_down, Cert.Kernel2Ideal.Grad.result]
  rfl

/-- The call computes the gate's and the up-projection's gradient. -/
theorem up_algebraic : Cert.algebraic_Kernel2Ideal_Reference3Ideal (hKernel2Ideal := Cert.Kernel2Ideal.Gen.facts)
    (hReference3Ideal := Cert.Reference3Ideal.Gen.facts) := by
  intro m ρ m' ρ' _ hagree
  refine ⟨_, Cert.Kernel2Ideal.Value.run (F := Ideal) m ρ, ?_⟩
  refine (θ_run Cert.Reference3Ideal.defs _ _).mono (fun _ h c => ⟨?_, (h c).2⟩) (Cert.Reference3Ideal.Value.run (F := Ideal) m' ρ')
  rw [(h c).1, (hagree c).1, (hagree c).2, Cert.Reference3Ideal.Read.val_main_v9_eq, Cert.Kernel2Ideal.Grad.ref_up, Cert.Kernel2Ideal.Grad.result]
  rfl

/-- The feed-forward block's reference runs and leaves its arguments. -/
theorem ffn_reference : Cert.quiescent_Reference4Ideal (hReference4Ideal := Cert.Reference4Ideal.Gen.facts) := fun m ρ _ =>
  (θ_run Cert.Reference4Ideal.defs _ _).mono (fun r h => ⟨fun c => (h c).2.2.2.2.2.2, sem_eq_zero_of_no_sems (by decide) r.2⟩)
    (Cert.Reference4Ideal.Value.run (F := Ideal) m ρ)

/-- The two calls compute the block's activation and its gradients. -/
theorem ffn_algebraic : Cert.algebraic_Kernel3Ideal_Reference4Ideal_pre_finite3 (hKernel3Ideal := Cert.Kernel3Ideal.Gen.facts)
    (hReference4Ideal := Cert.Reference4Ideal.Gen.facts) (hPre_finite3 := Cert.Pre_finite3.Gen.facts) := by
  intro m g m' g' hpre hagree
  refine ⟨fun c => Cert.Kernel3Ideal.Ffn.Out0 m c, fun c => Cert.Kernel3Ideal.Ffn.Out1 m c, fun c => Cert.Kernel3Ideal.Ffn.Out2 m c,
    fun c => Cert.Kernel3Ideal.Ffn.Out3 m c, fun c => Cert.Kernel3Ideal.Ffn.Out4 m c, fun c => Cert.Kernel3Ideal.Ffn.Out5 m c,
    Cert.Kernel3Ideal.Ffn.run m g, ?_⟩
  refine (θ_run Cert.Reference4Ideal.defs _ _).mono (fun r h c => ?_) (Cert.Reference4Ideal.Value.run (F := Ideal) m' g')
  have hr := Cert.Kernel3Ideal.Ffn.allReal_of_pre m c hpre
  obtain ⟨g0, g1, g2, g3, g4, g5⟩ := hagree c
  obtain ⟨e0, e1, e2, e3, e4, e5, rest⟩ := h c
  exact ⟨e0.trans ((Cert.Reference4Ideal.Read.val_main_v67_eq _ _ _ _).trans (by rw [g0, g1, g2, g3]; exact Cert.Kernel3Ideal.Ffn.ref0 m c)),
    e1.trans ((Cert.Reference4Ideal.Read.val_main_v70_eq m' c).trans (by rw [g0, g1, g2, g3, g4, g5]; exact Cert.Kernel3Ideal.Ffn.ref1 m c hr)),
    e2.trans ((Cert.Reference4Ideal.Read.val_main_v73_eq _ _ _ _ _).trans (by rw [g0, g1, g2, g4, g5]; exact Cert.Kernel3Ideal.Ffn.ref2 m c)),
    e3.trans ((Cert.Reference4Ideal.Read.val_main_v64_eq m' c).trans (by rw [g0, g1, g2, g3, g4, g5]; exact Cert.Kernel3Ideal.Ffn.ref3 m c hr)),
    e4.trans ((Cert.Reference4Ideal.Read.val_main_v74_eq m' c).trans (by rw [g0, g1, g2, g3, g4, g5]; exact Cert.Kernel3Ideal.Ffn.ref4 m c hr)),
    e5.trans ((Cert.Reference4Ideal.Read.val_main_v75_eq m' c).trans (by rw [g0, g1, g2, g3, g4, g5]; exact Cert.Kernel3Ideal.Ffn.ref5 m c hr)),
    rest⟩

/-- The groups' reference runs and leaves its arguments. -/
theorem groups_reference : Cert.quiescent_Reference5Ideal (hReference5Ideal := Cert.Reference5Ideal.Gen.facts) := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The three calls compute the groups' gradients, back through the projection. -/
theorem groups_algebraic : Cert.algebraic_Kernel4Ideal_Reference5Ideal (hKernel4Ideal := Cert.Kernel4Ideal.Gen.facts)
    (hReference5Ideal := Cert.Reference5Ideal.Gen.facts) := by
  intro m g m' g' _ hagree
  refine ⟨fun c => Cert.Kernel4Ideal.Groups.Out0 m c, fun c => Cert.Kernel4Ideal.Groups.Out1 m c, fun c => Cert.Kernel4Ideal.Groups.Out2 m c,
    Cert.Kernel4Ideal.Groups.run m g, ?_⟩
  refine (θ_run Cert.Reference5Ideal.defs _ _).mono (fun r h c => ?_) (Cert.Reference5Ideal.Value.run (F := Ideal) m' g')
  obtain ⟨g0, g1, g2, g3⟩ := hagree c
  obtain ⟨e0, e1, e2, rest⟩ := h c
  exact ⟨e0.trans ((Cert.Reference5Ideal.Read.val_main_v6_eq _ _).trans (by rw [g0, g3]; exact Cert.Kernel4Ideal.Groups.ref0 _ _)),
    e1.trans ((Cert.Reference5Ideal.Read.val_main_v13_eq _ _).trans (by rw [g1, g3]; exact Cert.Kernel4Ideal.Groups.ref1 _ _)),
    e2.trans ((Cert.Reference5Ideal.Read.val_main_v20_eq _ _).trans (by rw [g2, g3]; exact Cert.Kernel4Ideal.Groups.ref2 _ _)),
    rest⟩

/-- The output projection's reference runs and leaves its arguments. -/
theorem attn_out_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call computes the output projection's gradient. -/
theorem attn_out_algebraic : Cert.algebraic_Kernel5Ideal_Reference6Ideal (hKernel5Ideal := Cert.Kernel5Ideal.Gen.facts)
    (hReference6Ideal := Cert.Reference6Ideal.Gen.facts) := by
  intro m ρ m' ρ' _ hagree
  refine ⟨_, Cert.Kernel5Ideal.Value.run (F := Ideal) m ρ, ?_⟩
  refine (θ_run Cert.Reference6Ideal.defs _ _).mono (fun _ h c => ⟨?_, (h c).2⟩) (Cert.Reference6Ideal.Value.run (F := Ideal) m' ρ')
  rw [(h c).1, (hagree c).1, (hagree c).2, Cert.Reference6Ideal.Read.val_main_v6_eq, Cert.Kernel5Ideal.Out.ref, Cert.Kernel5Ideal.Out.result]

/-- The input projection's reference runs and leaves its arguments. -/
theorem attn_in_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The call computes the input projection's gradient. -/
theorem attn_in_algebraic : Cert.algebraic_Kernel6Ideal_Reference7Ideal (hKernel6Ideal := Cert.Kernel6Ideal.Gen.facts)
    (hReference7Ideal := Cert.Reference7Ideal.Gen.facts) := by
  intro m ρ m' ρ' _ hagree
  refine ⟨_, Cert.Kernel6Ideal.Value.run (F := Ideal) m ρ, ?_⟩
  refine (θ_run Cert.Reference7Ideal.defs _ _).mono (fun _ h c => ⟨?_, (h c).2⟩) (Cert.Reference7Ideal.Value.run (F := Ideal) m' ρ')
  rw [(h c).1, (hagree c).1, (hagree c).2, Cert.Reference7Ideal.Read.val_main_v6_eq, Cert.Kernel6Ideal.In.ref, Cert.Kernel6Ideal.In.result]

/-- The first norm's reference runs and leaves its arguments. -/
theorem qkv_reference : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The call computes the gradients of the step's input and of the first norm's weight. -/
theorem qkv_algebraic : Cert.algebraic_Kernel7Ideal_Reference8Ideal (hKernel7Ideal := Cert.Kernel7Ideal.Gen.facts)
    (hReference8Ideal := Cert.Reference8Ideal.Gen.facts) := by
  intro m g m' g' _ hagree
  refine ⟨fun c => Cert.QkvSpec.Dx (Cert.Kernel7Ideal.Back.mD m c) (Cert.Kernel7Ideal.Back.mW m c) (Cert.Kernel7Ideal.Back.mX m c) (Cert.Kernel7Ideal.Back.mN m c) (Cert.Kernel7Ideal.Back.mR m c), fun c => Cert.QkvSpec.Dn (Cert.Kernel7Ideal.Back.mD m c) (Cert.Kernel7Ideal.Back.mW m c) (Cert.Kernel7Ideal.Back.mX m c),
    (θ_run Cert.Kernel7Ideal.defs _ _).mono (fun _ h c => ⟨(h c).1.trans (Cert.Kernel7Ideal.Back.final5 m c), (h c).2.1.trans (Cert.Kernel7Ideal.Back.final6 m c), (h c).2.2⟩)
      (Cert.Kernel7Ideal.Value.run_blocks m g), ?_⟩
  refine (θ_run Cert.Reference8Ideal.defs _ _).mono (fun r h c => ?_) (Cert.Reference8Ideal.Value.run (F := Ideal) m' g')
  obtain ⟨g0, g1, g2, g3, g4⟩ := hagree c
  obtain ⟨e0, e1, rest⟩ := h c
  exact ⟨e0.trans ((Cert.Reference8Ideal.Read.val_main_v41_eq m' c).trans (by rw [g0, g1, g2, g3, g4]; exact Cert.Reference8Ideal.Back.ref5 _ _ _ _ _)),
    e1.trans ((Cert.Reference8Ideal.Read.val_main_v42_eq _ _ _).trans (by rw [g0, g1, g2]; exact Cert.Reference8Ideal.Back.ref6 _ _ _)),
    rest⟩

/-- The next stream's reference runs and leaves its arguments. -/
theorem next_reference : Cert.quiescent_Reference9Ideal (hReference9Ideal := Cert.Reference9Ideal.Gen.facts) := fun m ρ _ =>
  (θ_run Cert.Reference9Ideal.defs _ _).mono (fun r h => ⟨fun c => (h c).2.2.2, sem_eq_zero_of_no_sems (by decide) r.2⟩)
    (Cert.Reference9Ideal.Value.run (F := Ideal) m ρ)

/-- The call computes the next stream and its norm. -/
theorem next_algebraic : Cert.algebraic_Kernel8Ideal_Reference9Ideal (hKernel8Ideal := Cert.Kernel8Ideal.Gen.facts)
    (hReference9Ideal := Cert.Reference9Ideal.Gen.facts) := by
  intro m g m' g' _ hagree
  refine ⟨fun c => Cert.DownSpec.Out' (Cert.Kernel8Ideal.Down.mA m c) (Cert.Kernel8Ideal.Down.mW m c) (Cert.Kernel8Ideal.Down.mR m c), fun c => Cert.DownSpec.Hid (Cert.Kernel8Ideal.Down.mA m c) (Cert.Kernel8Ideal.Down.mW m c) (Cert.Kernel8Ideal.Down.mR m c) (Cert.Kernel8Ideal.Down.mN m c),
    fun c => Cert.DownSpec.Fold (Cert.Kernel8Ideal.Down.mA m c) (Cert.Kernel8Ideal.Down.mW m c) (Cert.Kernel8Ideal.Down.mR m c) (Cert.Kernel8Ideal.Down.mN m c), Cert.Kernel8Ideal.Down.run m g, ?_⟩
  refine (θ_run Cert.Reference9Ideal.defs _ _).mono (fun r h c => ?_) (Cert.Reference9Ideal.Value.run (F := Ideal) m' g')
  obtain ⟨g0, g1, g2, g3⟩ := hagree c
  obtain ⟨e0, e1, e2, rest⟩ := h c
  exact ⟨e0.trans ((Cert.Reference9Ideal.Read.val_main_v18_eq _ _ _).trans (by rw [g0, g1, g2]; exact Cert.Reference9Ideal.Down.ref4 _ _ _)),
    e1.trans ((Cert.Reference9Ideal.Read.val_main_v19_eq _ _ _ _).trans (by rw [g0, g1, g2, g3]; exact Cert.Reference9Ideal.Down.ref5 _ _ _ _)),
    e2.trans ((Cert.Reference9Ideal.Read.val_main_v20_eq _ _ _ _).trans (by rw [g0, g1, g2, g3]; exact Cert.Reference9Ideal.Down.ref6 _ _ _ _)),
    rest⟩

/-- The loss's reference runs and leaves its arguments. -/
theorem loss_reference : Cert.quiescent_Reference10Ideal (hReference10Ideal := Cert.Reference10Ideal.Gen.facts) := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

/-- The call computes the loss's gradients and the squared errors. -/
theorem loss_algebraic : Cert.algebraic_Kernel9Ideal_Reference10Ideal (hKernel9Ideal := Cert.Kernel9Ideal.Gen.facts)
    (hReference10Ideal := Cert.Reference10Ideal.Gen.facts) := by
  intro m g m' g' _ hagree
  refine ⟨fun c => Cert.DownSpec.Dx (e := .f32) (Cert.Kernel9Ideal.Loss.mA m c) (Cert.Kernel9Ideal.Loss.mW m c) (Cert.Kernel9Ideal.Loss.mR m c) (Cert.Kernel9Ideal.Loss.mN m c) (Cert.Kernel9Ideal.Loss.mT m c),
    fun c => Cert.DownSpec.Dx (e := .bf16) (Cert.Kernel9Ideal.Loss.mA m c) (Cert.Kernel9Ideal.Loss.mW m c) (Cert.Kernel9Ideal.Loss.mR m c) (Cert.Kernel9Ideal.Loss.mN m c) (Cert.Kernel9Ideal.Loss.mT m c),
    fun c => Cert.DownSpec.Sq (Cert.Kernel9Ideal.Loss.mA m c) (Cert.Kernel9Ideal.Loss.mW m c) (Cert.Kernel9Ideal.Loss.mR m c) (Cert.Kernel9Ideal.Loss.mN m c) (Cert.Kernel9Ideal.Loss.mT m c),
    fun c => Cert.DownSpec.Dg (Cert.Kernel9Ideal.Loss.mA m c) (Cert.Kernel9Ideal.Loss.mW m c) (Cert.Kernel9Ideal.Loss.mR m c) (Cert.Kernel9Ideal.Loss.mN m c) (Cert.Kernel9Ideal.Loss.mT m c),
    (θ_run Cert.Kernel9Ideal.defs _ _).mono (fun _ h c => ⟨(h c).1.trans (Cert.Kernel9Ideal.Loss.final5 m c), (h c).2.1.trans (Cert.Kernel9Ideal.Loss.final6 m c),
      (h c).2.2.1.trans (Cert.Kernel9Ideal.Loss.final7 m c), (h c).2.2.2.1.trans (Cert.Kernel9Ideal.Loss.final8 m c), (h c).2.2.2.2⟩)
      (Cert.Kernel9Ideal.Value.run_blocks m g), ?_⟩
  refine (θ_run Cert.Reference10Ideal.defs _ _).mono (fun r h c => ?_) (Cert.Reference10Ideal.Value.run (F := Ideal) m' g')
  obtain ⟨g0, g1, g2, g3, g4⟩ := hagree c
  obtain ⟨e0, e1, e2, e3, rest⟩ := h c
  exact ⟨e0.trans ((Cert.Reference10Ideal.Read.val_main_v55_eq m' c).trans (by rw [g0, g1, g2, g3, g4]; exact Cert.Reference10Ideal.Loss.ref5 _ _ _ _ _)),
    e1.trans ((Cert.Reference10Ideal.Read.val_main_v56_eq m' c).trans (by rw [g0, g1, g2, g3, g4]; exact Cert.Reference10Ideal.Loss.ref6 _ _ _ _ _)),
    e2.trans ((Cert.Reference10Ideal.Read.val_main_v73_eq _ _ _ _ _).trans (by rw [g0, g1, g2, g3, g4]; exact Cert.Reference10Ideal.Loss.ref7 _ _ _ _ _)),
    e3.trans ((Cert.Reference10Ideal.Read.val_main_v74_eq _ _ _ _ _).trans (by rw [g0, g1, g2, g3, g4]; exact Cert.Reference10Ideal.Loss.ref8 _ _ _ _ _)),
    rest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Reference3Ideal.Gen.facts,
  Cert.Kernel3.Gen.facts, Cert.Kernel3Ideal.Gen.facts, Cert.Reference4Ideal.Gen.facts,
  Cert.Kernel4.Gen.facts, Cert.Kernel4Ideal.Gen.facts, Cert.Reference5Ideal.Gen.facts,
  Cert.Kernel5.Gen.facts, Cert.Kernel5Ideal.Gen.facts, Cert.Reference6Ideal.Gen.facts,
  Cert.Kernel6.Gen.facts, Cert.Kernel6Ideal.Gen.facts, Cert.Reference7Ideal.Gen.facts,
  Cert.Kernel7.Gen.facts, Cert.Kernel7Ideal.Gen.facts, Cert.Reference8Ideal.Gen.facts,
  Cert.Kernel8.Gen.facts, Cert.Kernel8Ideal.Gen.facts, Cert.Reference9Ideal.Gen.facts,
  Cert.Kernel9.Gen.facts, Cert.Kernel9Ideal.Gen.facts, Cert.Reference10Ideal.Gen.facts,
  Cert.Pre_finite.Gen.facts, Cert.Pre_finite3.Gen.facts,
  fun m ρ _ => Cert.Kernel.Gen.frame m ρ, fun m ρ _ => Cert.KernelIdeal.Gen.frame m ρ, fun m ρ _ => Cert.KernelIdeal.Gen.frame m ρ,
  mix_reference, fun m ρ _ => mix_reference m ρ trivial,
  fun m ρ _ => Cert.Kernel2.Gen.frame m ρ, fun m ρ _ => Cert.Kernel2Ideal.Gen.frame m ρ, down_reference, up_reference,
  fun m ρ _ => Cert.Kernel3.Gen.frame m ρ, fun m ρ _ => Cert.Kernel3Ideal.Gen.frame m ρ, fun m ρ _ => Cert.Kernel3Ideal.Gen.frame m ρ,
  ffn_reference, fun m ρ _ => ffn_reference m ρ trivial,
  fun m ρ _ => Cert.Kernel4.Gen.frame m ρ, fun m ρ _ => Cert.Kernel4Ideal.Gen.frame m ρ, groups_reference,
  fun m ρ _ => Cert.Kernel5.Gen.frame m ρ, fun m ρ _ => Cert.Kernel5Ideal.Gen.frame m ρ, attn_out_reference,
  fun m ρ _ => Cert.Kernel6.Gen.frame m ρ, fun m ρ _ => Cert.Kernel6Ideal.Gen.frame m ρ, attn_in_reference,
  fun m ρ _ => Cert.Kernel7.Gen.frame m ρ, fun m ρ _ => Cert.Kernel7Ideal.Gen.frame m ρ, qkv_reference,
  fun m ρ _ => Cert.Kernel8.Gen.frame m ρ, fun m ρ _ => Cert.Kernel8Ideal.Gen.frame m ρ, next_reference,
  fun m ρ _ => Cert.Kernel9.Gen.frame m ρ, fun m ρ _ => Cert.Kernel9Ideal.Gen.frame m ρ, loss_reference,
  trivial, mix_algebraic, trivial, down_algebraic, up_algebraic, trivial, ffn_algebraic,
  trivial, groups_algebraic, trivial, attn_out_algebraic, trivial, attn_in_algebraic, trivial, qkv_algebraic, trivial, next_algebraic, trivial, loss_algebraic⟩

end Cert.Proof

end
